-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_clear_neighbours [hPre_clear_neighbours : Cert.Pre_clear_neighbours.Facts] (m : (ℓ : Loc Cert.KernelIdeal.nD Cert.KernelIdeal.τ Cert.KernelIdeal.sig) → Buf (Elt Ideal) ℓ) : Prop :=
  ∀ c : Dev Cert.KernelIdeal.nD,
    (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2.2.2.2.1 = (fun _ => 1#1)
    ∧ (Cert.Pre_clear_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2.2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_clear_neighbours [hPre_clear_neighbours : Cert.Pre_clear_neighbours.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2.2.2.2.1 = (fun _ => 1#1)
    ∧ (Cert.Pre_clear_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2.2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_clear_neighbours [hKernelIdeal : Cert.KernelIdeal.Facts] [hPre_clear_neighbours : Cert.Pre_clear_neighbours.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_clear_neighbours m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_clear_neighbours [hReferenceIdeal : Cert.ReferenceIdeal.Facts] [hPre_clear_neighbours : Cert.Pre_clear_neighbours.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_clear_neighbours m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "log2e_over_8" .f32 0x3E38AA3B#32 (((Real.log 2)⁻¹ * (1 / 8) : ℝ) : EReal)
  ∧ IdealRules.named_const.Statement Cert.KernelIdeal.κ "gelu_cubic" .bf16 0x3D37#16 ((12003091 / 268435456 : ℝ) : EReal)
  ∧ IdealRules.named_const.Statement Cert.KernelIdeal.κ "sqrt_2_over_pi" .bf16 0x3F4C#16 ((6693141 / 8388608 : ℝ) : EReal)

def algebraic_KernelIdeal_ReferenceIdeal_pre_clear_neighbours [hKernelIdeal : Cert.KernelIdeal.Facts] [hReferenceIdeal : Cert.ReferenceIdeal.Facts] [hPre_clear_neighbours : Cert.Pre_clear_neighbours.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_clear_neighbours m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v365) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_clear_neighbours : Cert.Pre_clear_neighbours.Facts),
    quiescent_Kernel (hKernel := hKernel)
    ∧ quiescent_KernelIdeal (hKernelIdeal := hKernelIdeal)
    ∧ quiescent_KernelIdeal_pre_clear_neighbours (hKernelIdeal := hKernelIdeal) (hPre_clear_neighbours := hPre_clear_neighbours)
    ∧ quiescent_ReferenceIdeal (hReferenceIdeal := hReferenceIdeal)
    ∧ quiescent_ReferenceIdeal_pre_clear_neighbours (hReferenceIdeal := hReferenceIdeal) (hPre_clear_neighbours := hPre_clear_neighbours)
    ∧ preserves_Kernel_KernelIdeal
    ∧ algebraic_KernelIdeal_ReferenceIdeal_pre_clear_neighbours (hKernelIdeal := hKernelIdeal) (hReferenceIdeal := hReferenceIdeal) (hPre_clear_neighbours := hPre_clear_neighbours)
-- ==== Pre_clear_neighbours.lean ====
abbrev S8x512x256 : Shape := ⟨3, ![8, 512, 256]⟩
abbrev S8x2048x256 : Shape := ⟨3, ![8, 2048, 256]⟩
abbrev S4x256x256 : Shape := ⟨3, ![4, 256, 256]⟩
abbrev S3x256x1024 : Shape := ⟨3, ![3, 256, 1024]⟩
abbrev S3x1024 : Shape := ⟨2, ![3, 1024]⟩
abbrev S3x1024x256 : Shape := ⟨3, ![3, 1024, 256]⟩
abbrev S3x256 : Shape := ⟨2, ![3, 256]⟩
abbrev S4 : Shape := ⟨1, ![4]⟩
abbrev S_ : Shape := ⟨0, ![]⟩
abbrev S8x512 : Shape := ⟨2, ![8, 512]⟩
abbrev S8x512x1 : Shape := ⟨3, ![8, 512, 1]⟩
abbrev S8x512x2048 : Shape := ⟨3, ![8, 512, 2048]⟩
abbrev S8x2048 : Shape := ⟨2, ![8, 2048]⟩
abbrev S8x1x2048 : Shape := ⟨3, ![8, 1, 2048]⟩
abbrev S8x512x17 : Shape := ⟨3, ![8, 512, 17]⟩
abbrev S8x512x16 : Shape := ⟨3, ![8, 512, 16]⟩
abbrev S1 : Shape := ⟨1, ![1]⟩
abbrev S1x256x256 : Shape := ⟨3, ![1, 256, 256]⟩
abbrev S256x256 : Shape := ⟨2, ![256, 256]⟩
abbrev S8x512x16x1 : Shape := ⟨4, ![8, 512, 16, 1]⟩
abbrev S8x512x16x256 : Shape := ⟨4, ![8, 512, 16, 256]⟩
abbrev S8x512x4x64 : Shape := ⟨4, ![8, 512, 4, 64]⟩
abbrev S8x512x16x4x64 : Shape := ⟨5, ![8, 512, 16, 4, 64]⟩
abbrev S8x512x4x16 : Shape := ⟨4, ![8, 512, 4, 16]⟩
abbrev S8x512x4 : Shape := ⟨3, ![8, 512, 4]⟩
abbrev S8x512x4x1 : Shape := ⟨4, ![8, 512, 4, 1]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S1x1024x256 : Shape := ⟨3, ![1, 1024, 256]⟩
abbrev S1024x256 : Shape := ⟨2, ![1024, 256]⟩
abbrev S1x256 : Shape := ⟨2, ![1, 256]⟩
abbrev S256 : Shape := ⟨1, ![256]⟩
abbrev S8x512x1024 : Shape := ⟨3, ![8, 512, 1024]⟩
abbrev S1x1x1024 : Shape := ⟨3, ![1, 1, 1024]⟩
abbrev S1x1x256 : Shape := ⟨3, ![1, 1, 256]⟩

class Facts : Prop where
  bcast_S_S8x512x256 : S_.BroadcastsInDim S8x512x256 (![] : Fin 0 → Fin S8x512x256.rank)
  reducesTo_S8x512x256_S_d0_1_2 : S8x512x256.ReducesTo [0, 1, 2] S_
  h_S_ : 0 < S_.numel
  bcast_S_S8x2048x256 : S_.BroadcastsInDim S8x2048x256 (![] : Fin 0 → Fin S8x2048x256.rank)
  reducesTo_S8x2048x256_S_d0_1_2 : S8x2048x256.ReducesTo [0, 1, 2] S_
  bcast_S_S4x256x256 : S_.BroadcastsInDim S4x256x256 (![] : Fin 0 → Fin S4x256x256.rank)
  reducesTo_S4x256x256_S_d0_1_2 : S4x256x256.ReducesTo [0, 1, 2] S_
  bcast_S_S3x256x1024 : S_.BroadcastsInDim S3x256x1024 (![] : Fin 0 → Fin S3x256x1024.rank)
  reducesTo_S3x256x1024_S_d0_1_2 : S3x256x1024.ReducesTo [0, 1, 2] S_
  bcast_S_S3x1024 : S_.BroadcastsInDim S3x1024 (![] : Fin 0 → Fin S3x1024.rank)
  reducesTo_S3x1024_S_d0_1 : S3x1024.ReducesTo [0, 1] S_
  bcast_S_S3x1024x256 : S_.BroadcastsInDim S3x1024x256 (![] : Fin 0 → Fin S3x1024x256.rank)
  reducesTo_S3x1024x256_S_d0_1_2 : S3x1024x256.ReducesTo [0, 1, 2] S_
  bcast_S_S3x256 : S_.BroadcastsInDim S3x256 (![] : Fin 0 → Fin S3x256.rank)
  reducesTo_S3x256_S_d0_1 : S3x256.ReducesTo [0, 1] S_
  bcast_S_S4 : S_.BroadcastsInDim S4 (![] : Fin 0 → Fin S4.rank)
  reducesTo_S4_S_d0 : S4.ReducesTo [0] S_
  reducesTo_S8x512x256_S8x512_d2 : S8x512x256.ReducesTo [2] S8x512
  bcast_S8x512_S8x512x1_0_1 : S8x512.BroadcastsInDim S8x512x1 (![0, 1] : Fin 2 → Fin S8x512x1.rank)
  bcast_S_S8x512x2048 : S_.BroadcastsInDim S8x512x2048 (![] : Fin 0 → Fin S8x512x2048.rank)
  bcast_S8x512x1_S8x512x2048_0_1_2 : S8x512x1.BroadcastsInDim S8x512x2048 (![0, 1, 2] : Fin 3 → Fin S8x512x2048.rank)
  reducesTo_S8x2048x256_S8x2048_d2 : S8x2048x256.ReducesTo [2] S8x2048
  bcast_S8x2048_S8x1x2048_0_2 : S8x2048.BroadcastsInDim S8x1x2048 (![0, 2] : Fin 2 → Fin S8x1x2048.rank)
  bcast_S8x1x2048_S8x512x2048_0_1_2 : S8x1x2048.BroadcastsInDim S8x512x2048 (![0, 1, 2] : Fin 3 → Fin S8x512x2048.rank)
  sliceFits_S8x512x2048_S8x512x17 : S8x512x2048.Slices (fun _ => 0) S8x512x17
  slices_S8x512x17_S8x512x1_0_0_15 : S8x512x17.Slices ![0, 0, 15] S8x512x1
  shapeCasts_S8x512x1_S8x512 : S8x512x1.ShapeCasts S8x512
  slices_S8x512x17_S8x512x1_0_0_16 : S8x512x17.Slices ![0, 0, 16] S8x512x1
  sliceFits_S8x512x2048_S8x512x16 : S8x512x2048.Slices (fun _ => 0) S8x512x16
  slices_S4_S1_0 : S4.Slices ![0] S1
  shapeCasts_S1_S_ : S1.ShapeCasts S_
  slices_S4x256x256_S1x256x256_0_0_0 : S4x256x256.Slices ![0, 0, 0] S1x256x256
  shapeCasts_S1x256x256_S256x256 : S1x256x256.ShapeCasts S256x256
  bcast_S_S8x512x16 : S_.BroadcastsInDim S8x512x16 (![] : Fin 0 → Fin S8x512x16.rank)
  bcast_S8x512x16_S8x512x16x1_0_1_2 : S8x512x16.BroadcastsInDim S8x512x16x1 (![0, 1, 2] : Fin 3 → Fin S8x512x16x1.rank)
  shapeCasts_S8x512x256_S8x512x4x64 : S8x512x256.ShapeCasts S8x512x4x64
  shapeCasts_S8x512x16x256_S8x512x16x4x64 : S8x512x16x256.ShapeCasts S8x512x16x4x64
  bcast_S_S8x512x4x16 : S_.BroadcastsInDim S8x512x4x16 (![] : Fin 0 → Fin S8x512x4x16.rank)
  reducesTo_S8x512x4x16_S8x512x4_d3 : S8x512x4x16.ReducesTo [3] S8x512x4
  bcast_S_S8x512x4 : S_.BroadcastsInDim S8x512x4 (![] : Fin 0 → Fin S8x512x4.rank)
  bcast_S8x512x4_S8x512x4x1_0_1_2 : S8x512x4.BroadcastsInDim S8x512x4x1 (![0, 1, 2] : Fin 3 → Fin S8x512x4x1.rank)
  bcast_S8x512x4x1_S8x512x4x16_0_1_2_3 : S8x512x4x1.BroadcastsInDim S8x512x4x16 (![0, 1, 2, 3] : Fin 4 → Fin S8x512x4x16.rank)
  shapeCasts_S8x512x4x64_S8x512x256 : S8x512x4x64.ShapeCasts S8x512x256
  slices_S4_S1_1 : S4.Slices ![1] S1
  slices_S4x256x256_S1x256x256_1_0_0 : S4x256x256.Slices ![1, 0, 0] S1x256x256
  slices_S3x256x1024_S1x256x1024_0_0_0 : S3x256x1024.Slices ![0, 0, 0] S1x256x1024
  shapeCasts_S1x256x1024_S256x1024 : S1x256x1024.ShapeCasts S256x1024
  slices_S3x1024_S1x1024_0_0 : S3x1024.Slices ![0, 0] S1x1024
  shapeCasts_S1x1024_S1024 : S1x1024.ShapeCasts S1024
  slices_S3x1024x256_S1x1024x256_0_0_0 : S3x1024x256.Slices ![0, 0, 0] S1x1024x256
  shapeCasts_S1x1024x256_S1024x256 : S1x1024x256.ShapeCasts S1024x256
  slices_S3x256_S1x256_0_0 : S3x256.Slices ![0, 0] S1x256
  shapeCasts_S1x256_S256 : S1x256.ShapeCasts S256
  bcast_S1024_S1x1x1024_2 : S1024.BroadcastsInDim S1x1x1024 (![2] : Fin 1 → Fin S1x1x1024.rank)
  bcast_S1x1x1024_S8x512x1024_0_1_2 : S1x1x1024.BroadcastsInDim S8x512x1024 (![0, 1, 2] : Fin 3 → Fin S8x512x1024.rank)
  bcast_S_S8x512x1024 : S_.BroadcastsInDim S8x512x1024 (![] : Fin 0 → Fin S8x512x1024.rank)
  bcast_S256_S1x1x256_2 : S256.BroadcastsInDim S1x1x256 (![2] : Fin 1 → Fin S1x1x256.rank)
  bcast_S1x1x256_S8x512x256_0_1_2 : S1x1x256.BroadcastsInDim S8x512x256 (![0, 1, 2] : Fin 3 → Fin S8x512x256.rank)
  slices_S4_S1_2 : S4.Slices ![2] S1
  slices_S4x256x256_S1x256x256_2_0_0 : S4x256x256.Slices ![2, 0, 0] S1x256x256
  slices_S3x256x1024_S1x256x1024_1_0_0 : S3x256x1024.Slices ![1, 0, 0] S1x256x1024
  slices_S3x1024_S1x1024_1_0 : S3x1024.Slices ![1, 0] S1x1024
  slices_S3x1024x256_S1x1024x256_1_0_0 : S3x1024x256.Slices ![1, 0, 0] S1x1024x256
  slices_S3x256_S1x256_1_0 : S3x256.Slices ![1, 0] S1x256
  slices_S4_S1_3 : S4.Slices ![3] S1
  slices_S4x256x256_S1x256x256_3_0_0 : S4x256x256.Slices ![3, 0, 0] S1x256x256
  slices_S3x256x1024_S1x256x1024_2_0_0 : S3x256x1024.Slices ![2, 0, 0] S1x256x1024
  slices_S3x1024_S1x1024_2_0 : S3x1024.Slices ![2, 0] S1x1024
  slices_S3x1024x256_S1x1024x256_2_0_0 : S3x1024x256.Slices ![2, 0, 0] S1x1024x256
  slices_S3x256_S1x256_2_0 : S3x256.Slices ![2, 0] S1x256
  dot_S8x512x256_S8x2048x256_S8x512x2048_2_2_1_1_0_0_wf : DotDims.WF S8x512x256 S8x2048x256 S8x512x2048 [2] [2] [1] [1] [0] [0]
  dot_S8x512x256_S256x256_S8x512x256_2_0_01_1_n_n_wf : DotDims.WF S8x512x256 S256x256 S8x512x256 [2] [0] [0, 1] [1] [] []
  dot_S8x2048x256_S256x256_S8x2048x256_2_0_01_1_n_n_wf : DotDims.WF S8x2048x256 S256x256 S8x2048x256 [2] [0] [0, 1] [1] [] []
  gather_S8x2048x256_S8x512x16x1_S8x512x16x256_3_1_0_0_1_3_11256_wf : GatherDims.WF S8x2048x256 S8x512x16x1 S8x512x16x256 [3] [1] [0] [1] [0] 3 ![1, 1, 256]
  dot_S8x512x4x64_S8x512x16x4x64_S8x512x4x16_3_4_n_2_012_013_wf : DotDims.WF S8x512x4x64 S8x512x16x4x64 S8x512x4x16 [3] [4] [] [2] [0, 1, 2] [0, 1, 3]
  dot_S8x512x4x16_S8x512x16x4x64_S8x512x4x64_3_2_n_4_012_013_wf : DotDims.WF S8x512x4x16 S8x512x16x4x64 S8x512x4x64 [3] [2] [] [4] [0, 1, 2] [0, 1, 3]
  dot_S8x512x256_S256x1024_S8x512x1024_2_0_01_1_n_n_wf : DotDims.WF S8x512x256 S256x1024 S8x512x1024 [2] [0] [0, 1] [1] [] []
  dot_S8x512x1024_S1024x256_S8x512x256_2_0_01_1_n_n_wf : DotDims.WF S8x512x1024 S1024x256 S8x512x256 [2] [0] [0, 1] [1] [] []

variable [Facts]

def dot_S8x512x256_S8x2048x256_S8x512x2048_2_2_1_1_0_0 : DotDims S8x512x256 S8x2048x256 S8x512x2048 where
  lhsContracting := [2]
  rhsContracting := [2]
  lhsNonContracting := [1]
  rhsNonContracting := [1]
  lhsBatch := [0]
  rhsBatch := [0]
  wf := dot_S8x512x256_S8x2048x256_S8x512x2048_2_2_1_1_0_0_wf
def dot_S8x512x256_S256x256_S8x512x256_2_0_01_1_n_n : DotDims S8x512x256 S256x256 S8x512x256 where
  lhsContracting := [2]
  rhsContracting := [0]
  lhsNonContracting := [0, 1]
  rhsNonContracting := [1]
  lhsBatch := []
  rhsBatch := []
  wf := dot_S8x512x256_S256x256_S8x512x256_2_0_01_1_n_n_wf
def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def gather_S8x2048x256_S8x512x16x1_S8x512x16x256_3_1_0_0_1_3_11256 : GatherDims S8x2048x256 S8x512x16x1 S8x512x16x256 where
  offsetDims := [3]
  collapsedSliceDims := [1]
  operandBatchingDims := [0]
  startIndicesBatchingDims := [0]
  startIndexMap := [1]
  indexVectorDim := 3
  sliceSizes := ![1, 1, 256]
  wf := gather_S8x2048x256_S8x512x16x1_S8x512x16x256_3_1_0_0_1_3_11256_wf
def dot_S8x512x4x64_S8x512x16x4x64_S8x512x4x16_3_4_n_2_012_013 : DotDims S8x512x4x64 S8x512x16x4x64 S8x512x4x16 where
  lhsContracting := [3]
  rhsContracting := [4]
  lhsNonContracting := []
  rhsNonContracting := [2]
  lhsBatch := [0, 1, 2]
  rhsBatch := [0, 1, 3]
  wf := dot_S8x512x4x64_S8x512x16x4x64_S8x512x4x16_3_4_n_2_012_013_wf
def dot_S8x512x4x16_S8x512x16x4x64_S8x512x4x64_3_2_n_4_012_013 : DotDims S8x512x4x16 S8x512x16x4x64 S8x512x4x64 where
  lhsContracting := [3]
  rhsContracting := [2]
  lhsNonContracting := []
  rhsNonContracting := [4]
  lhsBatch := [0, 1, 2]
  rhsBatch := [0, 1, 3]
  wf := dot_S8x512x4x16_S8x512x16x4x64_S8x512x4x64_3_2_n_4_012_013_wf
def dot_S8x512x256_S256x1024_S8x512x1024_2_0_01_1_n_n : DotDims S8x512x256 S256x1024 S8x512x1024 where
  lhsContracting := [2]
  rhsContracting := [0]
  lhsNonContracting := [0, 1]
  rhsNonContracting := [1]
  lhsBatch := []
  rhsBatch := []
  wf := dot_S8x512x256_S256x1024_S8x512x1024_2_0_01_1_n_n_wf
def dot_S8x512x1024_S1024x256_S8x512x256_2_0_01_1_n_n : DotDims S8x512x1024 S1024x256 S8x512x256 where
  lhsContracting := [2]
  rhsContracting := [0]
  lhsNonContracting := [0, 1]
  rhsNonContracting := [1]
  lhsBatch := []
  rhsBatch := []
  wf := dot_S8x512x1024_S1024x256_S8x512x256_2_0_01_1_n_n_wf
def fn_part24 {F : FTy → Type} [FloatOps F] (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v147 : IVec S8x512 1) (main_v266 : IVec S8x512 1) (main_v385 : IVec S8x512 1) (main_v451 : FVec F S8x512x256 .f32) (main_v453 : FVec F S_ .f32) (main_v459 : FVec F S1024x256 .f32) (main_v461 : FVec F S256 .f32) (main_v465 : FVec F S8x512x1024 .f32) (main_v470 : FVec F S8x512x1024 .f32) (main_v471 : FVec F S8x512x1024 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v472 : FVec F S8x512x1024 .f32 := mulf main_v471 main_v470
  let main_v473 : FVec F S8x512x1024 .f32 := Host.tanh main_v472
  let main_cst_100 : FVec F S_ .f32 := constant S_ .f32 0x3F800000#32
  let main_v474 : FVec F S8x512x1024 .f32 := broadcastInDim S8x512x1024 ![] bcast_S_S8x512x1024 main_cst_100
  let main_v475 : FVec F S8x512x1024 .f32 := addf main_v474 main_v473
  let main_cst_101 : FVec F S_ .f32 := constant S_ .f32 0x3F000000#32
  let main_v476 : FVec F S8x512x1024 .f32 := broadcastInDim S8x512x1024 ![] bcast_S_S8x512x1024 main_cst_101
  let main_v477 : FVec F S8x512x1024 .f32 := mulf main_v476 main_v475
  let main_v478 : FVec F S8x512x1024 .f32 := mulf main_v465 main_v477
  let main_v479 : FVec F S8x512x256 .f32 := (fun l r => Host.dotGeneral dot_S8x512x1024_S1024x256_S8x512x256_2_0_01_1_n_n none l r) main_v478 main_v459
  let main_v480 : FVec F S1x1x256 .f32 := broadcastInDim S1x1x256 ![2] bcast_S256_S1x1x256_2 main_v461
  let main_v481 : FVec F S8x512x256 .f32 := broadcastInDim S8x512x256 ![0, 1, 2] bcast_S1x1x256_S8x512x256_0_1_2 main_v480
  let main_v482 : FVec F S8x512x256 .f32 := addf main_v479 main_v481
  let main_v483 : FVec F S8x512x256 .f32 := broadcastInDim S8x512x256 ![] bcast_S_S8x512x256 main_v453
  let main_v484 : FVec F S8x512x256 .f32 := mulf main_v483 main_v482
  let main_v485 : FVec F S8x512x256 .f32 := addf main_v451 main_v484
  (main_v3, main_v7, main_v11, main_v15, main_v19, main_v23, main_v27, main_v31, main_v35, main_v39, main_v43, main_v62, main_v147, main_v266, main_v385)

def fn_part23 {F : FTy → Type} [FloatOps F] (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v147 : IVec S8x512 1) (main_v266 : IVec S8x512 1) (main_v366 : FVec F S8x512x256 .f32) (main_v385 : IVec S8x512 1) (main_v448 : FVec F S8x512x256 .f32) (main_v449 : FVec F S8x512x256 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v450 : FVec F S8x512x256 .f32 := mulf main_v449 main_v448
  let main_v451 : FVec F S8x512x256 .f32 := addf main_v366 main_v450
  let main_v452 : FVec F S1 .f32 := (extractStridedSlice S1 ![3] · slices_S4_S1_3) main_arg10
  let main_v453 : FVec F S_ .f32 := shapeCast S_ main_v452 shapeCasts_S1_S_
  let main_v454 : FVec F S1x256x1024 .f32 := (extractStridedSlice S1x256x1024 ![2, 0, 0] · slices_S3x256x1024_S1x256x1024_2_0_0) main_arg6
  let main_v455 : FVec F S256x1024 .f32 := shapeCast S256x1024 main_v454 shapeCasts_S1x256x1024_S256x1024
  let main_v456 : FVec F S1x1024 .f32 := (extractStridedSlice S1x1024 ![2, 0] · slices_S3x1024_S1x1024_2_0) main_arg7
  let main_v457 : FVec F S1024 .f32 := shapeCast S1024 main_v456 shapeCasts_S1x1024_S1024
  let main_v458 : FVec F S1x1024x256 .f32 := (extractStridedSlice S1x1024x256 ![2, 0, 0] · slices_S3x1024x256_S1x1024x256_2_0_0) main_arg8
  let main_v459 : FVec F S1024x256 .f32 := shapeCast S1024x256 main_v458 shapeCasts_S1x1024x256_S1024x256
  let main_v460 : FVec F S1x256 .f32 := (extractStridedSlice S1x256 ![2, 0] · slices_S3x256_S1x256_2_0) main_arg9
  let main_v461 : FVec F S256 .f32 := shapeCast S256 main_v460 shapeCasts_S1x256_S256
  let main_v462 : FVec F S8x512x1024 .f32 := (fun l r => Host.dotGeneral dot_S8x512x256_S256x1024_S8x512x1024_2_0_01_1_n_n none l r) main_v451 main_v455
  let main_v463 : FVec F S1x1x1024 .f32 := broadcastInDim S1x1x1024 ![2] bcast_S1024_S1x1x1024_2 main_v457
  let main_v464 : FVec F S8x512x1024 .f32 := broadcastInDim S8x512x1024 ![0, 1, 2] bcast_S1x1x1024_S8x512x1024_0_1_2 main_v463
  let main_v465 : FVec F S8x512x1024 .f32 := addf main_v462 main_v464
  let main_v466 : FVec F S8x512x1024 .f32 := mulf main_v465 main_v465
  let main_v467 : FVec F S8x512x1024 .f32 := mulf main_v466 main_v465
  let main_cst_98 : FVec F S_ .f32 := constant S_ .f32 0x3D372713#32
  let main_v468 : FVec F S8x512x1024 .f32 := broadcastInDim S8x512x1024 ![] bcast_S_S8x512x1024 main_cst_98
  let main_v469 : FVec F S8x512x1024 .f32 := mulf main_v468 main_v467
  let main_v470 : FVec F S8x512x1024 .f32 := addf main_v465 main_v469
  let main_cst_99 : FVec F S_ .f32 := constant S_ .f32 0x3F4C422A#32
  let main_v471 : FVec F S8x512x1024 .f32 := broadcastInDim S8x512x1024 ![] bcast_S_S8x512x1024 main_cst_99
  fn_part24 (F := F) main_v3 main_v7 main_v11 main_v15 main_v19 main_v23 main_v27 main_v31 main_v35 main_v39 main_v43 main_v62 main_v147 main_v266 main_v385 main_v451 main_v453 main_v459 main_v461 main_v465 main_v470 main_v471

def fn_part22 {F : FTy → Type} [FloatOps F] (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v147 : IVec S8x512 1) (main_v266 : IVec S8x512 1) (main_v366 : FVec F S8x512x256 .f32) (main_v385 : IVec S8x512 1) (main_v401 : FVec F S_ .f32) (main_v409 : FVec F S256x256 .f32) (main_v427 : FVec F S8x512x4x64 .f32) (main_v428 : FVec F S8x512x16x4x64 .f32) (main_v429 : FVec F S8x512x16x4x64 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v430 : FVec F S8x512x4x16 .f32 := (fun l r => Host.dotGeneral dot_S8x512x4x64_S8x512x16x4x64_S8x512x4x16_3_4_n_2_012_013 none l r) main_v427 main_v428
  let main_cst_94 : FVec F S_ .f32 := constant S_ .f32 0x42800000#32
  let main_v431 : FVec F S_ .f32 := Host.sqrt main_cst_94
  let main_v432 : FVec F S_ .f32 := id main_v431
  let main_v433 : FVec F S8x512x4x16 .f32 := broadcastInDim S8x512x4x16 ![] bcast_S_S8x512x4x16 main_v432
  let main_v434 : FVec F S8x512x4x16 .f32 := Host.divf main_v430 main_v433
  let main_cst_95 : FVec F S_ .f32 := constant S_ .f32 0xFF800000#32
  let main_v435 : FVec F S8x512x4 .f32 := (fun x v => Host.reduce FloatOps.maximumf x v reducesTo_S8x512x4x16_S8x512x4_d3 h_S_) main_v434 main_cst_95
  let main_cst_96 : FVec F S_ .f32 := constant S_ .f32 0xFF800000#32
  let main_v436 : FVec F S8x512x4 .f32 := broadcastInDim S8x512x4 ![] bcast_S_S8x512x4 main_cst_96
  let main_v437 : FVec F S8x512x4 .f32 := maximumf main_v436 main_v435
  let main_v438 : FVec F S8x512x4x1 .f32 := broadcastInDim S8x512x4x1 ![0, 1, 2] bcast_S8x512x4_S8x512x4x1_0_1_2 main_v437
  let main_v439 : FVec F S8x512x4x16 .f32 := broadcastInDim S8x512x4x16 ![0, 1, 2, 3] bcast_S8x512x4x1_S8x512x4x16_0_1_2_3 main_v438
  let main_v440 : FVec F S8x512x4x16 .f32 := subf main_v434 main_v439
  let main_v441 : FVec F S8x512x4x16 .f32 := Host.exp main_v440
  let main_cst_97 : FVec F S_ .f32 := constant S_ .f32 0x00000000#32
  let main_v442 : FVec F S8x512x4 .f32 := (fun x v => Host.reduceAdd x v reducesTo_S8x512x4x16_S8x512x4_d3 h_S_) main_v441 main_cst_97
  let main_v443 : FVec F S8x512x4x1 .f32 := broadcastInDim S8x512x4x1 ![0, 1, 2] bcast_S8x512x4_S8x512x4x1_0_1_2 main_v442
  let main_v444 : FVec F S8x512x4x16 .f32 := broadcastInDim S8x512x4x16 ![0, 1, 2, 3] bcast_S8x512x4x1_S8x512x4x16_0_1_2_3 main_v443
  let main_v445 : FVec F S8x512x4x16 .f32 := Host.divf main_v441 main_v444
  let main_v446 : FVec F S8x512x4x64 .f32 := (fun l r => Host.dotGeneral dot_S8x512x4x16_S8x512x16x4x64_S8x512x4x64_3_2_n_4_012_013 none l r) main_v445 main_v429
  let main_v447 : FVec F S8x512x256 .f32 := shapeCast S8x512x256 main_v446 shapeCasts_S8x512x4x64_S8x512x256
  let main_v448 : FVec F S8x512x256 .f32 := (fun l r => Host.dotGeneral dot_S8x512x256_S256x256_S8x512x256_2_0_01_1_n_n none l r) main_v447 main_v409
  let main_v449 : FVec F S8x512x256 .f32 := broadcastInDim S8x512x256 ![] bcast_S_S8x512x256 main_v401
  fn_part23 (F := F) main_arg6 main_arg7 main_arg8 main_arg9 main_arg10 main_v3 main_v7 main_v11 main_v15 main_v19 main_v23 main_v27 main_v31 main_v35 main_v39 main_v43 main_v62 main_v147 main_v266 main_v366 main_v385 main_v448 main_v449

def fn_part21 {F : FTy → Type} [FloatOps F] (main_arg1 : FVec F S8x2048x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v147 : IVec S8x512 1) (main_v266 : IVec S8x512 1) (main_v366 : FVec F S8x512x256 .f32) (main_v385 : IVec S8x512 1) (main_indices_89 : IVec S8x512x16 32) (main_v401 : FVec F S_ .f32) (main_v403 : FVec F S256x256 .f32) (main_v405 : FVec F S256x256 .f32) (main_v407 : FVec F S256x256 .f32) (main_v409 : FVec F S256x256 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v410 : FVec F S8x512x256 .f32 := (fun l r => Host.dotGeneral dot_S8x512x256_S256x256_S8x512x256_2_0_01_1_n_n none l r) main_v366 main_v403
  let main_v411 : FVec F S8x2048x256 .f32 := (fun l r => Host.dotGeneral dot_S8x2048x256_S256x256_S8x2048x256_2_0_01_1_n_n none l r) main_arg1 main_v405
  let main_v412 : FVec F S8x2048x256 .f32 := (fun l r => Host.dotGeneral dot_S8x2048x256_S256x256_S8x2048x256_2_0_01_1_n_n none l r) main_arg1 main_v407
  let main_c_90 : IVec S_ 32 := constantI S_ 32 0#32
  let main_v413 : IVec S8x512x16 32 := broadcastInDim S8x512x16 ![] bcast_S_S8x512x16 main_c_90
  let main_v414 : IVec S8x512x16 1 := cmpi .slt main_indices_89 main_v413
  let main_c_91 : IVec S_ 32 := constantI S_ 32 2048#32
  let main_v415 : IVec S8x512x16 32 := broadcastInDim S8x512x16 ![] bcast_S_S8x512x16 main_c_91
  let main_v416 : IVec S8x512x16 32 := addi main_indices_89 main_v415
  let main_v417 : IVec S8x512x16 32 := select main_v414 main_v416 main_indices_89
  let main_v418 : IVec S8x512x16x1 32 := broadcastInDim S8x512x16x1 ![0, 1, 2] bcast_S8x512x16_S8x512x16x1_0_1_2 main_v417
  let main_v419 : FVec F S8x512x16x256 .f32 := (fun x i => Host.gather gather_S8x2048x256_S8x512x16x1_S8x512x16x256_3_1_0_0_1_3_11256 x i) main_v411 main_v418
  let main_c_92 : IVec S_ 32 := constantI S_ 32 0#32
  let main_v420 : IVec S8x512x16 32 := broadcastInDim S8x512x16 ![] bcast_S_S8x512x16 main_c_92
  let main_v421 : IVec S8x512x16 1 := cmpi .slt main_indices_89 main_v420
  let main_c_93 : IVec S_ 32 := constantI S_ 32 2048#32
  let main_v422 : IVec S8x512x16 32 := broadcastInDim S8x512x16 ![] bcast_S_S8x512x16 main_c_93
  let main_v423 : IVec S8x512x16 32 := addi main_indices_89 main_v422
  let main_v424 : IVec S8x512x16 32 := select main_v421 main_v423 main_indices_89
  let main_v425 : IVec S8x512x16x1 32 := broadcastInDim S8x512x16x1 ![0, 1, 2] bcast_S8x512x16_S8x512x16x1_0_1_2 main_v424
  let main_v426 : FVec F S8x512x16x256 .f32 := (fun x i => Host.gather gather_S8x2048x256_S8x512x16x1_S8x512x16x256_3_1_0_0_1_3_11256 x i) main_v412 main_v425
  let main_v427 : FVec F S8x512x4x64 .f32 := shapeCast S8x512x4x64 main_v410 shapeCasts_S8x512x256_S8x512x4x64
  let main_v428 : FVec F S8x512x16x4x64 .f32 := shapeCast S8x512x16x4x64 main_v419 shapeCasts_S8x512x16x256_S8x512x16x4x64
  let main_v429 : FVec F S8x512x16x4x64 .f32 := shapeCast S8x512x16x4x64 main_v426 shapeCasts_S8x512x16x256_S8x512x16x4x64
  fn_part22 (F := F) main_arg6 main_arg7 main_arg8 main_arg9 main_arg10 main_v3 main_v7 main_v11 main_v15 main_v19 main_v23 main_v27 main_v31 main_v35 main_v39 main_v43 main_v62 main_v147 main_v266 main_v366 main_v385 main_v401 main_v409 main_v427 main_v428 main_v429

def fn_part20 {F : FTy → Type} [FloatOps F] (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v147 : IVec S8x512 1) (main_v266 : IVec S8x512 1) (main_v366 : FVec F S8x512x256 .f32) (main_v385 : IVec S8x512 1) (main_v388 : FVec F S8x512x1 .f32) (main_v389 : FVec F S8x512x2048 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_cst_86 : FVec F S_ .f32 := constant S_ .f32 0x40000000#32
  let main_v390 : FVec F S8x512x2048 .f32 := broadcastInDim S8x512x2048 ![] bcast_S_S8x512x2048 main_cst_86
  let main_v391 : FVec F S8x512x2048 .f32 := mulf main_v390 main_v389
  let main_v392 : FVec F S8x512x2048 .f32 := broadcastInDim S8x512x2048 ![0, 1, 2] bcast_S8x512x1_S8x512x2048_0_1_2 main_v388
  let main_v393 : FVec F S8x512x2048 .f32 := subf main_v392 main_v391
  let main_v394 : FVec F S8x2048x256 .f32 := mulf main_arg1 main_arg1
  let main_cst_87 : FVec F S_ .f32 := constant S_ .f32 0x00000000#32
  let main_v395 : FVec F S8x2048 .f32 := (fun x v => Host.reduceAdd x v reducesTo_S8x2048x256_S8x2048_d2 h_S_) main_v394 main_cst_87
  let main_v396 : FVec F S8x1x2048 .f32 := broadcastInDim S8x1x2048 ![0, 2] bcast_S8x2048_S8x1x2048_0_2 main_v395
  let main_v397 : FVec F S8x512x2048 .f32 := broadcastInDim S8x512x2048 ![0, 1, 2] bcast_S8x1x2048_S8x512x2048_0_1_2 main_v396
  let main_v398 : FVec F S8x512x2048 .f32 := addf main_v393 main_v397
  let main_v399 : FVec F S8x512x2048 .f32 := Host.negf main_v398
  let main_values_88 : FVec F S8x512x16 .f32 := (fun x => (Host.topK S8x512x16 2 (FloatOps.cmpfTotal .gt) x sliceFits_S8x512x2048_S8x512x16).1) main_v399
  let main_indices_89 : IVec S8x512x16 32 := (fun x => (Host.topK S8x512x16 2 (FloatOps.cmpfTotal .gt) x sliceFits_S8x512x2048_S8x512x16).2) main_v399
  let main_v400 : FVec F S1 .f32 := (extractStridedSlice S1 ![3] · slices_S4_S1_3) main_arg10
  let main_v401 : FVec F S_ .f32 := shapeCast S_ main_v400 shapeCasts_S1_S_
  let main_v402 : FVec F S1x256x256 .f32 := (extractStridedSlice S1x256x256 ![3, 0, 0] · slices_S4x256x256_S1x256x256_3_0_0) main_arg2
  let main_v403 : FVec F S256x256 .f32 := shapeCast S256x256 main_v402 shapeCasts_S1x256x256_S256x256
  let main_v404 : FVec F S1x256x256 .f32 := (extractStridedSlice S1x256x256 ![3, 0, 0] · slices_S4x256x256_S1x256x256_3_0_0) main_arg3
  let main_v405 : FVec F S256x256 .f32 := shapeCast S256x256 main_v404 shapeCasts_S1x256x256_S256x256
  let main_v406 : FVec F S1x256x256 .f32 := (extractStridedSlice S1x256x256 ![3, 0, 0] · slices_S4x256x256_S1x256x256_3_0_0) main_arg4
  let main_v407 : FVec F S256x256 .f32 := shapeCast S256x256 main_v406 shapeCasts_S1x256x256_S256x256
  let main_v408 : FVec F S1x256x256 .f32 := (extractStridedSlice S1x256x256 ![3, 0, 0] · slices_S4x256x256_S1x256x256_3_0_0) main_arg5
  let main_v409 : FVec F S256x256 .f32 := shapeCast S256x256 main_v408 shapeCasts_S1x256x256_S256x256
  fn_part21 (F := F) main_arg1 main_arg6 main_arg7 main_arg8 main_arg9 main_arg10 main_v3 main_v7 main_v11 main_v15 main_v19 main_v23 main_v27 main_v31 main_v35 main_v39 main_v43 main_v62 main_v147 main_v266 main_v366 main_v385 main_indices_89 main_v401 main_v403 main_v405 main_v407 main_v409

def fn_part19 {F : FTy → Type} [FloatOps F] (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v147 : IVec S8x512 1) (main_v266 : IVec S8x512 1) (main_v366 : FVec F S8x512x256 .f32) (main_v369 : FVec F S8x512x1 .f32) (main_v370 : FVec F S8x512x2048 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_cst_81 : FVec F S_ .f32 := constant S_ .f32 0x40000000#32
  let main_v371 : FVec F S8x512x2048 .f32 := broadcastInDim S8x512x2048 ![] bcast_S_S8x512x2048 main_cst_81
  let main_v372 : FVec F S8x512x2048 .f32 := mulf main_v371 main_v370
  let main_v373 : FVec F S8x512x2048 .f32 := broadcastInDim S8x512x2048 ![0, 1, 2] bcast_S8x512x1_S8x512x2048_0_1_2 main_v369
  let main_v374 : FVec F S8x512x2048 .f32 := subf main_v373 main_v372
  let main_v375 : FVec F S8x2048x256 .f32 := mulf main_arg1 main_arg1
  let main_cst_82 : FVec F S_ .f32 := constant S_ .f32 0x00000000#32
  let main_v376 : FVec F S8x2048 .f32 := (fun x v => Host.reduceAdd x v reducesTo_S8x2048x256_S8x2048_d2 h_S_) main_v375 main_cst_82
  let main_v377 : FVec F S8x1x2048 .f32 := broadcastInDim S8x1x2048 ![0, 2] bcast_S8x2048_S8x1x2048_0_2 main_v376
  let main_v378 : FVec F S8x512x2048 .f32 := broadcastInDim S8x512x2048 ![0, 1, 2] bcast_S8x1x2048_S8x512x2048_0_1_2 main_v377
  let main_v379 : FVec F S8x512x2048 .f32 := addf main_v374 main_v378
  let main_v380 : FVec F S8x512x2048 .f32 := Host.negf main_v379
  let main_values_83 : FVec F S8x512x17 .f32 := (fun x => (Host.topK S8x512x17 2 (FloatOps.cmpfTotal .gt) x sliceFits_S8x512x2048_S8x512x17).1) main_v380
  let main_indices_84 : IVec S8x512x17 32 := (fun x => (Host.topK S8x512x17 2 (FloatOps.cmpfTotal .gt) x sliceFits_S8x512x2048_S8x512x17).2) main_v380
  let main_v381 : FVec F S8x512x1 .f32 := (extractStridedSlice S8x512x1 ![0, 0, 15] · slices_S8x512x17_S8x512x1_0_0_15) main_values_83
  let main_v382 : FVec F S8x512 .f32 := shapeCast S8x512 main_v381 shapeCasts_S8x512x1_S8x512
  let main_v383 : FVec F S8x512x1 .f32 := (extractStridedSlice S8x512x1 ![0, 0, 16] · slices_S8x512x17_S8x512x1_0_0_16) main_values_83
  let main_v384 : FVec F S8x512 .f32 := shapeCast S8x512 main_v383 shapeCasts_S8x512x1_S8x512
  let main_v385 : IVec S8x512 1 := cmpf .ogt main_v382 main_v384
  let main_v386 : FVec F S8x512x256 .f32 := mulf main_v366 main_v366
  let main_cst_85 : FVec F S_ .f32 := constant S_ .f32 0x00000000#32
  let main_v387 : FVec F S8x512 .f32 := (fun x v => Host.reduceAdd x v reducesTo_S8x512x256_S8x512_d2 h_S_) main_v386 main_cst_85
  let main_v388 : FVec F S8x512x1 .f32 := broadcastInDim S8x512x1 ![0, 1] bcast_S8x512_S8x512x1_0_1 main_v387
  let main_v389 : FVec F S8x512x2048 .f32 := (fun l r => Host.dotGeneral dot_S8x512x256_S8x2048x256_S8x512x2048_2_2_1_1_0_0 none l r) main_v366 main_arg1
  fn_part20 (F := F) main_arg1 main_arg2 main_arg3 main_arg4 main_arg5 main_arg6 main_arg7 main_arg8 main_arg9 main_arg10 main_v3 main_v7 main_v11 main_v15 main_v19 main_v23 main_v27 main_v31 main_v35 main_v39 main_v43 main_v62 main_v147 main_v266 main_v366 main_v385 main_v388 main_v389

def fn_part18 {F : FTy → Type} [FloatOps F] (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v147 : IVec S8x512 1) (main_v266 : IVec S8x512 1) (main_v332 : FVec F S8x512x256 .f32) (main_v334 : FVec F S_ .f32) (main_v340 : FVec F S1024x256 .f32) (main_v342 : FVec F S256 .f32) (main_v346 : FVec F S8x512x1024 .f32) (main_v350 : FVec F S8x512x1024 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v351 : FVec F S8x512x1024 .f32 := addf main_v346 main_v350
  let main_cst_77 : FVec F S_ .f32 := constant S_ .f32 0x3F4C422A#32
  let main_v352 : FVec F S8x512x1024 .f32 := broadcastInDim S8x512x1024 ![] bcast_S_S8x512x1024 main_cst_77
  let main_v353 : FVec F S8x512x1024 .f32 := mulf main_v352 main_v351
  let main_v354 : FVec F S8x512x1024 .f32 := Host.tanh main_v353
  let main_cst_78 : FVec F S_ .f32 := constant S_ .f32 0x3F800000#32
  let main_v355 : FVec F S8x512x1024 .f32 := broadcastInDim S8x512x1024 ![] bcast_S_S8x512x1024 main_cst_78
  let main_v356 : FVec F S8x512x1024 .f32 := addf main_v355 main_v354
  let main_cst_79 : FVec F S_ .f32 := constant S_ .f32 0x3F000000#32
  let main_v357 : FVec F S8x512x1024 .f32 := broadcastInDim S8x512x1024 ![] bcast_S_S8x512x1024 main_cst_79
  let main_v358 : FVec F S8x512x1024 .f32 := mulf main_v357 main_v356
  let main_v359 : FVec F S8x512x1024 .f32 := mulf main_v346 main_v358
  let main_v360 : FVec F S8x512x256 .f32 := (fun l r => Host.dotGeneral dot_S8x512x1024_S1024x256_S8x512x256_2_0_01_1_n_n none l r) main_v359 main_v340
  let main_v361 : FVec F S1x1x256 .f32 := broadcastInDim S1x1x256 ![2] bcast_S256_S1x1x256_2 main_v342
  let main_v362 : FVec F S8x512x256 .f32 := broadcastInDim S8x512x256 ![0, 1, 2] bcast_S1x1x256_S8x512x256_0_1_2 main_v361
  let main_v363 : FVec F S8x512x256 .f32 := addf main_v360 main_v362
  let main_v364 : FVec F S8x512x256 .f32 := broadcastInDim S8x512x256 ![] bcast_S_S8x512x256 main_v334
  let main_v365 : FVec F S8x512x256 .f32 := mulf main_v364 main_v363
  let main_v366 : FVec F S8x512x256 .f32 := addf main_v332 main_v365
  let main_v367 : FVec F S8x512x256 .f32 := mulf main_v366 main_v366
  let main_cst_80 : FVec F S_ .f32 := constant S_ .f32 0x00000000#32
  let main_v368 : FVec F S8x512 .f32 := (fun x v => Host.reduceAdd x v reducesTo_S8x512x256_S8x512_d2 h_S_) main_v367 main_cst_80
  let main_v369 : FVec F S8x512x1 .f32 := broadcastInDim S8x512x1 ![0, 1] bcast_S8x512_S8x512x1_0_1 main_v368
  let main_v370 : FVec F S8x512x2048 .f32 := (fun l r => Host.dotGeneral dot_S8x512x256_S8x2048x256_S8x512x2048_2_2_1_1_0_0 none l r) main_v366 main_arg1
  fn_part19 (F := F) main_arg1 main_arg2 main_arg3 main_arg4 main_arg5 main_arg6 main_arg7 main_arg8 main_arg9 main_arg10 main_v3 main_v7 main_v11 main_v15 main_v19 main_v23 main_v27 main_v31 main_v35 main_v39 main_v43 main_v62 main_v147 main_v266 main_v366 main_v369 main_v370

def fn_part17 {F : FTy → Type} [FloatOps F] (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v147 : IVec S8x512 1) (main_v247 : FVec F S8x512x256 .f32) (main_v266 : IVec S8x512 1) (main_v282 : FVec F S_ .f32) (main_v290 : FVec F S256x256 .f32) (main_v327 : FVec F S8x512x4x64 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v328 : FVec F S8x512x256 .f32 := shapeCast S8x512x256 main_v327 shapeCasts_S8x512x4x64_S8x512x256
  let main_v329 : FVec F S8x512x256 .f32 := (fun l r => Host.dotGeneral dot_S8x512x256_S256x256_S8x512x256_2_0_01_1_n_n none l r) main_v328 main_v290
  let main_v330 : FVec F S8x512x256 .f32 := broadcastInDim S8x512x256 ![] bcast_S_S8x512x256 main_v282
  let main_v331 : FVec F S8x512x256 .f32 := mulf main_v330 main_v329
  let main_v332 : FVec F S8x512x256 .f32 := addf main_v247 main_v331
  let main_v333 : FVec F S1 .f32 := (extractStridedSlice S1 ![2] · slices_S4_S1_2) main_arg10
  let main_v334 : FVec F S_ .f32 := shapeCast S_ main_v333 shapeCasts_S1_S_
  let main_v335 : FVec F S1x256x1024 .f32 := (extractStridedSlice S1x256x1024 ![1, 0, 0] · slices_S3x256x1024_S1x256x1024_1_0_0) main_arg6
  let main_v336 : FVec F S256x1024 .f32 := shapeCast S256x1024 main_v335 shapeCasts_S1x256x1024_S256x1024
  let main_v337 : FVec F S1x1024 .f32 := (extractStridedSlice S1x1024 ![1, 0] · slices_S3x1024_S1x1024_1_0) main_arg7
  let main_v338 : FVec F S1024 .f32 := shapeCast S1024 main_v337 shapeCasts_S1x1024_S1024
  let main_v339 : FVec F S1x1024x256 .f32 := (extractStridedSlice S1x1024x256 ![1, 0, 0] · slices_S3x1024x256_S1x1024x256_1_0_0) main_arg8
  let main_v340 : FVec F S1024x256 .f32 := shapeCast S1024x256 main_v339 shapeCasts_S1x1024x256_S1024x256
  let main_v341 : FVec F S1x256 .f32 := (extractStridedSlice S1x256 ![1, 0] · slices_S3x256_S1x256_1_0) main_arg9
  let main_v342 : FVec F S256 .f32 := shapeCast S256 main_v341 shapeCasts_S1x256_S256
  let main_v343 : FVec F S8x512x1024 .f32 := (fun l r => Host.dotGeneral dot_S8x512x256_S256x1024_S8x512x1024_2_0_01_1_n_n none l r) main_v332 main_v336
  let main_v344 : FVec F S1x1x1024 .f32 := broadcastInDim S1x1x1024 ![2] bcast_S1024_S1x1x1024_2 main_v338
  let main_v345 : FVec F S8x512x1024 .f32 := broadcastInDim S8x512x1024 ![0, 1, 2] bcast_S1x1x1024_S8x512x1024_0_1_2 main_v344
  let main_v346 : FVec F S8x512x1024 .f32 := addf main_v343 main_v345
  let main_v347 : FVec F S8x512x1024 .f32 := mulf main_v346 main_v346
  let main_v348 : FVec F S8x512x1024 .f32 := mulf main_v347 main_v346
  let main_cst_76 : FVec F S_ .f32 := constant S_ .f32 0x3D372713#32
  let main_v349 : FVec F S8x512x1024 .f32 := broadcastInDim S8x512x1024 ![] bcast_S_S8x512x1024 main_cst_76
  let main_v350 : FVec F S8x512x1024 .f32 := mulf main_v349 main_v348
  fn_part18 (F := F) main_arg1 main_arg2 main_arg3 main_arg4 main_arg5 main_arg6 main_arg7 main_arg8 main_arg9 main_arg10 main_v3 main_v7 main_v11 main_v15 main_v19 main_v23 main_v27 main_v31 main_v35 main_v39 main_v43 main_v62 main_v147 main_v266 main_v332 main_v334 main_v340 main_v342 main_v346 main_v350

def fn_part16 {F : FTy → Type} [FloatOps F] (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v147 : IVec S8x512 1) (main_v247 : FVec F S8x512x256 .f32) (main_v266 : IVec S8x512 1) (main_v282 : FVec F S_ .f32) (main_v290 : FVec F S256x256 .f32) (main_v291 : FVec F S8x512x256 .f32) (main_v300 : FVec F S8x512x16x256 .f32) (main_v307 : FVec F S8x512x16x256 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v308 : FVec F S8x512x4x64 .f32 := shapeCast S8x512x4x64 main_v291 shapeCasts_S8x512x256_S8x512x4x64
  let main_v309 : FVec F S8x512x16x4x64 .f32 := shapeCast S8x512x16x4x64 main_v300 shapeCasts_S8x512x16x256_S8x512x16x4x64
  let main_v310 : FVec F S8x512x16x4x64 .f32 := shapeCast S8x512x16x4x64 main_v307 shapeCasts_S8x512x16x256_S8x512x16x4x64
  let main_v311 : FVec F S8x512x4x16 .f32 := (fun l r => Host.dotGeneral dot_S8x512x4x64_S8x512x16x4x64_S8x512x4x16_3_4_n_2_012_013 none l r) main_v308 main_v309
  let main_cst_72 : FVec F S_ .f32 := constant S_ .f32 0x42800000#32
  let main_v312 : FVec F S_ .f32 := Host.sqrt main_cst_72
  let main_v313 : FVec F S_ .f32 := id main_v312
  let main_v314 : FVec F S8x512x4x16 .f32 := broadcastInDim S8x512x4x16 ![] bcast_S_S8x512x4x16 main_v313
  let main_v315 : FVec F S8x512x4x16 .f32 := Host.divf main_v311 main_v314
  let main_cst_73 : FVec F S_ .f32 := constant S_ .f32 0xFF800000#32
  let main_v316 : FVec F S8x512x4 .f32 := (fun x v => Host.reduce FloatOps.maximumf x v reducesTo_S8x512x4x16_S8x512x4_d3 h_S_) main_v315 main_cst_73
  let main_cst_74 : FVec F S_ .f32 := constant S_ .f32 0xFF800000#32
  let main_v317 : FVec F S8x512x4 .f32 := broadcastInDim S8x512x4 ![] bcast_S_S8x512x4 main_cst_74
  let main_v318 : FVec F S8x512x4 .f32 := maximumf main_v317 main_v316
  let main_v319 : FVec F S8x512x4x1 .f32 := broadcastInDim S8x512x4x1 ![0, 1, 2] bcast_S8x512x4_S8x512x4x1_0_1_2 main_v318
  let main_v320 : FVec F S8x512x4x16 .f32 := broadcastInDim S8x512x4x16 ![0, 1, 2, 3] bcast_S8x512x4x1_S8x512x4x16_0_1_2_3 main_v319
  let main_v321 : FVec F S8x512x4x16 .f32 := subf main_v315 main_v320
  let main_v322 : FVec F S8x512x4x16 .f32 := Host.exp main_v321
  let main_cst_75 : FVec F S_ .f32 := constant S_ .f32 0x00000000#32
  let main_v323 : FVec F S8x512x4 .f32 := (fun x v => Host.reduceAdd x v reducesTo_S8x512x4x16_S8x512x4_d3 h_S_) main_v322 main_cst_75
  let main_v324 : FVec F S8x512x4x1 .f32 := broadcastInDim S8x512x4x1 ![0, 1, 2] bcast_S8x512x4_S8x512x4x1_0_1_2 main_v323
  let main_v325 : FVec F S8x512x4x16 .f32 := broadcastInDim S8x512x4x16 ![0, 1, 2, 3] bcast_S8x512x4x1_S8x512x4x16_0_1_2_3 main_v324
  let main_v326 : FVec F S8x512x4x16 .f32 := Host.divf main_v322 main_v325
  let main_v327 : FVec F S8x512x4x64 .f32 := (fun l r => Host.dotGeneral dot_S8x512x4x16_S8x512x16x4x64_S8x512x4x64_3_2_n_4_012_013 none l r) main_v326 main_v310
  fn_part17 (F := F) main_arg1 main_arg2 main_arg3 main_arg4 main_arg5 main_arg6 main_arg7 main_arg8 main_arg9 main_arg10 main_v3 main_v7 main_v11 main_v15 main_v19 main_v23 main_v27 main_v31 main_v35 main_v39 main_v43 main_v62 main_v147 main_v247 main_v266 main_v282 main_v290 main_v327

def fn_part15 {F : FTy → Type} [FloatOps F] (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v147 : IVec S8x512 1) (main_v247 : FVec F S8x512x256 .f32) (main_v266 : IVec S8x512 1) (main_indices_67 : IVec S8x512x16 32) (main_v282 : FVec F S_ .f32) (main_v284 : FVec F S256x256 .f32) (main_v286 : FVec F S256x256 .f32) (main_v287 : FVec F S1x256x256 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v288 : FVec F S256x256 .f32 := shapeCast S256x256 main_v287 shapeCasts_S1x256x256_S256x256
  let main_v289 : FVec F S1x256x256 .f32 := (extractStridedSlice S1x256x256 ![2, 0, 0] · slices_S4x256x256_S1x256x256_2_0_0) main_arg5
  let main_v290 : FVec F S256x256 .f32 := shapeCast S256x256 main_v289 shapeCasts_S1x256x256_S256x256
  let main_v291 : FVec F S8x512x256 .f32 := (fun l r => Host.dotGeneral dot_S8x512x256_S256x256_S8x512x256_2_0_01_1_n_n none l r) main_v247 main_v284
  let main_v292 : FVec F S8x2048x256 .f32 := (fun l r => Host.dotGeneral dot_S8x2048x256_S256x256_S8x2048x256_2_0_01_1_n_n none l r) main_arg1 main_v286
  let main_v293 : FVec F S8x2048x256 .f32 := (fun l r => Host.dotGeneral dot_S8x2048x256_S256x256_S8x2048x256_2_0_01_1_n_n none l r) main_arg1 main_v288
  let main_c_68 : IVec S_ 32 := constantI S_ 32 0#32
  let main_v294 : IVec S8x512x16 32 := broadcastInDim S8x512x16 ![] bcast_S_S8x512x16 main_c_68
  let main_v295 : IVec S8x512x16 1 := cmpi .slt main_indices_67 main_v294
  let main_c_69 : IVec S_ 32 := constantI S_ 32 2048#32
  let main_v296 : IVec S8x512x16 32 := broadcastInDim S8x512x16 ![] bcast_S_S8x512x16 main_c_69
  let main_v297 : IVec S8x512x16 32 := addi main_indices_67 main_v296
  let main_v298 : IVec S8x512x16 32 := select main_v295 main_v297 main_indices_67
  let main_v299 : IVec S8x512x16x1 32 := broadcastInDim S8x512x16x1 ![0, 1, 2] bcast_S8x512x16_S8x512x16x1_0_1_2 main_v298
  let main_v300 : FVec F S8x512x16x256 .f32 := (fun x i => Host.gather gather_S8x2048x256_S8x512x16x1_S8x512x16x256_3_1_0_0_1_3_11256 x i) main_v292 main_v299
  let main_c_70 : IVec S_ 32 := constantI S_ 32 0#32
  let main_v301 : IVec S8x512x16 32 := broadcastInDim S8x512x16 ![] bcast_S_S8x512x16 main_c_70
  let main_v302 : IVec S8x512x16 1 := cmpi .slt main_indices_67 main_v301
  let main_c_71 : IVec S_ 32 := constantI S_ 32 2048#32
  let main_v303 : IVec S8x512x16 32 := broadcastInDim S8x512x16 ![] bcast_S_S8x512x16 main_c_71
  let main_v304 : IVec S8x512x16 32 := addi main_indices_67 main_v303
  let main_v305 : IVec S8x512x16 32 := select main_v302 main_v304 main_indices_67
  let main_v306 : IVec S8x512x16x1 32 := broadcastInDim S8x512x16x1 ![0, 1, 2] bcast_S8x512x16_S8x512x16x1_0_1_2 main_v305
  let main_v307 : FVec F S8x512x16x256 .f32 := (fun x i => Host.gather gather_S8x2048x256_S8x512x16x1_S8x512x16x256_3_1_0_0_1_3_11256 x i) main_v293 main_v306
  fn_part16 (F := F) main_arg1 main_arg2 main_arg3 main_arg4 main_arg5 main_arg6 main_arg7 main_arg8 main_arg9 main_arg10 main_v3 main_v7 main_v11 main_v15 main_v19 main_v23 main_v27 main_v31 main_v35 main_v39 main_v43 main_v62 main_v147 main_v247 main_v266 main_v282 main_v290 main_v291 main_v300 main_v307

def fn_part14 {F : FTy → Type} [FloatOps F] (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v147 : IVec S8x512 1) (main_v247 : FVec F S8x512x256 .f32) (main_v266 : IVec S8x512 1) (main_v267 : FVec F S8x512x256 .f32) (main_cst_63 : FVec F S_ .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v268 : FVec F S8x512 .f32 := (fun x v => Host.reduceAdd x v reducesTo_S8x512x256_S8x512_d2 h_S_) main_v267 main_cst_63
  let main_v269 : FVec F S8x512x1 .f32 := broadcastInDim S8x512x1 ![0, 1] bcast_S8x512_S8x512x1_0_1 main_v268
  let main_v270 : FVec F S8x512x2048 .f32 := (fun l r => Host.dotGeneral dot_S8x512x256_S8x2048x256_S8x512x2048_2_2_1_1_0_0 none l r) main_v247 main_arg1
  let main_cst_64 : FVec F S_ .f32 := constant S_ .f32 0x40000000#32
  let main_v271 : FVec F S8x512x2048 .f32 := broadcastInDim S8x512x2048 ![] bcast_S_S8x512x2048 main_cst_64
  let main_v272 : FVec F S8x512x2048 .f32 := mulf main_v271 main_v270
  let main_v273 : FVec F S8x512x2048 .f32 := broadcastInDim S8x512x2048 ![0, 1, 2] bcast_S8x512x1_S8x512x2048_0_1_2 main_v269
  let main_v274 : FVec F S8x512x2048 .f32 := subf main_v273 main_v272
  let main_v275 : FVec F S8x2048x256 .f32 := mulf main_arg1 main_arg1
  let main_cst_65 : FVec F S_ .f32 := constant S_ .f32 0x00000000#32
  let main_v276 : FVec F S8x2048 .f32 := (fun x v => Host.reduceAdd x v reducesTo_S8x2048x256_S8x2048_d2 h_S_) main_v275 main_cst_65
  let main_v277 : FVec F S8x1x2048 .f32 := broadcastInDim S8x1x2048 ![0, 2] bcast_S8x2048_S8x1x2048_0_2 main_v276
  let main_v278 : FVec F S8x512x2048 .f32 := broadcastInDim S8x512x2048 ![0, 1, 2] bcast_S8x1x2048_S8x512x2048_0_1_2 main_v277
  let main_v279 : FVec F S8x512x2048 .f32 := addf main_v274 main_v278
  let main_v280 : FVec F S8x512x2048 .f32 := Host.negf main_v279
  let main_values_66 : FVec F S8x512x16 .f32 := (fun x => (Host.topK S8x512x16 2 (FloatOps.cmpfTotal .gt) x sliceFits_S8x512x2048_S8x512x16).1) main_v280
  let main_indices_67 : IVec S8x512x16 32 := (fun x => (Host.topK S8x512x16 2 (FloatOps.cmpfTotal .gt) x sliceFits_S8x512x2048_S8x512x16).2) main_v280
  let main_v281 : FVec F S1 .f32 := (extractStridedSlice S1 ![2] · slices_S4_S1_2) main_arg10
  let main_v282 : FVec F S_ .f32 := shapeCast S_ main_v281 shapeCasts_S1_S_
  let main_v283 : FVec F S1x256x256 .f32 := (extractStridedSlice S1x256x256 ![2, 0, 0] · slices_S4x256x256_S1x256x256_2_0_0) main_arg2
  let main_v284 : FVec F S256x256 .f32 := shapeCast S256x256 main_v283 shapeCasts_S1x256x256_S256x256
  let main_v285 : FVec F S1x256x256 .f32 := (extractStridedSlice S1x256x256 ![2, 0, 0] · slices_S4x256x256_S1x256x256_2_0_0) main_arg3
  let main_v286 : FVec F S256x256 .f32 := shapeCast S256x256 main_v285 shapeCasts_S1x256x256_S256x256
  let main_v287 : FVec F S1x256x256 .f32 := (extractStridedSlice S1x256x256 ![2, 0, 0] · slices_S4x256x256_S1x256x256_2_0_0) main_arg4
  fn_part15 (F := F) main_arg1 main_arg2 main_arg3 main_arg4 main_arg5 main_arg6 main_arg7 main_arg8 main_arg9 main_arg10 main_v3 main_v7 main_v11 main_v15 main_v19 main_v23 main_v27 main_v31 main_v35 main_v39 main_v43 main_v62 main_v147 main_v247 main_v266 main_indices_67 main_v282 main_v284 main_v286 main_v287

def fn_part13 {F : FTy → Type} [FloatOps F] (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v147 : IVec S8x512 1) (main_v247 : FVec F S8x512x256 .f32) (main_v248 : FVec F S8x512x256 .f32) (main_cst_58 : FVec F S_ .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v249 : FVec F S8x512 .f32 := (fun x v => Host.reduceAdd x v reducesTo_S8x512x256_S8x512_d2 h_S_) main_v248 main_cst_58
  let main_v250 : FVec F S8x512x1 .f32 := broadcastInDim S8x512x1 ![0, 1] bcast_S8x512_S8x512x1_0_1 main_v249
  let main_v251 : FVec F S8x512x2048 .f32 := (fun l r => Host.dotGeneral dot_S8x512x256_S8x2048x256_S8x512x2048_2_2_1_1_0_0 none l r) main_v247 main_arg1
  let main_cst_59 : FVec F S_ .f32 := constant S_ .f32 0x40000000#32
  let main_v252 : FVec F S8x512x2048 .f32 := broadcastInDim S8x512x2048 ![] bcast_S_S8x512x2048 main_cst_59
  let main_v253 : FVec F S8x512x2048 .f32 := mulf main_v252 main_v251
  let main_v254 : FVec F S8x512x2048 .f32 := broadcastInDim S8x512x2048 ![0, 1, 2] bcast_S8x512x1_S8x512x2048_0_1_2 main_v250
  let main_v255 : FVec F S8x512x2048 .f32 := subf main_v254 main_v253
  let main_v256 : FVec F S8x2048x256 .f32 := mulf main_arg1 main_arg1
  let main_cst_60 : FVec F S_ .f32 := constant S_ .f32 0x00000000#32
  let main_v257 : FVec F S8x2048 .f32 := (fun x v => Host.reduceAdd x v reducesTo_S8x2048x256_S8x2048_d2 h_S_) main_v256 main_cst_60
  let main_v258 : FVec F S8x1x2048 .f32 := broadcastInDim S8x1x2048 ![0, 2] bcast_S8x2048_S8x1x2048_0_2 main_v257
  let main_v259 : FVec F S8x512x2048 .f32 := broadcastInDim S8x512x2048 ![0, 1, 2] bcast_S8x1x2048_S8x512x2048_0_1_2 main_v258
  let main_v260 : FVec F S8x512x2048 .f32 := addf main_v255 main_v259
  let main_v261 : FVec F S8x512x2048 .f32 := Host.negf main_v260
  let main_values_61 : FVec F S8x512x17 .f32 := (fun x => (Host.topK S8x512x17 2 (FloatOps.cmpfTotal .gt) x sliceFits_S8x512x2048_S8x512x17).1) main_v261
  let main_indices_62 : IVec S8x512x17 32 := (fun x => (Host.topK S8x512x17 2 (FloatOps.cmpfTotal .gt) x sliceFits_S8x512x2048_S8x512x17).2) main_v261
  let main_v262 : FVec F S8x512x1 .f32 := (extractStridedSlice S8x512x1 ![0, 0, 15] · slices_S8x512x17_S8x512x1_0_0_15) main_values_61
  let main_v263 : FVec F S8x512 .f32 := shapeCast S8x512 main_v262 shapeCasts_S8x512x1_S8x512
  let main_v264 : FVec F S8x512x1 .f32 := (extractStridedSlice S8x512x1 ![0, 0, 16] · slices_S8x512x17_S8x512x1_0_0_16) main_values_61
  let main_v265 : FVec F S8x512 .f32 := shapeCast S8x512 main_v264 shapeCasts_S8x512x1_S8x512
  let main_v266 : IVec S8x512 1 := cmpf .ogt main_v263 main_v265
  let main_v267 : FVec F S8x512x256 .f32 := mulf main_v247 main_v247
  let main_cst_63 : FVec F S_ .f32 := constant S_ .f32 0x00000000#32
  fn_part14 (F := F) main_arg1 main_arg2 main_arg3 main_arg4 main_arg5 main_arg6 main_arg7 main_arg8 main_arg9 main_arg10 main_v3 main_v7 main_v11 main_v15 main_v19 main_v23 main_v27 main_v31 main_v35 main_v39 main_v43 main_v62 main_v147 main_v247 main_v266 main_v267 main_cst_63

def fn_part12 {F : FTy → Type} [FloatOps F] (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v147 : IVec S8x512 1) (main_v213 : FVec F S8x512x256 .f32) (main_v215 : FVec F S_ .f32) (main_v221 : FVec F S1024x256 .f32) (main_v223 : FVec F S256 .f32) (main_v227 : FVec F S8x512x1024 .f32) (main_v229 : FVec F S8x512x1024 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_cst_54 : FVec F S_ .f32 := constant S_ .f32 0x3D372713#32
  let main_v230 : FVec F S8x512x1024 .f32 := broadcastInDim S8x512x1024 ![] bcast_S_S8x512x1024 main_cst_54
  let main_v231 : FVec F S8x512x1024 .f32 := mulf main_v230 main_v229
  let main_v232 : FVec F S8x512x1024 .f32 := addf main_v227 main_v231
  let main_cst_55 : FVec F S_ .f32 := constant S_ .f32 0x3F4C422A#32
  let main_v233 : FVec F S8x512x1024 .f32 := broadcastInDim S8x512x1024 ![] bcast_S_S8x512x1024 main_cst_55
  let main_v234 : FVec F S8x512x1024 .f32 := mulf main_v233 main_v232
  let main_v235 : FVec F S8x512x1024 .f32 := Host.tanh main_v234
  let main_cst_56 : FVec F S_ .f32 := constant S_ .f32 0x3F800000#32
  let main_v236 : FVec F S8x512x1024 .f32 := broadcastInDim S8x512x1024 ![] bcast_S_S8x512x1024 main_cst_56
  let main_v237 : FVec F S8x512x1024 .f32 := addf main_v236 main_v235
  let main_cst_57 : FVec F S_ .f32 := constant S_ .f32 0x3F000000#32
  let main_v238 : FVec F S8x512x1024 .f32 := broadcastInDim S8x512x1024 ![] bcast_S_S8x512x1024 main_cst_57
  let main_v239 : FVec F S8x512x1024 .f32 := mulf main_v238 main_v237
  let main_v240 : FVec F S8x512x1024 .f32 := mulf main_v227 main_v239
  let main_v241 : FVec F S8x512x256 .f32 := (fun l r => Host.dotGeneral dot_S8x512x1024_S1024x256_S8x512x256_2_0_01_1_n_n none l r) main_v240 main_v221
  let main_v242 : FVec F S1x1x256 .f32 := broadcastInDim S1x1x256 ![2] bcast_S256_S1x1x256_2 main_v223
  let main_v243 : FVec F S8x512x256 .f32 := broadcastInDim S8x512x256 ![0, 1, 2] bcast_S1x1x256_S8x512x256_0_1_2 main_v242
  let main_v244 : FVec F S8x512x256 .f32 := addf main_v241 main_v243
  let main_v245 : FVec F S8x512x256 .f32 := broadcastInDim S8x512x256 ![] bcast_S_S8x512x256 main_v215
  let main_v246 : FVec F S8x512x256 .f32 := mulf main_v245 main_v244
  let main_v247 : FVec F S8x512x256 .f32 := addf main_v213 main_v246
  let main_v248 : FVec F S8x512x256 .f32 := mulf main_v247 main_v247
  let main_cst_58 : FVec F S_ .f32 := constant S_ .f32 0x00000000#32
  fn_part13 (F := F) main_arg1 main_arg2 main_arg3 main_arg4 main_arg5 main_arg6 main_arg7 main_arg8 main_arg9 main_arg10 main_v3 main_v7 main_v11 main_v15 main_v19 main_v23 main_v27 main_v31 main_v35 main_v39 main_v43 main_v62 main_v147 main_v247 main_v248 main_cst_58

def fn_part11 {F : FTy → Type} [FloatOps F] (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v128 : FVec F S8x512x256 .f32) (main_v147 : IVec S8x512 1) (main_v163 : FVec F S_ .f32) (main_v171 : FVec F S256x256 .f32) (main_v191 : FVec F S8x512x16x4x64 .f32) (main_v203 : FVec F S8x512x4x16 .f32) (main_v205 : FVec F S8x512x4x1 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v206 : FVec F S8x512x4x16 .f32 := broadcastInDim S8x512x4x16 ![0, 1, 2, 3] bcast_S8x512x4x1_S8x512x4x16_0_1_2_3 main_v205
  let main_v207 : FVec F S8x512x4x16 .f32 := Host.divf main_v203 main_v206
  let main_v208 : FVec F S8x512x4x64 .f32 := (fun l r => Host.dotGeneral dot_S8x512x4x16_S8x512x16x4x64_S8x512x4x64_3_2_n_4_012_013 none l r) main_v207 main_v191
  let main_v209 : FVec F S8x512x256 .f32 := shapeCast S8x512x256 main_v208 shapeCasts_S8x512x4x64_S8x512x256
  let main_v210 : FVec F S8x512x256 .f32 := (fun l r => Host.dotGeneral dot_S8x512x256_S256x256_S8x512x256_2_0_01_1_n_n none l r) main_v209 main_v171
  let main_v211 : FVec F S8x512x256 .f32 := broadcastInDim S8x512x256 ![] bcast_S_S8x512x256 main_v163
  let main_v212 : FVec F S8x512x256 .f32 := mulf main_v211 main_v210
  let main_v213 : FVec F S8x512x256 .f32 := addf main_v128 main_v212
  let main_v214 : FVec F S1 .f32 := (extractStridedSlice S1 ![1] · slices_S4_S1_1) main_arg10
  let main_v215 : FVec F S_ .f32 := shapeCast S_ main_v214 shapeCasts_S1_S_
  let main_v216 : FVec F S1x256x1024 .f32 := (extractStridedSlice S1x256x1024 ![0, 0, 0] · slices_S3x256x1024_S1x256x1024_0_0_0) main_arg6
  let main_v217 : FVec F S256x1024 .f32 := shapeCast S256x1024 main_v216 shapeCasts_S1x256x1024_S256x1024
  let main_v218 : FVec F S1x1024 .f32 := (extractStridedSlice S1x1024 ![0, 0] · slices_S3x1024_S1x1024_0_0) main_arg7
  let main_v219 : FVec F S1024 .f32 := shapeCast S1024 main_v218 shapeCasts_S1x1024_S1024
  let main_v220 : FVec F S1x1024x256 .f32 := (extractStridedSlice S1x1024x256 ![0, 0, 0] · slices_S3x1024x256_S1x1024x256_0_0_0) main_arg8
  let main_v221 : FVec F S1024x256 .f32 := shapeCast S1024x256 main_v220 shapeCasts_S1x1024x256_S1024x256
  let main_v222 : FVec F S1x256 .f32 := (extractStridedSlice S1x256 ![0, 0] · slices_S3x256_S1x256_0_0) main_arg9
  let main_v223 : FVec F S256 .f32 := shapeCast S256 main_v222 shapeCasts_S1x256_S256
  let main_v224 : FVec F S8x512x1024 .f32 := (fun l r => Host.dotGeneral dot_S8x512x256_S256x1024_S8x512x1024_2_0_01_1_n_n none l r) main_v213 main_v217
  let main_v225 : FVec F S1x1x1024 .f32 := broadcastInDim S1x1x1024 ![2] bcast_S1024_S1x1x1024_2 main_v219
  let main_v226 : FVec F S8x512x1024 .f32 := broadcastInDim S8x512x1024 ![0, 1, 2] bcast_S1x1x1024_S8x512x1024_0_1_2 main_v225
  let main_v227 : FVec F S8x512x1024 .f32 := addf main_v224 main_v226
  let main_v228 : FVec F S8x512x1024 .f32 := mulf main_v227 main_v227
  let main_v229 : FVec F S8x512x1024 .f32 := mulf main_v228 main_v227
  fn_part12 (F := F) main_arg1 main_arg2 main_arg3 main_arg4 main_arg5 main_arg6 main_arg7 main_arg8 main_arg9 main_arg10 main_v3 main_v7 main_v11 main_v15 main_v19 main_v23 main_v27 main_v31 main_v35 main_v39 main_v43 main_v62 main_v147 main_v213 main_v215 main_v221 main_v223 main_v227 main_v229

def fn_part10 {F : FTy → Type} [FloatOps F] (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v128 : FVec F S8x512x256 .f32) (main_v147 : IVec S8x512 1) (main_indices_45 : IVec S8x512x16 32) (main_v163 : FVec F S_ .f32) (main_v171 : FVec F S256x256 .f32) (main_v172 : FVec F S8x512x256 .f32) (main_v174 : FVec F S8x2048x256 .f32) (main_v181 : FVec F S8x512x16x256 .f32) (main_v183 : IVec S8x512x16 1) (main_v185 : IVec S8x512x16 32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v186 : IVec S8x512x16 32 := select main_v183 main_v185 main_indices_45
  let main_v187 : IVec S8x512x16x1 32 := broadcastInDim S8x512x16x1 ![0, 1, 2] bcast_S8x512x16_S8x512x16x1_0_1_2 main_v186
  let main_v188 : FVec F S8x512x16x256 .f32 := (fun x i => Host.gather gather_S8x2048x256_S8x512x16x1_S8x512x16x256_3_1_0_0_1_3_11256 x i) main_v174 main_v187
  let main_v189 : FVec F S8x512x4x64 .f32 := shapeCast S8x512x4x64 main_v172 shapeCasts_S8x512x256_S8x512x4x64
  let main_v190 : FVec F S8x512x16x4x64 .f32 := shapeCast S8x512x16x4x64 main_v181 shapeCasts_S8x512x16x256_S8x512x16x4x64
  let main_v191 : FVec F S8x512x16x4x64 .f32 := shapeCast S8x512x16x4x64 main_v188 shapeCasts_S8x512x16x256_S8x512x16x4x64
  let main_v192 : FVec F S8x512x4x16 .f32 := (fun l r => Host.dotGeneral dot_S8x512x4x64_S8x512x16x4x64_S8x512x4x16_3_4_n_2_012_013 none l r) main_v189 main_v190
  let main_cst_50 : FVec F S_ .f32 := constant S_ .f32 0x42800000#32
  let main_v193 : FVec F S_ .f32 := Host.sqrt main_cst_50
  let main_v194 : FVec F S_ .f32 := id main_v193
  let main_v195 : FVec F S8x512x4x16 .f32 := broadcastInDim S8x512x4x16 ![] bcast_S_S8x512x4x16 main_v194
  let main_v196 : FVec F S8x512x4x16 .f32 := Host.divf main_v192 main_v195
  let main_cst_51 : FVec F S_ .f32 := constant S_ .f32 0xFF800000#32
  let main_v197 : FVec F S8x512x4 .f32 := (fun x v => Host.reduce FloatOps.maximumf x v reducesTo_S8x512x4x16_S8x512x4_d3 h_S_) main_v196 main_cst_51
  let main_cst_52 : FVec F S_ .f32 := constant S_ .f32 0xFF800000#32
  let main_v198 : FVec F S8x512x4 .f32 := broadcastInDim S8x512x4 ![] bcast_S_S8x512x4 main_cst_52
  let main_v199 : FVec F S8x512x4 .f32 := maximumf main_v198 main_v197
  let main_v200 : FVec F S8x512x4x1 .f32 := broadcastInDim S8x512x4x1 ![0, 1, 2] bcast_S8x512x4_S8x512x4x1_0_1_2 main_v199
  let main_v201 : FVec F S8x512x4x16 .f32 := broadcastInDim S8x512x4x16 ![0, 1, 2, 3] bcast_S8x512x4x1_S8x512x4x16_0_1_2_3 main_v200
  let main_v202 : FVec F S8x512x4x16 .f32 := subf main_v196 main_v201
  let main_v203 : FVec F S8x512x4x16 .f32 := Host.exp main_v202
  let main_cst_53 : FVec F S_ .f32 := constant S_ .f32 0x00000000#32
  let main_v204 : FVec F S8x512x4 .f32 := (fun x v => Host.reduceAdd x v reducesTo_S8x512x4x16_S8x512x4_d3 h_S_) main_v203 main_cst_53
  let main_v205 : FVec F S8x512x4x1 .f32 := broadcastInDim S8x512x4x1 ![0, 1, 2] bcast_S8x512x4_S8x512x4x1_0_1_2 main_v204
  fn_part11 (F := F) main_arg1 main_arg2 main_arg3 main_arg4 main_arg5 main_arg6 main_arg7 main_arg8 main_arg9 main_arg10 main_v3 main_v7 main_v11 main_v15 main_v19 main_v23 main_v27 main_v31 main_v35 main_v39 main_v43 main_v62 main_v128 main_v147 main_v163 main_v171 main_v191 main_v203 main_v205

def fn_part9 {F : FTy → Type} [FloatOps F] (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v128 : FVec F S8x512x256 .f32) (main_v147 : IVec S8x512 1) (main_indices_45 : IVec S8x512x16 32) (main_v163 : FVec F S_ .f32) (main_v165 : FVec F S256x256 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v166 : FVec F S1x256x256 .f32 := (extractStridedSlice S1x256x256 ![1, 0, 0] · slices_S4x256x256_S1x256x256_1_0_0) main_arg3
  let main_v167 : FVec F S256x256 .f32 := shapeCast S256x256 main_v166 shapeCasts_S1x256x256_S256x256
  let main_v168 : FVec F S1x256x256 .f32 := (extractStridedSlice S1x256x256 ![1, 0, 0] · slices_S4x256x256_S1x256x256_1_0_0) main_arg4
  let main_v169 : FVec F S256x256 .f32 := shapeCast S256x256 main_v168 shapeCasts_S1x256x256_S256x256
  let main_v170 : FVec F S1x256x256 .f32 := (extractStridedSlice S1x256x256 ![1, 0, 0] · slices_S4x256x256_S1x256x256_1_0_0) main_arg5
  let main_v171 : FVec F S256x256 .f32 := shapeCast S256x256 main_v170 shapeCasts_S1x256x256_S256x256
  let main_v172 : FVec F S8x512x256 .f32 := (fun l r => Host.dotGeneral dot_S8x512x256_S256x256_S8x512x256_2_0_01_1_n_n none l r) main_v128 main_v165
  let main_v173 : FVec F S8x2048x256 .f32 := (fun l r => Host.dotGeneral dot_S8x2048x256_S256x256_S8x2048x256_2_0_01_1_n_n none l r) main_arg1 main_v167
  let main_v174 : FVec F S8x2048x256 .f32 := (fun l r => Host.dotGeneral dot_S8x2048x256_S256x256_S8x2048x256_2_0_01_1_n_n none l r) main_arg1 main_v169
  let main_c_46 : IVec S_ 32 := constantI S_ 32 0#32
  let main_v175 : IVec S8x512x16 32 := broadcastInDim S8x512x16 ![] bcast_S_S8x512x16 main_c_46
  let main_v176 : IVec S8x512x16 1 := cmpi .slt main_indices_45 main_v175
  let main_c_47 : IVec S_ 32 := constantI S_ 32 2048#32
  let main_v177 : IVec S8x512x16 32 := broadcastInDim S8x512x16 ![] bcast_S_S8x512x16 main_c_47
  let main_v178 : IVec S8x512x16 32 := addi main_indices_45 main_v177
  let main_v179 : IVec S8x512x16 32 := select main_v176 main_v178 main_indices_45
  let main_v180 : IVec S8x512x16x1 32 := broadcastInDim S8x512x16x1 ![0, 1, 2] bcast_S8x512x16_S8x512x16x1_0_1_2 main_v179
  let main_v181 : FVec F S8x512x16x256 .f32 := (fun x i => Host.gather gather_S8x2048x256_S8x512x16x1_S8x512x16x256_3_1_0_0_1_3_11256 x i) main_v173 main_v180
  let main_c_48 : IVec S_ 32 := constantI S_ 32 0#32
  let main_v182 : IVec S8x512x16 32 := broadcastInDim S8x512x16 ![] bcast_S_S8x512x16 main_c_48
  let main_v183 : IVec S8x512x16 1 := cmpi .slt main_indices_45 main_v182
  let main_c_49 : IVec S_ 32 := constantI S_ 32 2048#32
  let main_v184 : IVec S8x512x16 32 := broadcastInDim S8x512x16 ![] bcast_S_S8x512x16 main_c_49
  let main_v185 : IVec S8x512x16 32 := addi main_indices_45 main_v184
  fn_part10 (F := F) main_arg1 main_arg2 main_arg3 main_arg4 main_arg5 main_arg6 main_arg7 main_arg8 main_arg9 main_arg10 main_v3 main_v7 main_v11 main_v15 main_v19 main_v23 main_v27 main_v31 main_v35 main_v39 main_v43 main_v62 main_v128 main_v147 main_indices_45 main_v163 main_v171 main_v172 main_v174 main_v181 main_v183 main_v185

def fn_part8 {F : FTy → Type} [FloatOps F] (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v128 : FVec F S8x512x256 .f32) (main_v144 : FVec F S8x512 .f32) (main_v146 : FVec F S8x512 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v147 : IVec S8x512 1 := cmpf .ogt main_v144 main_v146
  let main_v148 : FVec F S8x512x256 .f32 := mulf main_v128 main_v128
  let main_cst_41 : FVec F S_ .f32 := constant S_ .f32 0x00000000#32
  let main_v149 : FVec F S8x512 .f32 := (fun x v => Host.reduceAdd x v reducesTo_S8x512x256_S8x512_d2 h_S_) main_v148 main_cst_41
  let main_v150 : FVec F S8x512x1 .f32 := broadcastInDim S8x512x1 ![0, 1] bcast_S8x512_S8x512x1_0_1 main_v149
  let main_v151 : FVec F S8x512x2048 .f32 := (fun l r => Host.dotGeneral dot_S8x512x256_S8x2048x256_S8x512x2048_2_2_1_1_0_0 none l r) main_v128 main_arg1
  let main_cst_42 : FVec F S_ .f32 := constant S_ .f32 0x40000000#32
  let main_v152 : FVec F S8x512x2048 .f32 := broadcastInDim S8x512x2048 ![] bcast_S_S8x512x2048 main_cst_42
  let main_v153 : FVec F S8x512x2048 .f32 := mulf main_v152 main_v151
  let main_v154 : FVec F S8x512x2048 .f32 := broadcastInDim S8x512x2048 ![0, 1, 2] bcast_S8x512x1_S8x512x2048_0_1_2 main_v150
  let main_v155 : FVec F S8x512x2048 .f32 := subf main_v154 main_v153
  let main_v156 : FVec F S8x2048x256 .f32 := mulf main_arg1 main_arg1
  let main_cst_43 : FVec F S_ .f32 := constant S_ .f32 0x00000000#32
  let main_v157 : FVec F S8x2048 .f32 := (fun x v => Host.reduceAdd x v reducesTo_S8x2048x256_S8x2048_d2 h_S_) main_v156 main_cst_43
  let main_v158 : FVec F S8x1x2048 .f32 := broadcastInDim S8x1x2048 ![0, 2] bcast_S8x2048_S8x1x2048_0_2 main_v157
  let main_v159 : FVec F S8x512x2048 .f32 := broadcastInDim S8x512x2048 ![0, 1, 2] bcast_S8x1x2048_S8x512x2048_0_1_2 main_v158
  let main_v160 : FVec F S8x512x2048 .f32 := addf main_v155 main_v159
  let main_v161 : FVec F S8x512x2048 .f32 := Host.negf main_v160
  let main_values_44 : FVec F S8x512x16 .f32 := (fun x => (Host.topK S8x512x16 2 (FloatOps.cmpfTotal .gt) x sliceFits_S8x512x2048_S8x512x16).1) main_v161
  let main_indices_45 : IVec S8x512x16 32 := (fun x => (Host.topK S8x512x16 2 (FloatOps.cmpfTotal .gt) x sliceFits_S8x512x2048_S8x512x16).2) main_v161
  let main_v162 : FVec F S1 .f32 := (extractStridedSlice S1 ![1] · slices_S4_S1_1) main_arg10
  let main_v163 : FVec F S_ .f32 := shapeCast S_ main_v162 shapeCasts_S1_S_
  let main_v164 : FVec F S1x256x256 .f32 := (extractStridedSlice S1x256x256 ![1, 0, 0] · slices_S4x256x256_S1x256x256_1_0_0) main_arg2
  let main_v165 : FVec F S256x256 .f32 := shapeCast S256x256 main_v164 shapeCasts_S1x256x256_S256x256
  fn_part9 (F := F) main_arg1 main_arg2 main_arg3 main_arg4 main_arg5 main_arg6 main_arg7 main_arg8 main_arg9 main_arg10 main_v3 main_v7 main_v11 main_v15 main_v19 main_v23 main_v27 main_v31 main_v35 main_v39 main_v43 main_v62 main_v128 main_v147 main_indices_45 main_v163 main_v165

def fn_part7 {F : FTy → Type} [FloatOps F] (main_arg0 : FVec F S8x512x256 .f32) (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v127 : FVec F S8x512x256 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v128 : FVec F S8x512x256 .f32 := addf main_arg0 main_v127
  let main_v129 : FVec F S8x512x256 .f32 := mulf main_v128 main_v128
  let main_cst_36 : FVec F S_ .f32 := constant S_ .f32 0x00000000#32
  let main_v130 : FVec F S8x512 .f32 := (fun x v => Host.reduceAdd x v reducesTo_S8x512x256_S8x512_d2 h_S_) main_v129 main_cst_36
  let main_v131 : FVec F S8x512x1 .f32 := broadcastInDim S8x512x1 ![0, 1] bcast_S8x512_S8x512x1_0_1 main_v130
  let main_v132 : FVec F S8x512x2048 .f32 := (fun l r => Host.dotGeneral dot_S8x512x256_S8x2048x256_S8x512x2048_2_2_1_1_0_0 none l r) main_v128 main_arg1
  let main_cst_37 : FVec F S_ .f32 := constant S_ .f32 0x40000000#32
  let main_v133 : FVec F S8x512x2048 .f32 := broadcastInDim S8x512x2048 ![] bcast_S_S8x512x2048 main_cst_37
  let main_v134 : FVec F S8x512x2048 .f32 := mulf main_v133 main_v132
  let main_v135 : FVec F S8x512x2048 .f32 := broadcastInDim S8x512x2048 ![0, 1, 2] bcast_S8x512x1_S8x512x2048_0_1_2 main_v131
  let main_v136 : FVec F S8x512x2048 .f32 := subf main_v135 main_v134
  let main_v137 : FVec F S8x2048x256 .f32 := mulf main_arg1 main_arg1
  let main_cst_38 : FVec F S_ .f32 := constant S_ .f32 0x00000000#32
  let main_v138 : FVec F S8x2048 .f32 := (fun x v => Host.reduceAdd x v reducesTo_S8x2048x256_S8x2048_d2 h_S_) main_v137 main_cst_38
  let main_v139 : FVec F S8x1x2048 .f32 := broadcastInDim S8x1x2048 ![0, 2] bcast_S8x2048_S8x1x2048_0_2 main_v138
  let main_v140 : FVec F S8x512x2048 .f32 := broadcastInDim S8x512x2048 ![0, 1, 2] bcast_S8x1x2048_S8x512x2048_0_1_2 main_v139
  let main_v141 : FVec F S8x512x2048 .f32 := addf main_v136 main_v140
  let main_v142 : FVec F S8x512x2048 .f32 := Host.negf main_v141
  let main_values_39 : FVec F S8x512x17 .f32 := (fun x => (Host.topK S8x512x17 2 (FloatOps.cmpfTotal .gt) x sliceFits_S8x512x2048_S8x512x17).1) main_v142
  let main_indices_40 : IVec S8x512x17 32 := (fun x => (Host.topK S8x512x17 2 (FloatOps.cmpfTotal .gt) x sliceFits_S8x512x2048_S8x512x17).2) main_v142
  let main_v143 : FVec F S8x512x1 .f32 := (extractStridedSlice S8x512x1 ![0, 0, 15] · slices_S8x512x17_S8x512x1_0_0_15) main_values_39
  let main_v144 : FVec F S8x512 .f32 := shapeCast S8x512 main_v143 shapeCasts_S8x512x1_S8x512
  let main_v145 : FVec F S8x512x1 .f32 := (extractStridedSlice S8x512x1 ![0, 0, 16] · slices_S8x512x17_S8x512x1_0_0_16) main_values_39
  let main_v146 : FVec F S8x512 .f32 := shapeCast S8x512 main_v145 shapeCasts_S8x512x1_S8x512
  fn_part8 (F := F) main_arg1 main_arg2 main_arg3 main_arg4 main_arg5 main_arg6 main_arg7 main_arg8 main_arg9 main_arg10 main_v3 main_v7 main_v11 main_v15 main_v19 main_v23 main_v27 main_v31 main_v35 main_v39 main_v43 main_v62 main_v128 main_v144 main_v146

def fn_part6 {F : FTy → Type} [FloatOps F] (main_arg0 : FVec F S8x512x256 .f32) (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v78 : FVec F S_ .f32) (main_v86 : FVec F S256x256 .f32) (main_v106 : FVec F S8x512x16x4x64 .f32) (main_v107 : FVec F S8x512x4x16 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_cst_32 : FVec F S_ .f32 := constant S_ .f32 0x42800000#32
  let main_v108 : FVec F S_ .f32 := Host.sqrt main_cst_32
  let main_v109 : FVec F S_ .f32 := id main_v108
  let main_v110 : FVec F S8x512x4x16 .f32 := broadcastInDim S8x512x4x16 ![] bcast_S_S8x512x4x16 main_v109
  let main_v111 : FVec F S8x512x4x16 .f32 := Host.divf main_v107 main_v110
  let main_cst_33 : FVec F S_ .f32 := constant S_ .f32 0xFF800000#32
  let main_v112 : FVec F S8x512x4 .f32 := (fun x v => Host.reduce FloatOps.maximumf x v reducesTo_S8x512x4x16_S8x512x4_d3 h_S_) main_v111 main_cst_33
  let main_cst_34 : FVec F S_ .f32 := constant S_ .f32 0xFF800000#32
  let main_v113 : FVec F S8x512x4 .f32 := broadcastInDim S8x512x4 ![] bcast_S_S8x512x4 main_cst_34
  let main_v114 : FVec F S8x512x4 .f32 := maximumf main_v113 main_v112
  let main_v115 : FVec F S8x512x4x1 .f32 := broadcastInDim S8x512x4x1 ![0, 1, 2] bcast_S8x512x4_S8x512x4x1_0_1_2 main_v114
  let main_v116 : FVec F S8x512x4x16 .f32 := broadcastInDim S8x512x4x16 ![0, 1, 2, 3] bcast_S8x512x4x1_S8x512x4x16_0_1_2_3 main_v115
  let main_v117 : FVec F S8x512x4x16 .f32 := subf main_v111 main_v116
  let main_v118 : FVec F S8x512x4x16 .f32 := Host.exp main_v117
  let main_cst_35 : FVec F S_ .f32 := constant S_ .f32 0x00000000#32
  let main_v119 : FVec F S8x512x4 .f32 := (fun x v => Host.reduceAdd x v reducesTo_S8x512x4x16_S8x512x4_d3 h_S_) main_v118 main_cst_35
  let main_v120 : FVec F S8x512x4x1 .f32 := broadcastInDim S8x512x4x1 ![0, 1, 2] bcast_S8x512x4_S8x512x4x1_0_1_2 main_v119
  let main_v121 : FVec F S8x512x4x16 .f32 := broadcastInDim S8x512x4x16 ![0, 1, 2, 3] bcast_S8x512x4x1_S8x512x4x16_0_1_2_3 main_v120
  let main_v122 : FVec F S8x512x4x16 .f32 := Host.divf main_v118 main_v121
  let main_v123 : FVec F S8x512x4x64 .f32 := (fun l r => Host.dotGeneral dot_S8x512x4x16_S8x512x16x4x64_S8x512x4x64_3_2_n_4_012_013 none l r) main_v122 main_v106
  let main_v124 : FVec F S8x512x256 .f32 := shapeCast S8x512x256 main_v123 shapeCasts_S8x512x4x64_S8x512x256
  let main_v125 : FVec F S8x512x256 .f32 := (fun l r => Host.dotGeneral dot_S8x512x256_S256x256_S8x512x256_2_0_01_1_n_n none l r) main_v124 main_v86
  let main_v126 : FVec F S8x512x256 .f32 := broadcastInDim S8x512x256 ![] bcast_S_S8x512x256 main_v78
  let main_v127 : FVec F S8x512x256 .f32 := mulf main_v126 main_v125
  fn_part7 (F := F) main_arg0 main_arg1 main_arg2 main_arg3 main_arg4 main_arg5 main_arg6 main_arg7 main_arg8 main_arg9 main_arg10 main_v3 main_v7 main_v11 main_v15 main_v19 main_v23 main_v27 main_v31 main_v35 main_v39 main_v43 main_v62 main_v127

def fn_part5 {F : FTy → Type} [FloatOps F] (main_arg0 : FVec F S8x512x256 .f32) (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_indices_27 : IVec S8x512x16 32) (main_v78 : FVec F S_ .f32) (main_v82 : FVec F S256x256 .f32) (main_v84 : FVec F S256x256 .f32) (main_v86 : FVec F S256x256 .f32) (main_v87 : FVec F S8x512x256 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v88 : FVec F S8x2048x256 .f32 := (fun l r => Host.dotGeneral dot_S8x2048x256_S256x256_S8x2048x256_2_0_01_1_n_n none l r) main_arg1 main_v82
  let main_v89 : FVec F S8x2048x256 .f32 := (fun l r => Host.dotGeneral dot_S8x2048x256_S256x256_S8x2048x256_2_0_01_1_n_n none l r) main_arg1 main_v84
  let main_c_28 : IVec S_ 32 := constantI S_ 32 0#32
  let main_v90 : IVec S8x512x16 32 := broadcastInDim S8x512x16 ![] bcast_S_S8x512x16 main_c_28
  let main_v91 : IVec S8x512x16 1 := cmpi .slt main_indices_27 main_v90
  let main_c_29 : IVec S_ 32 := constantI S_ 32 2048#32
  let main_v92 : IVec S8x512x16 32 := broadcastInDim S8x512x16 ![] bcast_S_S8x512x16 main_c_29
  let main_v93 : IVec S8x512x16 32 := addi main_indices_27 main_v92
  let main_v94 : IVec S8x512x16 32 := select main_v91 main_v93 main_indices_27
  let main_v95 : IVec S8x512x16x1 32 := broadcastInDim S8x512x16x1 ![0, 1, 2] bcast_S8x512x16_S8x512x16x1_0_1_2 main_v94
  let main_v96 : FVec F S8x512x16x256 .f32 := (fun x i => Host.gather gather_S8x2048x256_S8x512x16x1_S8x512x16x256_3_1_0_0_1_3_11256 x i) main_v88 main_v95
  let main_c_30 : IVec S_ 32 := constantI S_ 32 0#32
  let main_v97 : IVec S8x512x16 32 := broadcastInDim S8x512x16 ![] bcast_S_S8x512x16 main_c_30
  let main_v98 : IVec S8x512x16 1 := cmpi .slt main_indices_27 main_v97
  let main_c_31 : IVec S_ 32 := constantI S_ 32 2048#32
  let main_v99 : IVec S8x512x16 32 := broadcastInDim S8x512x16 ![] bcast_S_S8x512x16 main_c_31
  let main_v100 : IVec S8x512x16 32 := addi main_indices_27 main_v99
  let main_v101 : IVec S8x512x16 32 := select main_v98 main_v100 main_indices_27
  let main_v102 : IVec S8x512x16x1 32 := broadcastInDim S8x512x16x1 ![0, 1, 2] bcast_S8x512x16_S8x512x16x1_0_1_2 main_v101
  let main_v103 : FVec F S8x512x16x256 .f32 := (fun x i => Host.gather gather_S8x2048x256_S8x512x16x1_S8x512x16x256_3_1_0_0_1_3_11256 x i) main_v89 main_v102
  let main_v104 : FVec F S8x512x4x64 .f32 := shapeCast S8x512x4x64 main_v87 shapeCasts_S8x512x256_S8x512x4x64
  let main_v105 : FVec F S8x512x16x4x64 .f32 := shapeCast S8x512x16x4x64 main_v96 shapeCasts_S8x512x16x256_S8x512x16x4x64
  let main_v106 : FVec F S8x512x16x4x64 .f32 := shapeCast S8x512x16x4x64 main_v103 shapeCasts_S8x512x16x256_S8x512x16x4x64
  let main_v107 : FVec F S8x512x4x16 .f32 := (fun l r => Host.dotGeneral dot_S8x512x4x64_S8x512x16x4x64_S8x512x4x16_3_4_n_2_012_013 none l r) main_v104 main_v105
  fn_part6 (F := F) main_arg0 main_arg1 main_arg2 main_arg3 main_arg4 main_arg5 main_arg6 main_arg7 main_arg8 main_arg9 main_arg10 main_v3 main_v7 main_v11 main_v15 main_v19 main_v23 main_v27 main_v31 main_v35 main_v39 main_v43 main_v62 main_v78 main_v86 main_v106 main_v107

def fn_part4 {F : FTy → Type} [FloatOps F] (main_arg0 : FVec F S8x512x256 .f32) (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v62 : IVec S8x512 1) (main_v65 : FVec F S8x512x1 .f32) (main_v66 : FVec F S8x512x2048 .f32) (main_cst_24 : FVec F S_ .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v67 : FVec F S8x512x2048 .f32 := broadcastInDim S8x512x2048 ![] bcast_S_S8x512x2048 main_cst_24
  let main_v68 : FVec F S8x512x2048 .f32 := mulf main_v67 main_v66
  let main_v69 : FVec F S8x512x2048 .f32 := broadcastInDim S8x512x2048 ![0, 1, 2] bcast_S8x512x1_S8x512x2048_0_1_2 main_v65
  let main_v70 : FVec F S8x512x2048 .f32 := subf main_v69 main_v68
  let main_v71 : FVec F S8x2048x256 .f32 := mulf main_arg1 main_arg1
  let main_cst_25 : FVec F S_ .f32 := constant S_ .f32 0x00000000#32
  let main_v72 : FVec F S8x2048 .f32 := (fun x v => Host.reduceAdd x v reducesTo_S8x2048x256_S8x2048_d2 h_S_) main_v71 main_cst_25
  let main_v73 : FVec F S8x1x2048 .f32 := broadcastInDim S8x1x2048 ![0, 2] bcast_S8x2048_S8x1x2048_0_2 main_v72
  let main_v74 : FVec F S8x512x2048 .f32 := broadcastInDim S8x512x2048 ![0, 1, 2] bcast_S8x1x2048_S8x512x2048_0_1_2 main_v73
  let main_v75 : FVec F S8x512x2048 .f32 := addf main_v70 main_v74
  let main_v76 : FVec F S8x512x2048 .f32 := Host.negf main_v75
  let main_values_26 : FVec F S8x512x16 .f32 := (fun x => (Host.topK S8x512x16 2 (FloatOps.cmpfTotal .gt) x sliceFits_S8x512x2048_S8x512x16).1) main_v76
  let main_indices_27 : IVec S8x512x16 32 := (fun x => (Host.topK S8x512x16 2 (FloatOps.cmpfTotal .gt) x sliceFits_S8x512x2048_S8x512x16).2) main_v76
  let main_v77 : FVec F S1 .f32 := (extractStridedSlice S1 ![0] · slices_S4_S1_0) main_arg10
  let main_v78 : FVec F S_ .f32 := shapeCast S_ main_v77 shapeCasts_S1_S_
  let main_v79 : FVec F S1x256x256 .f32 := (extractStridedSlice S1x256x256 ![0, 0, 0] · slices_S4x256x256_S1x256x256_0_0_0) main_arg2
  let main_v80 : FVec F S256x256 .f32 := shapeCast S256x256 main_v79 shapeCasts_S1x256x256_S256x256
  let main_v81 : FVec F S1x256x256 .f32 := (extractStridedSlice S1x256x256 ![0, 0, 0] · slices_S4x256x256_S1x256x256_0_0_0) main_arg3
  let main_v82 : FVec F S256x256 .f32 := shapeCast S256x256 main_v81 shapeCasts_S1x256x256_S256x256
  let main_v83 : FVec F S1x256x256 .f32 := (extractStridedSlice S1x256x256 ![0, 0, 0] · slices_S4x256x256_S1x256x256_0_0_0) main_arg4
  let main_v84 : FVec F S256x256 .f32 := shapeCast S256x256 main_v83 shapeCasts_S1x256x256_S256x256
  let main_v85 : FVec F S1x256x256 .f32 := (extractStridedSlice S1x256x256 ![0, 0, 0] · slices_S4x256x256_S1x256x256_0_0_0) main_arg5
  let main_v86 : FVec F S256x256 .f32 := shapeCast S256x256 main_v85 shapeCasts_S1x256x256_S256x256
  let main_v87 : FVec F S8x512x256 .f32 := (fun l r => Host.dotGeneral dot_S8x512x256_S256x256_S8x512x256_2_0_01_1_n_n none l r) main_arg0 main_v80
  fn_part5 (F := F) main_arg0 main_arg1 main_arg2 main_arg3 main_arg4 main_arg5 main_arg6 main_arg7 main_arg8 main_arg9 main_arg10 main_v3 main_v7 main_v11 main_v15 main_v19 main_v23 main_v27 main_v31 main_v35 main_v39 main_v43 main_v62 main_indices_27 main_v78 main_v82 main_v84 main_v86 main_v87

def fn_part3 {F : FTy → Type} [FloatOps F] (main_arg0 : FVec F S8x512x256 .f32) (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) (main_v35 : IVec S_ 1) (main_v39 : IVec S_ 1) (main_v43 : IVec S_ 1) (main_v46 : FVec F S8x512x1 .f32) (main_v47 : FVec F S8x512x2048 .f32) (main_cst_21 : FVec F S_ .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v48 : FVec F S8x512x2048 .f32 := broadcastInDim S8x512x2048 ![] bcast_S_S8x512x2048 main_cst_21
  let main_v49 : FVec F S8x512x2048 .f32 := mulf main_v48 main_v47
  let main_v50 : FVec F S8x512x2048 .f32 := broadcastInDim S8x512x2048 ![0, 1, 2] bcast_S8x512x1_S8x512x2048_0_1_2 main_v46
  let main_v51 : FVec F S8x512x2048 .f32 := subf main_v50 main_v49
  let main_v52 : FVec F S8x2048x256 .f32 := mulf main_arg1 main_arg1
  let main_cst_22 : FVec F S_ .f32 := constant S_ .f32 0x00000000#32
  let main_v53 : FVec F S8x2048 .f32 := (fun x v => Host.reduceAdd x v reducesTo_S8x2048x256_S8x2048_d2 h_S_) main_v52 main_cst_22
  let main_v54 : FVec F S8x1x2048 .f32 := broadcastInDim S8x1x2048 ![0, 2] bcast_S8x2048_S8x1x2048_0_2 main_v53
  let main_v55 : FVec F S8x512x2048 .f32 := broadcastInDim S8x512x2048 ![0, 1, 2] bcast_S8x1x2048_S8x512x2048_0_1_2 main_v54
  let main_v56 : FVec F S8x512x2048 .f32 := addf main_v51 main_v55
  let main_v57 : FVec F S8x512x2048 .f32 := Host.negf main_v56
  let main_values : FVec F S8x512x17 .f32 := (fun x => (Host.topK S8x512x17 2 (FloatOps.cmpfTotal .gt) x sliceFits_S8x512x2048_S8x512x17).1) main_v57
  let main_indices : IVec S8x512x17 32 := (fun x => (Host.topK S8x512x17 2 (FloatOps.cmpfTotal .gt) x sliceFits_S8x512x2048_S8x512x17).2) main_v57
  let main_v58 : FVec F S8x512x1 .f32 := (extractStridedSlice S8x512x1 ![0, 0, 15] · slices_S8x512x17_S8x512x1_0_0_15) main_values
  let main_v59 : FVec F S8x512 .f32 := shapeCast S8x512 main_v58 shapeCasts_S8x512x1_S8x512
  let main_v60 : FVec F S8x512x1 .f32 := (extractStridedSlice S8x512x1 ![0, 0, 16] · slices_S8x512x17_S8x512x1_0_0_16) main_values
  let main_v61 : FVec F S8x512 .f32 := shapeCast S8x512 main_v60 shapeCasts_S8x512x1_S8x512
  let main_v62 : IVec S8x512 1 := cmpf .ogt main_v59 main_v61
  let main_v63 : FVec F S8x512x256 .f32 := mulf main_arg0 main_arg0
  let main_cst_23 : FVec F S_ .f32 := constant S_ .f32 0x00000000#32
  let main_v64 : FVec F S8x512 .f32 := (fun x v => Host.reduceAdd x v reducesTo_S8x512x256_S8x512_d2 h_S_) main_v63 main_cst_23
  let main_v65 : FVec F S8x512x1 .f32 := broadcastInDim S8x512x1 ![0, 1] bcast_S8x512_S8x512x1_0_1 main_v64
  let main_v66 : FVec F S8x512x2048 .f32 := (fun l r => Host.dotGeneral dot_S8x512x256_S8x2048x256_S8x512x2048_2_2_1_1_0_0 none l r) main_arg0 main_arg1
  let main_cst_24 : FVec F S_ .f32 := constant S_ .f32 0x40000000#32
  fn_part4 (F := F) main_arg0 main_arg1 main_arg2 main_arg3 main_arg4 main_arg5 main_arg6 main_arg7 main_arg8 main_arg9 main_arg10 main_v3 main_v7 main_v11 main_v15 main_v19 main_v23 main_v27 main_v31 main_v35 main_v39 main_v43 main_v62 main_v65 main_v66 main_cst_24

def fn_part2 {F : FTy → Type} [FloatOps F] (main_arg0 : FVec F S8x512x256 .f32) (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v32 : FVec F S3x1024x256 .f32 := Host.absf main_arg8
  let main_cst_14 : FVec F S_ .f32 := constant S_ .f32 0x7F800000#32
  let main_v33 : FVec F S3x1024x256 .f32 := broadcastInDim S3x1024x256 ![] bcast_S_S3x1024x256 main_cst_14
  let main_v34 : IVec S3x1024x256 1 := cmpf .olt main_v32 main_v33
  let main_c_15 : IVec S_ 1 := constantI S_ 1 1#1
  let main_v35 : IVec S_ 1 := (fun x v => Host.reduce IntOp.andi x v reducesTo_S3x1024x256_S_d0_1_2 h_S_) main_v34 main_c_15
  let main_v36 : FVec F S3x256 .f32 := Host.absf main_arg9
  let main_cst_16 : FVec F S_ .f32 := constant S_ .f32 0x7F800000#32
  let main_v37 : FVec F S3x256 .f32 := broadcastInDim S3x256 ![] bcast_S_S3x256 main_cst_16
  let main_v38 : IVec S3x256 1 := cmpf .olt main_v36 main_v37
  let main_c_17 : IVec S_ 1 := constantI S_ 1 1#1
  let main_v39 : IVec S_ 1 := (fun x v => Host.reduce IntOp.andi x v reducesTo_S3x256_S_d0_1 h_S_) main_v38 main_c_17
  let main_v40 : FVec F S4 .f32 := Host.absf main_arg10
  let main_cst_18 : FVec F S_ .f32 := constant S_ .f32 0x7F800000#32
  let main_v41 : FVec F S4 .f32 := broadcastInDim S4 ![] bcast_S_S4 main_cst_18
  let main_v42 : IVec S4 1 := cmpf .olt main_v40 main_v41
  let main_c_19 : IVec S_ 1 := constantI S_ 1 1#1
  let main_v43 : IVec S_ 1 := (fun x v => Host.reduce IntOp.andi x v reducesTo_S4_S_d0 h_S_) main_v42 main_c_19
  let main_v44 : FVec F S8x512x256 .f32 := mulf main_arg0 main_arg0
  let main_cst_20 : FVec F S_ .f32 := constant S_ .f32 0x00000000#32
  let main_v45 : FVec F S8x512 .f32 := (fun x v => Host.reduceAdd x v reducesTo_S8x512x256_S8x512_d2 h_S_) main_v44 main_cst_20
  let main_v46 : FVec F S8x512x1 .f32 := broadcastInDim S8x512x1 ![0, 1] bcast_S8x512_S8x512x1_0_1 main_v45
  let main_v47 : FVec F S8x512x2048 .f32 := (fun l r => Host.dotGeneral dot_S8x512x256_S8x2048x256_S8x512x2048_2_2_1_1_0_0 none l r) main_arg0 main_arg1
  let main_cst_21 : FVec F S_ .f32 := constant S_ .f32 0x40000000#32
  fn_part3 (F := F) main_arg0 main_arg1 main_arg2 main_arg3 main_arg4 main_arg5 main_arg6 main_arg7 main_arg8 main_arg9 main_arg10 main_v3 main_v7 main_v11 main_v15 main_v19 main_v23 main_v27 main_v31 main_v35 main_v39 main_v43 main_v46 main_v47 main_cst_21

def fn_part1 {F : FTy → Type} [FloatOps F] (main_arg0 : FVec F S8x512x256 .f32) (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) (main_v3 : IVec S_ 1) (main_v7 : IVec S_ 1) (main_v11 : IVec S_ 1) (main_v15 : IVec S_ 1) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v16 : FVec F S4x256x256 .f32 := Host.absf main_arg4
  let main_cst_6 : FVec F S_ .f32 := constant S_ .f32 0x7F800000#32
  let main_v17 : FVec F S4x256x256 .f32 := broadcastInDim S4x256x256 ![] bcast_S_S4x256x256 main_cst_6
  let main_v18 : IVec S4x256x256 1 := cmpf .olt main_v16 main_v17
  let main_c_7 : IVec S_ 1 := constantI S_ 1 1#1
  let main_v19 : IVec S_ 1 := (fun x v => Host.reduce IntOp.andi x v reducesTo_S4x256x256_S_d0_1_2 h_S_) main_v18 main_c_7
  let main_v20 : FVec F S4x256x256 .f32 := Host.absf main_arg5
  let main_cst_8 : FVec F S_ .f32 := constant S_ .f32 0x7F800000#32
  let main_v21 : FVec F S4x256x256 .f32 := broadcastInDim S4x256x256 ![] bcast_S_S4x256x256 main_cst_8
  let main_v22 : IVec S4x256x256 1 := cmpf .olt main_v20 main_v21
  let main_c_9 : IVec S_ 1 := constantI S_ 1 1#1
  let main_v23 : IVec S_ 1 := (fun x v => Host.reduce IntOp.andi x v reducesTo_S4x256x256_S_d0_1_2 h_S_) main_v22 main_c_9
  let main_v24 : FVec F S3x256x1024 .f32 := Host.absf main_arg6
  let main_cst_10 : FVec F S_ .f32 := constant S_ .f32 0x7F800000#32
  let main_v25 : FVec F S3x256x1024 .f32 := broadcastInDim S3x256x1024 ![] bcast_S_S3x256x1024 main_cst_10
  let main_v26 : IVec S3x256x1024 1 := cmpf .olt main_v24 main_v25
  let main_c_11 : IVec S_ 1 := constantI S_ 1 1#1
  let main_v27 : IVec S_ 1 := (fun x v => Host.reduce IntOp.andi x v reducesTo_S3x256x1024_S_d0_1_2 h_S_) main_v26 main_c_11
  let main_v28 : FVec F S3x1024 .f32 := Host.absf main_arg7
  let main_cst_12 : FVec F S_ .f32 := constant S_ .f32 0x7F800000#32
  let main_v29 : FVec F S3x1024 .f32 := broadcastInDim S3x1024 ![] bcast_S_S3x1024 main_cst_12
  let main_v30 : IVec S3x1024 1 := cmpf .olt main_v28 main_v29
  let main_c_13 : IVec S_ 1 := constantI S_ 1 1#1
  let main_v31 : IVec S_ 1 := (fun x v => Host.reduce IntOp.andi x v reducesTo_S3x1024_S_d0_1 h_S_) main_v30 main_c_13
  fn_part2 (F := F) main_arg0 main_arg1 main_arg2 main_arg3 main_arg4 main_arg5 main_arg6 main_arg7 main_arg8 main_arg9 main_arg10 main_v3 main_v7 main_v11 main_v15 main_v19 main_v23 main_v27 main_v31

def fn {F : FTy → Type} [FloatOps F] (main_arg0 : FVec F S8x512x256 .f32) (main_arg1 : FVec F S8x2048x256 .f32) (main_arg2 : FVec F S4x256x256 .f32) (main_arg3 : FVec F S4x256x256 .f32) (main_arg4 : FVec F S4x256x256 .f32) (main_arg5 : FVec F S4x256x256 .f32) (main_arg6 : FVec F S3x256x1024 .f32) (main_arg7 : FVec F S3x1024 .f32) (main_arg8 : FVec F S3x1024x256 .f32) (main_arg9 : FVec F S3x256 .f32) (main_arg10 : FVec F S4 .f32) : IVec S_ 1 × IVec S_ 1 × IVec S_ 1 × IVec S_ 1 × IVec S_ 1 × IVec S_ 1 × IVec S_ 1 × IVec S_ 1 × IVec S_ 1 × IVec S_ 1 × IVec S_ 1 × IVec S8x512 1 × IVec S8x512 1 × IVec S8x512 1 × IVec S8x512 1 :=
  let main_v0 : FVec F S8x512x256 .f32 := Host.absf main_arg0
  let main_cst : FVec F S_ .f32 := constant S_ .f32 0x7F800000#32
  let main_v1 : FVec F S8x512x256 .f32 := broadcastInDim S8x512x256 ![] bcast_S_S8x512x256 main_cst
  let main_v2 : IVec S8x512x256 1 := cmpf .olt main_v0 main_v1
  let main_c : IVec S_ 1 := constantI S_ 1 1#1
  let main_v3 : IVec S_ 1 := (fun x v => Host.reduce IntOp.andi x v reducesTo_S8x512x256_S_d0_1_2 h_S_) main_v2 main_c
  let main_v4 : FVec F S8x2048x256 .f32 := Host.absf main_arg1
  let main_cst_0 : FVec F S_ .f32 := constant S_ .f32 0x7F800000#32
  let main_v5 : FVec F S8x2048x256 .f32 := broadcastInDim S8x2048x256 ![] bcast_S_S8x2048x256 main_cst_0
  let main_v6 : IVec S8x2048x256 1 := cmpf .olt main_v4 main_v5
  let main_c_1 : IVec S_ 1 := constantI S_ 1 1#1
  let main_v7 : IVec S_ 1 := (fun x v => Host.reduce IntOp.andi x v reducesTo_S8x2048x256_S_d0_1_2 h_S_) main_v6 main_c_1
  let main_v8 : FVec F S4x256x256 .f32 := Host.absf main_arg2
  let main_cst_2 : FVec F S_ .f32 := constant S_ .f32 0x7F800000#32
  let main_v9 : FVec F S4x256x256 .f32 := broadcastInDim S4x256x256 ![] bcast_S_S4x256x256 main_cst_2
  let main_v10 : IVec S4x256x256 1 := cmpf .olt main_v8 main_v9
  let main_c_3 : IVec S_ 1 := constantI S_ 1 1#1
  let main_v11 : IVec S_ 1 := (fun x v => Host.reduce IntOp.andi x v reducesTo_S4x256x256_S_d0_1_2 h_S_) main_v10 main_c_3
  let main_v12 : FVec F S4x256x256 .f32 := Host.absf main_arg3
  let main_cst_4 : FVec F S_ .f32 := constant S_ .f32 0x7F800000#32
  let main_v13 : FVec F S4x256x256 .f32 := broadcastInDim S4x256x256 ![] bcast_S_S4x256x256 main_cst_4
  let main_v14 : IVec S4x256x256 1 := cmpf .olt main_v12 main_v13
  let main_c_5 : IVec S_ 1 := constantI S_ 1 1#1
  let main_v15 : IVec S_ 1 := (fun x v => Host.reduce IntOp.andi x v reducesTo_S4x256x256_S_d0_1_2 h_S_) main_v14 main_c_5
  fn_part1 (F := F) main_arg0 main_arg1 main_arg2 main_arg3 main_arg4 main_arg5 main_arg6 main_arg7 main_arg8 main_arg9 main_arg10 main_v3 main_v7 main_v11 main_v15
-- ==== Kernel.lean ====
abbrev S8x512x256 : Shape := ⟨3, ![8, 512, 256]⟩
abbrev S8x2048x256 : Shape := ⟨3, ![8, 2048, 256]⟩
abbrev S4x256x256 : Shape := ⟨3, ![4, 256, 256]⟩
abbrev S3x256x1024 : Shape := ⟨3, ![3, 256, 1024]⟩
abbrev S3x1024 : Shape := ⟨2, ![3, 1024]⟩
abbrev S3x1024x256 : Shape := ⟨3, ![3, 1024, 256]⟩
abbrev S3x256 : Shape := ⟨2, ![3, 256]⟩
abbrev S4 : Shape := ⟨1, ![4]⟩
abbrev S3x1x1024 : Shape := ⟨3, ![3, 1, 1024]⟩
abbrev S3x1x256 : Shape := ⟨3, ![3, 1, 256]⟩
abbrev S1x512x256 : Shape := ⟨3, ![1, 512, 256]⟩
abbrev S1x2048x256 : Shape := ⟨3, ![1, 2048, 256]⟩
abbrev S1x256x256 : Shape := ⟨3, ![1, 256, 256]⟩
abbrev S1x256x1024 : Shape := ⟨3, ![1, 256, 1024]⟩
abbrev S1x1x1024 : Shape := ⟨3, ![1, 1, 1024]⟩
abbrev S1x1024x256 : Shape := ⟨3, ![1, 1024, 256]⟩
abbrev S1x1x256 : Shape := ⟨3, ![1, 1, 256]⟩
abbrev S512x256 : Shape := ⟨2, ![512, 256]⟩
abbrev S2048x256 : Shape := ⟨2, ![2048, 256]⟩
abbrev S1 : Shape := ⟨1, ![1]⟩
abbrev S2048 : Shape := ⟨1, ![2048]⟩
abbrev S2048x1 : Shape := ⟨2, ![2048, 1]⟩
abbrev S2048x512 : Shape := ⟨2, ![2048, 512]⟩
abbrev S128x512 : Shape := ⟨2, ![128, 512]⟩
abbrev S64x512 : Shape := ⟨2, ![64, 512]⟩
abbrev S32x512 : Shape := ⟨2, ![32, 512]⟩
abbrev S16x512 : Shape := ⟨2, ![16, 512]⟩
abbrev S8x512 : Shape := ⟨2, ![8, 512]⟩
abbrev S4x512 : Shape := ⟨2, ![4, 512]⟩
abbrev S2x512 : Shape := ⟨2, ![2, 512]⟩
abbrev S1x512 : Shape := ⟨2, ![1, 512]⟩
abbrev S256x256 : Shape := ⟨2, ![256, 256]⟩
abbrev S2048x64 : Shape := ⟨2, ![2048, 64]⟩
abbrev S512x64 : Shape := ⟨2, ![512, 64]⟩
abbrev S2048x128 : Shape := ⟨2, ![2048, 128]⟩
abbrev S512x128 : Shape := ⟨2, ![512, 128]⟩
abbrev S512x1 : Shape := ⟨2, ![512, 1]⟩
abbrev S256x1024 : Shape := ⟨2, ![256, 1024]⟩
abbrev S512x1024 : Shape := ⟨2, ![512, 1024]⟩
abbrev S1x1024 : Shape := ⟨2, ![1, 1024]⟩
abbrev S1024x256 : Shape := ⟨2, ![1024, 256]⟩
abbrev S1x256 : Shape := ⟨2, ![1, 256]⟩

abbrev nBuf : Space → Nat
  | .hbm => 14
  | .vmem => 23
  | .smem => 1
  | _ => 0

abbrev bufTy : (tb : Table) → Fin (tcTables nBuf tb) → BufTy
  | .hbm, ⟨0, _⟩ => ⟨S8x512x256, .f32⟩
  | .hbm, ⟨1, _⟩ => ⟨S8x2048x256, .f32⟩
  | .hbm, ⟨2, _⟩ => ⟨S4x256x256, .f32⟩
  | .hbm, ⟨3, _⟩ => ⟨S4x256x256, .f32⟩
  | .hbm, ⟨4, _⟩ => ⟨S4x256x256, .f32⟩
  | .hbm, ⟨5, _⟩ => ⟨S4x256x256, .f32⟩
  | .hbm, ⟨6, _⟩ => ⟨S3x256x1024, .f32⟩
  | .hbm, ⟨7, _⟩ => ⟨S3x1024, .f32⟩
  | .hbm, ⟨8, _⟩ => ⟨S3x1024x256, .f32⟩
  | .hbm, ⟨9, _⟩ => ⟨S3x256, .f32⟩
  | .hbm, ⟨10, _⟩ => ⟨S4, .f32⟩
  | .hbm, ⟨11, _⟩ => ⟨S3x1x1024, .f32⟩
  | .hbm, ⟨12, _⟩ => ⟨S3x1x256, .f32⟩
  | .hbm, ⟨13, _⟩ => ⟨S8x512x256, .f32⟩
  | .local _ .vmem, ⟨0, _⟩ => ⟨S1x512x256, .f32⟩
  | .local _ .vmem, ⟨1, _⟩ => ⟨S1x512x256, .f32⟩
  | .local _ .vmem, ⟨2, _⟩ => ⟨S1x2048x256, .f32⟩
  | .local _ .vmem, ⟨3, _⟩ => ⟨S1x2048x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x1024, .f32⟩
  | .local _ .vmem, ⟨13, _⟩ => ⟨S1x256x1024, .f32⟩
  | .local _ .vmem, ⟨14, _⟩ => ⟨S1x1x1024, .f32⟩
  | .local _ .vmem, ⟨15, _⟩ => ⟨S1x1x1024, .f32⟩
  | .local _ .vmem, ⟨16, _⟩ => ⟨S1x1024x256, .f32⟩
  | .local _ .vmem, ⟨17, _⟩ => ⟨S1x1024x256, .f32⟩
  | .local _ .vmem, ⟨18, _⟩ => ⟨S1x1x256, .f32⟩
  | .local _ .vmem, ⟨19, _⟩ => ⟨S1x1x256, .f32⟩
  | .local _ .vmem, ⟨20, _⟩ => ⟨S1x512x256, .f32⟩
  | .local _ .vmem, ⟨21, _⟩ => ⟨S1x512x256, .f32⟩
  | .local _ .vmem, ⟨22, _⟩ => ⟨S512x256, .f32⟩
  | .local _ .smem, ⟨0, _⟩ => ⟨S4, .f32⟩
  | _, _ => ⟨S8x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_stg10_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨2, ![8, 4], ![false, false]⟩

def k0_off1 (i : grid0.Coords) : Fin 1 → Nat :=
  let arg1 : BitVec 32 := BitVec.ofNat 32 (i 1).val
  let v6 : Index := Scalar.indexCast arg1
  ![v6.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .smem S4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== KernelIdeal.lean ====
variable {F : FTy → Type} [FloatOps F] [Named F]
def κ : String → Option EReal := fun
  | "gelu_cubic" => some ((12003091 / 268435456 : ℝ) : EReal)
  | "log2e_over_8" => some (((Real.log 2)⁻¹ * (1 / 8) : ℝ) : EReal)
  | "sqrt_2_over_pi" => some ((6693141 / 8388608 : ℝ) : EReal)
  | _ => none
-- ==== ReferenceIdeal.lean ====
abbrev S8x512x256 : Shape := ⟨3, ![8, 512, 256]⟩
abbrev S8x2048x256 : Shape := ⟨3, ![8, 2048, 256]⟩
abbrev S4x256x256 : Shape := ⟨3, ![4, 256, 256]⟩
abbrev S3x256x1024 : Shape := ⟨3, ![3, 256, 1024]⟩
abbrev S3x1024 : Shape := ⟨2, ![3, 1024]⟩
abbrev S3x1024x256 : Shape := ⟨3, ![3, 1024, 256]⟩
abbrev S3x256 : Shape := ⟨2, ![3, 256]⟩
abbrev S4 : Shape := ⟨1, ![4]⟩
abbrev S_ : Shape := ⟨0, ![]⟩
abbrev S8x512 : Shape := ⟨2, ![8, 512]⟩
abbrev S8x512x1 : Shape := ⟨3, ![8, 512, 1]⟩
abbrev S8x512x2048 : Shape := ⟨3, ![8, 512, 2048]⟩
abbrev S8x2048 : Shape := ⟨2, ![8, 2048]⟩
abbrev S8x1x2048 : Shape := ⟨3, ![8, 1, 2048]⟩
abbrev S8x512x16 : Shape := ⟨3, ![8, 512, 16]⟩
abbrev S1 : Shape := ⟨1, ![1]⟩
abbrev S1x256x256 : Shape := ⟨3, ![1, 256, 256]⟩
abbrev S256x256 : Shape := ⟨2, ![256, 256]⟩
abbrev S8x512x16x1 : Shape := ⟨4, ![8, 512, 16, 1]⟩
abbrev S8x512x16x256 : Shape := ⟨4, ![8, 512, 16, 256]⟩
abbrev S8x512x4x64 : Shape := ⟨4, ![8, 512, 4, 64]⟩
abbrev S8x512x16x4x64 : Shape := ⟨5, ![8, 512, 16, 4, 64]⟩
abbrev S8x512x4x16 : Shape := ⟨4, ![8, 512, 4, 16]⟩
abbrev S8x512x4 : Shape := ⟨3, ![8, 512, 4]⟩
abbrev S8x512x4x1 : Shape := ⟨4, ![8, 512, 4, 1]⟩
abbrev S1x256x1024 : Shape := ⟨3, ![1, 256, 1024]⟩
abbrev S256x1024 : Shape := ⟨2, ![256, 1024]⟩
abbrev S1x1024 : Shape := ⟨2, ![1, 1024]⟩
abbrev S1024 : Shape := ⟨1, ![1024]⟩
abbrev S1x1024x256 : Shape := ⟨3, ![1, 1024, 256]⟩
abbrev S1024x256 : Shape := ⟨2, ![1024, 256]⟩
abbrev S1x256 : Shape := ⟨2, ![1, 256]⟩
abbrev S256 : Shape := ⟨1, ![256]⟩
abbrev S8x512x1024 : Shape := ⟨3, ![8, 512, 1024]⟩
abbrev S1x1x1024 : Shape := ⟨3, ![1, 1, 1024]⟩
abbrev S1x1x256 : Shape := ⟨3, ![1, 1, 256]⟩

abbrev nBuf : Space → Nat
  | .hbm => 441
  | .vmem => 0
  | .smem => 0
  | _ => 0

abbrev hbmTy0_0 (i : Nat) : BufTy := match i % 128 with
  | 0 => ⟨S8x512x256, .f32⟩
  | 1 => ⟨S8x2048x256, .f32⟩
  | 2 => ⟨S4x256x256, .f32⟩
  | 3 => ⟨S4x256x256, .f32⟩
  | 4 => ⟨S4x256x256, .f32⟩
  | 5 => ⟨S4x256x256, .f32⟩
  | 6 => ⟨S3x256x1024, .f32⟩
  | 7 => ⟨S3x1024, .f32⟩
  | 8 => ⟨S3x1024x256, .f32⟩
  | 9 => ⟨S3x256, .f32⟩
  | 10 => ⟨S4, .f32⟩
  | 11 => ⟨S8x512x256, .f32⟩
  | 12 => ⟨S_, .f32⟩
  | 13 => ⟨S8x512, .f32⟩
  | 14 => ⟨S8x512x1, .f32⟩
  | 15 => ⟨S8x512x2048, .f32⟩
  | 16 => ⟨S_, .f32⟩
  | 17 => ⟨S8x512x2048, .f32⟩
  | 18 => ⟨S8x512x2048, .f32⟩
  | 19 => ⟨S8x512x2048, .f32⟩
  | 20 => ⟨S8x512x2048, .f32⟩
  | 21 => ⟨S8x2048x256, .f32⟩
  | 22 => ⟨S_, .f32⟩
  | 23 => ⟨S8x2048, .f32⟩
  | 24 => ⟨S8x1x2048, .f32⟩
  | 25 => ⟨S8x512x2048, .f32⟩
  | 26 => ⟨S8x512x2048, .f32⟩
  | 27 => ⟨S8x512x2048, .f32⟩
  | 28 => ⟨S8x512x16, .f32⟩
  | 29 => ⟨S8x512x16, .i32⟩
  | 30 => ⟨S1, .f32⟩
  | 31 => ⟨S_, .f32⟩
  | 32 => ⟨S1x256x256, .f32⟩
  | 33 => ⟨S256x256, .f32⟩
  | 34 => ⟨S1x256x256, .f32⟩
  | 35 => ⟨S256x256, .f32⟩
  | 36 => ⟨S1x256x256, .f32⟩
  | 37 => ⟨S256x256, .f32⟩
  | 38 => ⟨S1x256x256, .f32⟩
  | 39 => ⟨S256x256, .f32⟩
  | 40 => ⟨S8x512x256, .f32⟩
  | 41 => ⟨S8x2048x256, .f32⟩
  | 42 => ⟨S8x2048x256, .f32⟩
  | 43 => ⟨S_, .i32⟩
  | 44 => ⟨S8x512x16, .i32⟩
  | 45 => ⟨S8x512x16, .i1⟩
  | 46 => ⟨S_, .i32⟩
  | 47 => ⟨S8x512x16, .i32⟩
  | 48 => ⟨S8x512x16, .i32⟩
  | 49 => ⟨S8x512x16, .i32⟩
  | 50 => ⟨S8x512x16x1, .i32⟩
  | 51 => ⟨S8x512x16x256, .f32⟩
  | 52 => ⟨S_, .i32⟩
  | 53 => ⟨S8x512x16, .i32⟩
  | 54 => ⟨S8x512x16, .i1⟩
  | 55 => ⟨S_, .i32⟩
  | 56 => ⟨S8x512x16, .i32⟩
  | 57 => ⟨S8x512x16, .i32⟩
  | 58 => ⟨S8x512x16, .i32⟩
  | 59 => ⟨S8x512x16x1, .i32⟩
  | 60 => ⟨S8x512x16x256, .f32⟩
  | 61 => ⟨S8x512x4x64, .f32⟩
  | 62 => ⟨S8x512x16x4x64, .f32⟩
  | 63 => ⟨S8x512x16x4x64, .f32⟩
  | 64 => ⟨S8x512x4x16, .f32⟩
  | 65 => ⟨S_, .f32⟩
  | 66 => ⟨S_, .f32⟩
  | 67 => ⟨S_, .f32⟩
  | 68 => ⟨S8x512x4x16, .f32⟩
  | 69 => ⟨S8x512x4x16, .f32⟩
  | 70 => ⟨S_, .f32⟩
  | 71 => ⟨S8x512x4, .f32⟩
  | 72 => ⟨S_, .f32⟩
  | 73 => ⟨S8x512x4, .f32⟩
  | 74 => ⟨S8x512x4, .f32⟩
  | 75 => ⟨S8x512x4x1, .f32⟩
  | 76 => ⟨S8x512x4x16, .f32⟩
  | 77 => ⟨S8x512x4x16, .f32⟩
  | 78 => ⟨S8x512x4x16, .f32⟩
  | 79 => ⟨S_, .f32⟩
  | 80 => ⟨S8x512x4, .f32⟩
  | 81 => ⟨S8x512x4x1, .f32⟩
  | 82 => ⟨S8x512x4x16, .f32⟩
  | 83 => ⟨S8x512x4x16, .f32⟩
  | 84 => ⟨S8x512x4x64, .f32⟩
  | 85 => ⟨S8x512x256, .f32⟩
  | 86 => ⟨S8x512x256, .f32⟩
  | 87 => ⟨S8x512x256, .f32⟩
  | 88 => ⟨S8x512x256, .f32⟩
  | 89 => ⟨S8x512x256, .f32⟩
  | 90 => ⟨S8x512x256, .f32⟩
  | 91 => ⟨S_, .f32⟩
  | 92 => ⟨S8x512, .f32⟩
  | 93 => ⟨S8x512x1, .f32⟩
  | 94 => ⟨S8x512x2048, .f32⟩
  | 95 => ⟨S_, .f32⟩
  | 96 => ⟨S8x512x2048, .f32⟩
  | 97 => ⟨S8x512x2048, .f32⟩
  | 98 => ⟨S8x512x2048, .f32⟩
  | 99 => ⟨S8x512x2048, .f32⟩
  | 100 => ⟨S8x2048x256, .f32⟩
  | 101 => ⟨S_, .f32⟩
  | 102 => ⟨S8x2048, .f32⟩
  | 103 => ⟨S8x1x2048, .f32⟩
  | 104 => ⟨S8x512x2048, .f32⟩
  | 105 => ⟨S8x512x2048, .f32⟩
  | 106 => ⟨S8x512x2048, .f32⟩
  | 107 => ⟨S8x512x16, .f32⟩
  | 108 => ⟨S8x512x16, .i32⟩
  | 109 => ⟨S1, .f32⟩
  | 110 => ⟨S_, .f32⟩
  | 111 => ⟨S1x256x256, .f32⟩
  | 112 => ⟨S256x256, .f32⟩
  | 113 => ⟨S1x256x256, .f32⟩
  | 114 => ⟨S256x256, .f32⟩
  | 115 => ⟨S1x256x256, .f32⟩
  | 116 => ⟨S256x256, .f32⟩
  | 117 => ⟨S1x256x256, .f32⟩
  | 118 => ⟨S256x256, .f32⟩
  | 119 => ⟨S8x512x256, .f32⟩
  | 120 => ⟨S8x2048x256, .f32⟩
  | 121 => ⟨S8x2048x256, .f32⟩
  | 122 => ⟨S_, .i32⟩
  | 123 => ⟨S8x512x16, .i32⟩
  | 124 => ⟨S8x512x16, .i1⟩
  | 125 => ⟨S_, .i32⟩
  | 126 => ⟨S8x512x16, .i32⟩
  | 127 => ⟨S8x512x16, .i32⟩
  | _ => ⟨S8x512x256, .f32⟩

abbrev hbmTy0_1 (i : Nat) : BufTy := match i % 128 with
  | 0 => ⟨S8x512x16, .i32⟩
  | 1 => ⟨S8x512x16x1, .i32⟩
  | 2 => ⟨S8x512x16x256, .f32⟩
  | 3 => ⟨S_, .i32⟩
  | 4 => ⟨S8x512x16, .i32⟩
  | 5 => ⟨S8x512x16, .i1⟩
  | 6 => ⟨S_, .i32⟩
  | 7 => ⟨S8x512x16, .i32⟩
  | 8 => ⟨S8x512x16, .i32⟩
  | 9 => ⟨S8x512x16, .i32⟩
  | 10 => ⟨S8x512x16x1, .i32⟩
  | 11 => ⟨S8x512x16x256, .f32⟩
  | 12 => ⟨S8x512x4x64, .f32⟩
  | 13 => ⟨S8x512x16x4x64, .f32⟩
  | 14 => ⟨S8x512x16x4x64, .f32⟩
  | 15 => ⟨S8x512x4x16, .f32⟩
  | 16 => ⟨S_, .f32⟩
  | 17 => ⟨S_, .f32⟩
  | 18 => ⟨S_, .f32⟩
  | 19 => ⟨S8x512x4x16, .f32⟩
  | 20 => ⟨S8x512x4x16, .f32⟩
  | 21 => ⟨S_, .f32⟩
  | 22 => ⟨S8x512x4, .f32⟩
  | 23 => ⟨S_, .f32⟩
  | 24 => ⟨S8x512x4, .f32⟩
  | 25 => ⟨S8x512x4, .f32⟩
  | 26 => ⟨S8x512x4x1, .f32⟩
  | 27 => ⟨S8x512x4x16, .f32⟩
  | 28 => ⟨S8x512x4x16, .f32⟩
  | 29 => ⟨S8x512x4x16, .f32⟩
  | 30 => ⟨S_, .f32⟩
  | 31 => ⟨S8x512x4, .f32⟩
  | 32 => ⟨S8x512x4x1, .f32⟩
  | 33 => ⟨S8x512x4x16, .f32⟩
  | 34 => ⟨S8x512x4x16, .f32⟩
  | 35 => ⟨S8x512x4x64, .f32⟩
  | 36 => ⟨S8x512x256, .f32⟩
  | 37 => ⟨S8x512x256, .f32⟩
  | 38 => ⟨S8x512x256, .f32⟩
  | 39 => ⟨S8x512x256, .f32⟩
  | 40 => ⟨S8x512x256, .f32⟩
  | 41 => ⟨S1, .f32⟩
  | 42 => ⟨S_, .f32⟩
  | 43 => ⟨S1x256x1024, .f32⟩
  | 44 => ⟨S256x1024, .f32⟩
  | 45 => ⟨S1x1024, .f32⟩
  | 46 => ⟨S1024, .f32⟩
  | 47 => ⟨S1x1024x256, .f32⟩
  | 48 => ⟨S1024x256, .f32⟩
  | 49 => ⟨S1x256, .f32⟩
  | 50 => ⟨S256, .f32⟩
  | 51 => ⟨S8x512x1024, .f32⟩
  | 52 => ⟨S1x1x1024, .f32⟩
  | 53 => ⟨S8x512x1024, .f32⟩
  | 54 => ⟨S8x512x1024, .f32⟩
  | 55 => ⟨S8x512x1024, .f32⟩
  | 56 => ⟨S8x512x1024, .f32⟩
  | 57 => ⟨S_, .f32⟩
  | 58 => ⟨S8x512x1024, .f32⟩
  | 59 => ⟨S8x512x1024, .f32⟩
  | 60 => ⟨S8x512x1024, .f32⟩
  | 61 => ⟨S_, .f32⟩
  | 62 => ⟨S8x512x1024, .f32⟩
  | 63 => ⟨S8x512x1024, .f32⟩
  | 64 => ⟨S8x512x1024, .f32⟩
  | 65 => ⟨S_, .f32⟩
  | 66 => ⟨S8x512x1024, .f32⟩
  | 67 => ⟨S8x512x1024, .f32⟩
  | 68 => ⟨S_, .f32⟩
  | 69 => ⟨S8x512x1024, .f32⟩
  | 70 => ⟨S8x512x1024, .f32⟩
  | 71 => ⟨S8x512x1024, .f32⟩
  | 72 => ⟨S8x512x256, .f32⟩
  | 73 => ⟨S1x1x256, .f32⟩
  | 74 => ⟨S8x512x256, .f32⟩
  | 75 => ⟨S8x512x256, .f32⟩
  | 76 => ⟨S8x512x256, .f32⟩
  | 77 => ⟨S8x512x256, .f32⟩
  | 78 => ⟨S8x512x256, .f32⟩
  | 79 => ⟨S8x512x256, .f32⟩
  | 80 => ⟨S_, .f32⟩
  | 81 => ⟨S8x512, .f32⟩
  | 82 => ⟨S8x512x1, .f32⟩
  | 83 => ⟨S8x512x2048, .f32⟩
  | 84 => ⟨S_, .f32⟩
  | 85 => ⟨S8x512x2048, .f32⟩
  | 86 => ⟨S8x512x2048, .f32⟩
  | 87 => ⟨S8x512x2048, .f32⟩
  | 88 => ⟨S8x512x2048, .f32⟩
  | 89 => ⟨S8x2048x256, .f32⟩
  | 90 => ⟨S_, .f32⟩
  | 91 => ⟨S8x2048, .f32⟩
  | 92 => ⟨S8x1x2048, .f32⟩
  | 93 => ⟨S8x512x2048, .f32⟩
  | 94 => ⟨S8x512x2048, .f32⟩
  | 95 => ⟨S8x512x2048, .f32⟩
  | 96 => ⟨S8x512x16, .f32⟩
  | 97 => ⟨S8x512x16, .i32⟩
  | 98 => ⟨S1, .f32⟩
  | 99 => ⟨S_, .f32⟩
  | 100 => ⟨S1x256x256, .f32⟩
  | 101 => ⟨S256x256, .f32⟩
  | 102 => ⟨S1x256x256, .f32⟩
  | 103 => ⟨S256x256, .f32⟩
  | 104 => ⟨S1x256x256, .f32⟩
  | 105 => ⟨S256x256, .f32⟩
  | 106 => ⟨S1x256x256, .f32⟩
  | 107 => ⟨S256x256, .f32⟩
  | 108 => ⟨S8x512x256, .f32⟩
  | 109 => ⟨S8x2048x256, .f32⟩
  | 110 => ⟨S8x2048x256, .f32⟩
  | 111 => ⟨S_, .i32⟩
  | 112 => ⟨S8x512x16, .i32⟩
  | 113 => ⟨S8x512x16, .i1⟩
  | 114 => ⟨S_, .i32⟩
  | 115 => ⟨S8x512x16, .i32⟩
  | 116 => ⟨S8x512x16, .i32⟩
  | 117 => ⟨S8x512x16, .i32⟩
  | 118 => ⟨S8x512x16x1, .i32⟩
  | 119 => ⟨S8x512x16x256, .f32⟩
  | 120 => ⟨S_, .i32⟩
  | 121 => ⟨S8x512x16, .i32⟩
  | 122 => ⟨S8x512x16, .i1⟩
  | 123 => ⟨S_, .i32⟩
  | 124 => ⟨S8x512x16, .i32⟩
  | 125 => ⟨S8x512x16, .i32⟩
  | 126 => ⟨S8x512x16, .i32⟩
  | 127 => ⟨S8x512x16x1, .i32⟩
  | _ => ⟨S8x512x256, .f32⟩

abbrev hbmTy0_2 (i : Nat) : BufTy := match i % 128 with
  | 0 => ⟨S8x512x16x256, .f32⟩
  | 1 => ⟨S8x512x4x64, .f32⟩
  | 2 => ⟨S8x512x16x4x64, .f32⟩
  | 3 => ⟨S8x512x16x4x64, .f32⟩
  | 4 => ⟨S8x512x4x16, .f32⟩
  | 5 => ⟨S_, .f32⟩
  | 6 => ⟨S_, .f32⟩
  | 7 => ⟨S_, .f32⟩
  | 8 => ⟨S8x512x4x16, .f32⟩
  | 9 => ⟨S8x512x4x16, .f32⟩
  | 10 => ⟨S_, .f32⟩
  | 11 => ⟨S8x512x4, .f32⟩
  | 12 => ⟨S_, .f32⟩
  | 13 => ⟨S8x512x4, .f32⟩
  | 14 => ⟨S8x512x4, .f32⟩
  | 15 => ⟨S8x512x4x1, .f32⟩
  | 16 => ⟨S8x512x4x16, .f32⟩
  | 17 => ⟨S8x512x4x16, .f32⟩
  | 18 => ⟨S8x512x4x16, .f32⟩
  | 19 => ⟨S_, .f32⟩
  | 20 => ⟨S8x512x4, .f32⟩
  | 21 => ⟨S8x512x4x1, .f32⟩
  | 22 => ⟨S8x512x4x16, .f32⟩
  | 23 => ⟨S8x512x4x16, .f32⟩
  | 24 => ⟨S8x512x4x64, .f32⟩
  | 25 => ⟨S8x512x256, .f32⟩
  | 26 => ⟨S8x512x256, .f32⟩
  | 27 => ⟨S8x512x256, .f32⟩
  | 28 => ⟨S8x512x256, .f32⟩
  | 29 => ⟨S8x512x256, .f32⟩
  | 30 => ⟨S1, .f32⟩
  | 31 => ⟨S_, .f32⟩
  | 32 => ⟨S1x256x1024, .f32⟩
  | 33 => ⟨S256x1024, .f32⟩
  | 34 => ⟨S1x1024, .f32⟩
  | 35 => ⟨S1024, .f32⟩
  | 36 => ⟨S1x1024x256, .f32⟩
  | 37 => ⟨S1024x256, .f32⟩
  | 38 => ⟨S1x256, .f32⟩
  | 39 => ⟨S256, .f32⟩
  | 40 => ⟨S8x512x1024, .f32⟩
  | 41 => ⟨S1x1x1024, .f32⟩
  | 42 => ⟨S8x512x1024, .f32⟩
  | 43 => ⟨S8x512x1024, .f32⟩
  | 44 => ⟨S8x512x1024, .f32⟩
  | 45 => ⟨S8x512x1024, .f32⟩
  | 46 => ⟨S_, .f32⟩
  | 47 => ⟨S8x512x1024, .f32⟩
  | 48 => ⟨S8x512x1024, .f32⟩
  | 49 => ⟨S8x512x1024, .f32⟩
  | 50 => ⟨S_, .f32⟩
  | 51 => ⟨S8x512x1024, .f32⟩
  | 52 => ⟨S8x512x1024, .f32⟩
  | 53 => ⟨S8x512x1024, .f32⟩
  | 54 => ⟨S_, .f32⟩
  | 55 => ⟨S8x512x1024, .f32⟩
  | 56 => ⟨S8x512x1024, .f32⟩
  | 57 => ⟨S_, .f32⟩
  | 58 => ⟨S8x512x1024, .f32⟩
  | 59 => ⟨S8x512x1024, .f32⟩
  | 60 => ⟨S8x512x1024, .f32⟩
  | 61 => ⟨S8x512x256, .f32⟩
  | 62 => ⟨S1x1x256, .f32⟩
  | 63 => ⟨S8x512x256, .f32⟩
  | 64 => ⟨S8x512x256, .f32⟩
  | 65 => ⟨S8x512x256, .f32⟩
  | 66 => ⟨S8x512x256, .f32⟩
  | 67 => ⟨S8x512x256, .f32⟩
  | 68 => ⟨S8x512x256, .f32⟩
  | 69 => ⟨S_, .f32⟩
  | 70 => ⟨S8x512, .f32⟩
  | 71 => ⟨S8x512x1, .f32⟩
  | 72 => ⟨S8x512x2048, .f32⟩
  | 73 => ⟨S_, .f32⟩
  | 74 => ⟨S8x512x2048, .f32⟩
  | 75 => ⟨S8x512x2048, .f32⟩
  | 76 => ⟨S8x512x2048, .f32⟩
  | 77 => ⟨S8x512x2048, .f32⟩
  | 78 => ⟨S8x2048x256, .f32⟩
  | 79 => ⟨S_, .f32⟩
  | 80 => ⟨S8x2048, .f32⟩
  | 81 => ⟨S8x1x2048, .f32⟩
  | 82 => ⟨S8x512x2048, .f32⟩
  | 83 => ⟨S8x512x2048, .f32⟩
  | 84 => ⟨S8x512x2048, .f32⟩
  | 85 => ⟨S8x512x16, .f32⟩
  | 86 => ⟨S8x512x16, .i32⟩
  | 87 => ⟨S1, .f32⟩
  | 88 => ⟨S_, .f32⟩
  | 89 => ⟨S1x256x256, .f32⟩
  | 90 => ⟨S256x256, .f32⟩
  | 91 => ⟨S1x256x256, .f32⟩
  | 92 => ⟨S256x256, .f32⟩
  | 93 => ⟨S1x256x256, .f32⟩
  | 94 => ⟨S256x256, .f32⟩
  | 95 => ⟨S1x256x256, .f32⟩
  | 96 => ⟨S256x256, .f32⟩
  | 97 => ⟨S8x512x256, .f32⟩
  | 98 => ⟨S8x2048x256, .f32⟩
  | 99 => ⟨S8x2048x256, .f32⟩
  | 100 => ⟨S_, .i32⟩
  | 101 => ⟨S8x512x16, .i32⟩
  | 102 => ⟨S8x512x16, .i1⟩
  | 103 => ⟨S_, .i32⟩
  | 104 => ⟨S8x512x16, .i32⟩
  | 105 => ⟨S8x512x16, .i32⟩
  | 106 => ⟨S8x512x16, .i32⟩
  | 107 => ⟨S8x512x16x1, .i32⟩
  | 108 => ⟨S8x512x16x256, .f32⟩
  | 109 => ⟨S_, .i32⟩
  | 110 => ⟨S8x512x16, .i32⟩
  | 111 => ⟨S8x512x16, .i1⟩
  | 112 => ⟨S_, .i32⟩
  | 113 => ⟨S8x512x16, .i32⟩
  | 114 => ⟨S8x512x16, .i32⟩
  | 115 => ⟨S8x512x16, .i32⟩
  | 116 => ⟨S8x512x16x1, .i32⟩
  | 117 => ⟨S8x512x16x256, .f32⟩
  | 118 => ⟨S8x512x4x64, .f32⟩
  | 119 => ⟨S8x512x16x4x64, .f32⟩
  | 120 => ⟨S8x512x16x4x64, .f32⟩
  | 121 => ⟨S8x512x4x16, .f32⟩
  | 122 => ⟨S_, .f32⟩
  | 123 => ⟨S_, .f32⟩
  | 124 => ⟨S_, .f32⟩
  | 125 => ⟨S8x512x4x16, .f32⟩
  | 126 => ⟨S8x512x4x16, .f32⟩
  | 127 => ⟨S_, .f32⟩
  | _ => ⟨S8x512x256, .f32⟩

abbrev hbmTy0_3 (i : Nat) : BufTy := match i % 128 with
  | 0 => ⟨S8x512x4, .f32⟩
  | 1 => ⟨S_, .f32⟩
  | 2 => ⟨S8x512x4, .f32⟩
  | 3 => ⟨S8x512x4, .f32⟩
  | 4 => ⟨S8x512x4x1, .f32⟩
  | 5 => ⟨S8x512x4x16, .f32⟩
  | 6 => ⟨S8x512x4x16, .f32⟩
  | 7 => ⟨S8x512x4x16, .f32⟩
  | 8 => ⟨S_, .f32⟩
  | 9 => ⟨S8x512x4, .f32⟩
  | 10 => ⟨S8x512x4x1, .f32⟩
  | 11 => ⟨S8x512x4x16, .f32⟩
  | 12 => ⟨S8x512x4x16, .f32⟩
  | 13 => ⟨S8x512x4x64, .f32⟩
  | 14 => ⟨S8x512x256, .f32⟩
  | 15 => ⟨S8x512x256, .f32⟩
  | 16 => ⟨S8x512x256, .f32⟩
  | 17 => ⟨S8x512x256, .f32⟩
  | 18 => ⟨S8x512x256, .f32⟩
  | 19 => ⟨S1, .f32⟩
  | 20 => ⟨S_, .f32⟩
  | 21 => ⟨S1x256x1024, .f32⟩
  | 22 => ⟨S256x1024, .f32⟩
  | 23 => ⟨S1x1024, .f32⟩
  | 24 => ⟨S1024, .f32⟩
  | 25 => ⟨S1x1024x256, .f32⟩
  | 26 => ⟨S1024x256, .f32⟩
  | 27 => ⟨S1x256, .f32⟩
  | 28 => ⟨S256, .f32⟩
  | 29 => ⟨S8x512x1024, .f32⟩
  | 30 => ⟨S1x1x1024, .f32⟩
  | 31 => ⟨S8x512x1024, .f32⟩
  | 32 => ⟨S8x512x1024, .f32⟩
  | 33 => ⟨S8x512x1024, .f32⟩
  | 34 => ⟨S8x512x1024, .f32⟩
  | 35 => ⟨S_, .f32⟩
  | 36 => ⟨S8x512x1024, .f32⟩
  | 37 => ⟨S8x512x1024, .f32⟩
  | 38 => ⟨S8x512x1024, .f32⟩
  | 39 => ⟨S_, .f32⟩
  | 40 => ⟨S8x512x1024, .f32⟩
  | 41 => ⟨S8x512x1024, .f32⟩
  | 42 => ⟨S8x512x1024, .f32⟩
  | 43 => ⟨S_, .f32⟩
  | 44 => ⟨S8x512x1024, .f32⟩
  | 45 => ⟨S8x512x1024, .f32⟩
  | 46 => ⟨S_, .f32⟩
  | 47 => ⟨S8x512x1024, .f32⟩
  | 48 => ⟨S8x512x1024, .f32⟩
  | 49 => ⟨S8x512x1024, .f32⟩
  | 50 => ⟨S8x512x256, .f32⟩
  | 51 => ⟨S1x1x256, .f32⟩
  | 52 => ⟨S8x512x256, .f32⟩
  | 53 => ⟨S8x512x256, .f32⟩
  | 54 => ⟨S8x512x256, .f32⟩
  | 55 => ⟨S8x512x256, .f32⟩
  | 56 => ⟨S8x512x256, .f32⟩
  | _ => ⟨S8x512x256, .f32⟩

abbrev hbmTy (i : Nat) : BufTy := match i / 128 with
  | 0 => hbmTy0_0 i
  | 1 => hbmTy0_1 i
  | 2 => hbmTy0_2 i
  | 3 => hbmTy0_3 i
  | _ => ⟨S8x512x256, .f32⟩

abbrev bufTy : (tb : Table) → Fin (tcTables nBuf tb) → BufTy
  | .hbm, ⟨i, _⟩ => hbmTy i
  | _, _ => ⟨S8x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_values : Ref sig .tc := ⟨.hbm, 28, rfl⟩
abbrev main_indices : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c : Ref sig .tc := ⟨.hbm, 43, rfl⟩
abbrev main_v27 : Ref sig .tc := ⟨.hbm, 44, rfl⟩
abbrev main_v28 : Ref sig .tc := ⟨.hbm, 45, rfl⟩
abbrev main_c_2 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_3 : Ref sig .tc := ⟨.hbm, 52, rfl⟩
abbrev main_v34 : Ref sig .tc := ⟨.hbm, 53, rfl⟩
abbrev main_v35 : Ref sig .tc := ⟨.hbm, 54, rfl⟩
abbrev main_c_4 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_8 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_9 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_10 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_11 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_values_12 : Ref sig .tc := ⟨.hbm, 107, rfl⟩
abbrev main_indices_13 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_c_14 : Ref sig .tc := ⟨.hbm, 122, rfl⟩
abbrev main_v93 : Ref sig .tc := ⟨.hbm, 123, rfl⟩
abbrev main_v94 : Ref sig .tc := ⟨.hbm, 124, rfl⟩
abbrev main_c_15 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_c_16 : Ref sig .tc := ⟨.hbm, 131, rfl⟩
abbrev main_v100 : Ref sig .tc := ⟨.hbm, 132, rfl⟩
abbrev main_v101 : Ref sig .tc := ⟨.hbm, 133, rfl⟩
abbrev main_c_17 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_cst_18 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_19 : Ref sig .tc := ⟨.hbm, 149, rfl⟩
abbrev main_v115 : Ref sig .tc := ⟨.hbm, 150, rfl⟩
abbrev main_cst_20 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_cst_21 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_v127 : Ref sig .tc := ⟨.hbm, 164, rfl⟩
abbrev main_v128 : Ref sig .tc := ⟨.hbm, 165, rfl⟩
abbrev main_v129 : Ref sig .tc := ⟨.hbm, 166, rfl⟩
abbrev main_v130 : Ref sig .tc := ⟨.hbm, 167, rfl⟩
abbrev main_v131 : Ref sig .tc := ⟨.hbm, 168, rfl⟩
abbrev main_v132 : Ref sig .tc := ⟨.hbm, 169, rfl⟩
abbrev main_v133 : Ref sig .tc := ⟨.hbm, 170, rfl⟩
abbrev main_v134 : Ref sig .tc := ⟨.hbm, 171, rfl⟩
abbrev main_v135 : Ref sig .tc := ⟨.hbm, 172, rfl⟩
abbrev main_v136 : Ref sig .tc := ⟨.hbm, 173, rfl⟩
abbrev main_v137 : Ref sig .tc := ⟨.hbm, 174, rfl⟩
abbrev main_v138 : Ref sig .tc := ⟨.hbm, 175, rfl⟩
abbrev main_v139 : Ref sig .tc := ⟨.hbm, 176, rfl⟩
abbrev main_v140 : Ref sig .tc := ⟨.hbm, 177, rfl⟩
abbrev main_v141 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_v147 : Ref sig .tc := ⟨.hbm, 184, rfl⟩
abbrev main_cst_22 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_cst_23 : Ref sig .tc := ⟨.hbm, 189, rfl⟩
abbrev main_v151 : Ref sig .tc := ⟨.hbm, 190, rfl⟩
abbrev main_v152 : Ref sig .tc := ⟨.hbm, 191, rfl⟩
abbrev main_v153 : Ref sig .tc := ⟨.hbm, 192, rfl⟩
abbrev main_cst_24 : Ref sig .tc := ⟨.hbm, 193, rfl⟩
abbrev main_v154 : Ref sig .tc := ⟨.hbm, 194, rfl⟩
abbrev main_v155 : Ref sig .tc := ⟨.hbm, 195, rfl⟩
abbrev main_cst_25 : Ref sig .tc := ⟨.hbm, 196, rfl⟩
abbrev main_v156 : Ref sig .tc := ⟨.hbm, 197, rfl⟩
abbrev main_v157 : Ref sig .tc := ⟨.hbm, 198, rfl⟩
abbrev main_v158 : Ref sig .tc := ⟨.hbm, 199, rfl⟩
abbrev main_v159 : Ref sig .tc := ⟨.hbm, 200, rfl⟩
abbrev main_v160 : Ref sig .tc := ⟨.hbm, 201, rfl⟩
abbrev main_v161 : Ref sig .tc := ⟨.hbm, 202, rfl⟩
abbrev main_v162 : Ref sig .tc := ⟨.hbm, 203, rfl⟩
abbrev main_v163 : Ref sig .tc := ⟨.hbm, 204, rfl⟩
abbrev main_v164 : Ref sig .tc := ⟨.hbm, 205, rfl⟩
abbrev main_v165 : Ref sig .tc := ⟨.hbm, 206, rfl⟩
abbrev main_v166 : Ref sig .tc := ⟨.hbm, 207, rfl⟩
abbrev main_cst_26 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_cst_27 : Ref sig .tc := ⟨.hbm, 212, rfl⟩
abbrev main_v170 : Ref sig .tc := ⟨.hbm, 213, rfl⟩
abbrev main_v171 : Ref sig .tc := ⟨.hbm, 214, rfl⟩
abbrev main_v172 : Ref sig .tc := ⟨.hbm, 215, rfl⟩
abbrev main_v173 : Ref sig .tc := ⟨.hbm, 216, rfl⟩
abbrev main_v174 : Ref sig .tc := ⟨.hbm, 217, rfl⟩
abbrev main_cst_28 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_values_29 : Ref sig .tc := ⟨.hbm, 224, rfl⟩
abbrev main_indices_30 : Ref sig .tc := ⟨.hbm, 225, rfl⟩
abbrev main_v180 : Ref sig .tc := ⟨.hbm, 226, rfl⟩
abbrev main_v181 : Ref sig .tc := ⟨.hbm, 227, rfl⟩
abbrev main_v182 : Ref sig .tc := ⟨.hbm, 228, rfl⟩
abbrev main_v183 : Ref sig .tc := ⟨.hbm, 229, rfl⟩
abbrev main_v184 : Ref sig .tc := ⟨.hbm, 230, rfl⟩
abbrev main_v185 : Ref sig .tc := ⟨.hbm, 231, rfl⟩
abbrev main_v186 : Ref sig .tc := ⟨.hbm, 232, rfl⟩
abbrev main_v187 : Ref sig .tc := ⟨.hbm, 233, rfl⟩
abbrev main_v188 : Ref sig .tc := ⟨.hbm, 234, rfl⟩
abbrev main_v189 : Ref sig .tc := ⟨.hbm, 235, rfl⟩
abbrev main_v190 : Ref sig .tc := ⟨.hbm, 236, rfl⟩
abbrev main_v191 : Ref sig .tc := ⟨.hbm, 237, rfl⟩
abbrev main_v192 : Ref sig .tc := ⟨.hbm, 238, rfl⟩
abbrev main_c_31 : Ref sig .tc := ⟨.hbm, 239, rfl⟩
abbrev main_v193 : Ref sig .tc := ⟨.hbm, 240, rfl⟩
abbrev main_v194 : Ref sig .tc := ⟨.hbm, 241, rfl⟩
abbrev main_c_32 : Ref sig .tc := ⟨.hbm, 242, rfl⟩
abbrev main_v195 : Ref sig .tc := ⟨.hbm, 243, rfl⟩
abbrev main_v196 : Ref sig .tc := ⟨.hbm, 244, rfl⟩
abbrev main_v197 : Ref sig .tc := ⟨.hbm, 245, rfl⟩
abbrev main_v198 : Ref sig .tc := ⟨.hbm, 246, rfl⟩
abbrev main_v199 : Ref sig .tc := ⟨.hbm, 247, rfl⟩
abbrev main_c_33 : Ref sig .tc := ⟨.hbm, 248, rfl⟩
abbrev main_v200 : Ref sig .tc := ⟨.hbm, 249, rfl⟩
abbrev main_v201 : Ref sig .tc := ⟨.hbm, 250, rfl⟩
abbrev main_c_34 : Ref sig .tc := ⟨.hbm, 251, rfl⟩
abbrev main_v202 : Ref sig .tc := ⟨.hbm, 252, rfl⟩
abbrev main_v203 : Ref sig .tc := ⟨.hbm, 253, rfl⟩
abbrev main_v204 : Ref sig .tc := ⟨.hbm, 254, rfl⟩
abbrev main_v205 : Ref sig .tc := ⟨.hbm, 255, rfl⟩
abbrev main_v206 : Ref sig .tc := ⟨.hbm, 256, rfl⟩
abbrev main_v207 : Ref sig .tc := ⟨.hbm, 257, rfl⟩
abbrev main_v208 : Ref sig .tc := ⟨.hbm, 258, rfl⟩
abbrev main_v209 : Ref sig .tc := ⟨.hbm, 259, rfl⟩
abbrev main_v210 : Ref sig .tc := ⟨.hbm, 260, rfl⟩
abbrev main_cst_35 : Ref sig .tc := ⟨.hbm, 261, rfl⟩
abbrev main_v211 : Ref sig .tc := ⟨.hbm, 262, rfl⟩
abbrev main_v212 : Ref sig .tc := ⟨.hbm, 263, rfl⟩
abbrev main_v213 : Ref sig .tc := ⟨.hbm, 264, rfl⟩
abbrev main_v214 : Ref sig .tc := ⟨.hbm, 265, rfl⟩
abbrev main_cst_36 : Ref sig .tc := ⟨.hbm, 266, rfl⟩
abbrev main_v215 : Ref sig .tc := ⟨.hbm, 267, rfl⟩
abbrev main_cst_37 : Ref sig .tc := ⟨.hbm, 268, rfl⟩
abbrev main_v216 : Ref sig .tc := ⟨.hbm, 269, rfl⟩
abbrev main_v217 : Ref sig .tc := ⟨.hbm, 270, rfl⟩
abbrev main_v218 : Ref sig .tc := ⟨.hbm, 271, rfl⟩
abbrev main_v219 : Ref sig .tc := ⟨.hbm, 272, rfl⟩
abbrev main_v220 : Ref sig .tc := ⟨.hbm, 273, rfl⟩
abbrev main_v221 : Ref sig .tc := ⟨.hbm, 274, rfl⟩
abbrev main_cst_38 : Ref sig .tc := ⟨.hbm, 275, rfl⟩
abbrev main_v222 : Ref sig .tc := ⟨.hbm, 276, rfl⟩
abbrev main_v223 : Ref sig .tc := ⟨.hbm, 277, rfl⟩
abbrev main_v224 : Ref sig .tc := ⟨.hbm, 278, rfl⟩
abbrev main_v225 : Ref sig .tc := ⟨.hbm, 279, rfl⟩
abbrev main_v226 : Ref sig .tc := ⟨.hbm, 280, rfl⟩
abbrev main_v227 : Ref sig .tc := ⟨.hbm, 281, rfl⟩
abbrev main_v228 : Ref sig .tc := ⟨.hbm, 282, rfl⟩
abbrev main_v229 : Ref sig .tc := ⟨.hbm, 283, rfl⟩
abbrev main_v230 : Ref sig .tc := ⟨.hbm, 284, rfl⟩
abbrev main_v231 : Ref sig .tc := ⟨.hbm, 285, rfl⟩
abbrev main_v232 : Ref sig .tc := ⟨.hbm, 286, rfl⟩
abbrev main_v233 : Ref sig .tc := ⟨.hbm, 287, rfl⟩
abbrev main_v234 : Ref sig .tc := ⟨.hbm, 288, rfl⟩
abbrev main_v235 : Ref sig .tc := ⟨.hbm, 289, rfl⟩
abbrev main_v236 : Ref sig .tc := ⟨.hbm, 290, rfl⟩
abbrev main_v237 : Ref sig .tc := ⟨.hbm, 291, rfl⟩
abbrev main_v238 : Ref sig .tc := ⟨.hbm, 292, rfl⟩
abbrev main_v239 : Ref sig .tc := ⟨.hbm, 293, rfl⟩
abbrev main_v240 : Ref sig .tc := ⟨.hbm, 294, rfl⟩
abbrev main_v241 : Ref sig .tc := ⟨.hbm, 295, rfl⟩
abbrev main_v242 : Ref sig .tc := ⟨.hbm, 296, rfl⟩
abbrev main_v243 : Ref sig .tc := ⟨.hbm, 297, rfl⟩
abbrev main_v244 : Ref sig .tc := ⟨.hbm, 298, rfl⟩
abbrev main_v245 : Ref sig .tc := ⟨.hbm, 299, rfl⟩
abbrev main_v246 : Ref sig .tc := ⟨.hbm, 300, rfl⟩
abbrev main_v247 : Ref sig .tc := ⟨.hbm, 301, rfl⟩
abbrev main_cst_39 : Ref sig .tc := ⟨.hbm, 302, rfl⟩
abbrev main_v248 : Ref sig .tc := ⟨.hbm, 303, rfl⟩
abbrev main_v249 : Ref sig .tc := ⟨.hbm, 304, rfl⟩
abbrev main_v250 : Ref sig .tc := ⟨.hbm, 305, rfl⟩
abbrev main_cst_40 : Ref sig .tc := ⟨.hbm, 306, rfl⟩
abbrev main_v251 : Ref sig .tc := ⟨.hbm, 307, rfl⟩
abbrev main_v252 : Ref sig .tc := ⟨.hbm, 308, rfl⟩
abbrev main_v253 : Ref sig .tc := ⟨.hbm, 309, rfl⟩
abbrev main_cst_41 : Ref sig .tc := ⟨.hbm, 310, rfl⟩
abbrev main_v254 : Ref sig .tc := ⟨.hbm, 311, rfl⟩
abbrev main_v255 : Ref sig .tc := ⟨.hbm, 312, rfl⟩
abbrev main_cst_42 : Ref sig .tc := ⟨.hbm, 313, rfl⟩
abbrev main_v256 : Ref sig .tc := ⟨.hbm, 314, rfl⟩
abbrev main_v257 : Ref sig .tc := ⟨.hbm, 315, rfl⟩
abbrev main_v258 : Ref sig .tc := ⟨.hbm, 316, rfl⟩
abbrev main_v259 : Ref sig .tc := ⟨.hbm, 317, rfl⟩
abbrev main_v260 : Ref sig .tc := ⟨.hbm, 318, rfl⟩
abbrev main_v261 : Ref sig .tc := ⟨.hbm, 319, rfl⟩
abbrev main_v262 : Ref sig .tc := ⟨.hbm, 320, rfl⟩
abbrev main_v263 : Ref sig .tc := ⟨.hbm, 321, rfl⟩
abbrev main_v264 : Ref sig .tc := ⟨.hbm, 322, rfl⟩
abbrev main_v265 : Ref sig .tc := ⟨.hbm, 323, rfl⟩
abbrev main_v266 : Ref sig .tc := ⟨.hbm, 324, rfl⟩
abbrev main_cst_43 : Ref sig .tc := ⟨.hbm, 325, rfl⟩
abbrev main_v267 : Ref sig .tc := ⟨.hbm, 326, rfl⟩
abbrev main_v268 : Ref sig .tc := ⟨.hbm, 327, rfl⟩
abbrev main_v269 : Ref sig .tc := ⟨.hbm, 328, rfl⟩
abbrev main_cst_44 : Ref sig .tc := ⟨.hbm, 329, rfl⟩
abbrev main_v270 : Ref sig .tc := ⟨.hbm, 330, rfl⟩
abbrev main_v271 : Ref sig .tc := ⟨.hbm, 331, rfl⟩
abbrev main_v272 : Ref sig .tc := ⟨.hbm, 332, rfl⟩
abbrev main_v273 : Ref sig .tc := ⟨.hbm, 333, rfl⟩
abbrev main_v274 : Ref sig .tc := ⟨.hbm, 334, rfl⟩
abbrev main_cst_45 : Ref sig .tc := ⟨.hbm, 335, rfl⟩
abbrev main_v275 : Ref sig .tc := ⟨.hbm, 336, rfl⟩
abbrev main_v276 : Ref sig .tc := ⟨.hbm, 337, rfl⟩
abbrev main_v277 : Ref sig .tc := ⟨.hbm, 338, rfl⟩
abbrev main_v278 : Ref sig .tc := ⟨.hbm, 339, rfl⟩
abbrev main_v279 : Ref sig .tc := ⟨.hbm, 340, rfl⟩
abbrev main_values_46 : Ref sig .tc := ⟨.hbm, 341, rfl⟩
abbrev main_indices_47 : Ref sig .tc := ⟨.hbm, 342, rfl⟩
abbrev main_v280 : Ref sig .tc := ⟨.hbm, 343, rfl⟩
abbrev main_v281 : Ref sig .tc := ⟨.hbm, 344, rfl⟩
abbrev main_v282 : Ref sig .tc := ⟨.hbm, 345, rfl⟩
abbrev main_v283 : Ref sig .tc := ⟨.hbm, 346, rfl⟩
abbrev main_v284 : Ref sig .tc := ⟨.hbm, 347, rfl⟩
abbrev main_v285 : Ref sig .tc := ⟨.hbm, 348, rfl⟩
abbrev main_v286 : Ref sig .tc := ⟨.hbm, 349, rfl⟩
abbrev main_v287 : Ref sig .tc := ⟨.hbm, 350, rfl⟩
abbrev main_v288 : Ref sig .tc := ⟨.hbm, 351, rfl⟩
abbrev main_v289 : Ref sig .tc := ⟨.hbm, 352, rfl⟩
abbrev main_v290 : Ref sig .tc := ⟨.hbm, 353, rfl⟩
abbrev main_v291 : Ref sig .tc := ⟨.hbm, 354, rfl⟩
abbrev main_v292 : Ref sig .tc := ⟨.hbm, 355, rfl⟩
abbrev main_c_48 : Ref sig .tc := ⟨.hbm, 356, rfl⟩
abbrev main_v293 : Ref sig .tc := ⟨.hbm, 357, rfl⟩
abbrev main_v294 : Ref sig .tc := ⟨.hbm, 358, rfl⟩
abbrev main_c_49 : Ref sig .tc := ⟨.hbm, 359, rfl⟩
abbrev main_v295 : Ref sig .tc := ⟨.hbm, 360, rfl⟩
abbrev main_v296 : Ref sig .tc := ⟨.hbm, 361, rfl⟩
abbrev main_v297 : Ref sig .tc := ⟨.hbm, 362, rfl⟩
abbrev main_v298 : Ref sig .tc := ⟨.hbm, 363, rfl⟩
abbrev main_v299 : Ref sig .tc := ⟨.hbm, 364, rfl⟩
abbrev main_c_50 : Ref sig .tc := ⟨.hbm, 365, rfl⟩
abbrev main_v300 : Ref sig .tc := ⟨.hbm, 366, rfl⟩
abbrev main_v301 : Ref sig .tc := ⟨.hbm, 367, rfl⟩
abbrev main_c_51 : Ref sig .tc := ⟨.hbm, 368, rfl⟩
abbrev main_v302 : Ref sig .tc := ⟨.hbm, 369, rfl⟩
abbrev main_v303 : Ref sig .tc := ⟨.hbm, 370, rfl⟩
abbrev main_v304 : Ref sig .tc := ⟨.hbm, 371, rfl⟩
abbrev main_v305 : Ref sig .tc := ⟨.hbm, 372, rfl⟩
abbrev main_v306 : Ref sig .tc := ⟨.hbm, 373, rfl⟩
abbrev main_v307 : Ref sig .tc := ⟨.hbm, 374, rfl⟩
abbrev main_v308 : Ref sig .tc := ⟨.hbm, 375, rfl⟩
abbrev main_v309 : Ref sig .tc := ⟨.hbm, 376, rfl⟩
abbrev main_v310 : Ref sig .tc := ⟨.hbm, 377, rfl⟩
abbrev main_cst_52 : Ref sig .tc := ⟨.hbm, 378, rfl⟩
abbrev main_v311 : Ref sig .tc := ⟨.hbm, 379, rfl⟩
abbrev main_v312 : Ref sig .tc := ⟨.hbm, 380, rfl⟩
abbrev main_v313 : Ref sig .tc := ⟨.hbm, 381, rfl⟩
abbrev main_v314 : Ref sig .tc := ⟨.hbm, 382, rfl⟩
abbrev main_cst_53 : Ref sig .tc := ⟨.hbm, 383, rfl⟩
abbrev main_v315 : Ref sig .tc := ⟨.hbm, 384, rfl⟩
abbrev main_cst_54 : Ref sig .tc := ⟨.hbm, 385, rfl⟩
abbrev main_v316 : Ref sig .tc := ⟨.hbm, 386, rfl⟩
abbrev main_v317 : Ref sig .tc := ⟨.hbm, 387, rfl⟩
abbrev main_v318 : Ref sig .tc := ⟨.hbm, 388, rfl⟩
abbrev main_v319 : Ref sig .tc := ⟨.hbm, 389, rfl⟩
abbrev main_v320 : Ref sig .tc := ⟨.hbm, 390, rfl⟩
abbrev main_v321 : Ref sig .tc := ⟨.hbm, 391, rfl⟩
abbrev main_cst_55 : Ref sig .tc := ⟨.hbm, 392, rfl⟩
abbrev main_v322 : Ref sig .tc := ⟨.hbm, 393, rfl⟩
abbrev main_v323 : Ref sig .tc := ⟨.hbm, 394, rfl⟩
abbrev main_v324 : Ref sig .tc := ⟨.hbm, 395, rfl⟩
abbrev main_v325 : Ref sig .tc := ⟨.hbm, 396, rfl⟩
abbrev main_v326 : Ref sig .tc := ⟨.hbm, 397, rfl⟩
abbrev main_v327 : Ref sig .tc := ⟨.hbm, 398, rfl⟩
abbrev main_v328 : Ref sig .tc := ⟨.hbm, 399, rfl⟩
abbrev main_v329 : Ref sig .tc := ⟨.hbm, 400, rfl⟩
abbrev main_v330 : Ref sig .tc := ⟨.hbm, 401, rfl⟩
abbrev main_v331 : Ref sig .tc := ⟨.hbm, 402, rfl⟩
abbrev main_v332 : Ref sig .tc := ⟨.hbm, 403, rfl⟩
abbrev main_v333 : Ref sig .tc := ⟨.hbm, 404, rfl⟩
abbrev main_v334 : Ref sig .tc := ⟨.hbm, 405, rfl⟩
abbrev main_v335 : Ref sig .tc := ⟨.hbm, 406, rfl⟩
abbrev main_v336 : Ref sig .tc := ⟨.hbm, 407, rfl⟩
abbrev main_v337 : Ref sig .tc := ⟨.hbm, 408, rfl⟩
abbrev main_v338 : Ref sig .tc := ⟨.hbm, 409, rfl⟩
abbrev main_v339 : Ref sig .tc := ⟨.hbm, 410, rfl⟩
abbrev main_v340 : Ref sig .tc := ⟨.hbm, 411, rfl⟩
abbrev main_v341 : Ref sig .tc := ⟨.hbm, 412, rfl⟩
abbrev main_v342 : Ref sig .tc := ⟨.hbm, 413, rfl⟩
abbrev main_v343 : Ref sig .tc := ⟨.hbm, 414, rfl⟩
abbrev main_v344 : Ref sig .tc := ⟨.hbm, 415, rfl⟩
abbrev main_v345 : Ref sig .tc := ⟨.hbm, 416, rfl⟩
abbrev main_v346 : Ref sig .tc := ⟨.hbm, 417, rfl⟩
abbrev main_v347 : Ref sig .tc := ⟨.hbm, 418, rfl⟩
abbrev main_cst_56 : Ref sig .tc := ⟨.hbm, 419, rfl⟩
abbrev main_v348 : Ref sig .tc := ⟨.hbm, 420, rfl⟩
abbrev main_v349 : Ref sig .tc := ⟨.hbm, 421, rfl⟩
abbrev main_v350 : Ref sig .tc := ⟨.hbm, 422, rfl⟩
abbrev main_cst_57 : Ref sig .tc := ⟨.hbm, 423, rfl⟩
abbrev main_v351 : Ref sig .tc := ⟨.hbm, 424, rfl⟩
abbrev main_v352 : Ref sig .tc := ⟨.hbm, 425, rfl⟩
abbrev main_v353 : Ref sig .tc := ⟨.hbm, 426, rfl⟩
abbrev main_cst_58 : Ref sig .tc := ⟨.hbm, 427, rfl⟩
abbrev main_v354 : Ref sig .tc := ⟨.hbm, 428, rfl⟩
abbrev main_v355 : Ref sig .tc := ⟨.hbm, 429, rfl⟩
abbrev main_cst_59 : Ref sig .tc := ⟨.hbm, 430, rfl⟩
abbrev main_v356 : Ref sig .tc := ⟨.hbm, 431, rfl⟩
abbrev main_v357 : Ref sig .tc := ⟨.hbm, 432, rfl⟩
abbrev main_v358 : Ref sig .tc := ⟨.hbm, 433, rfl⟩
abbrev main_v359 : Ref sig .tc := ⟨.hbm, 434, rfl⟩
abbrev main_v360 : Ref sig .tc := ⟨.hbm, 435, rfl⟩
abbrev main_v361 : Ref sig .tc := ⟨.hbm, 436, rfl⟩
abbrev main_v362 : Ref sig .tc := ⟨.hbm, 437, rfl⟩
abbrev main_v363 : Ref sig .tc := ⟨.hbm, 438, rfl⟩
abbrev main_v364 : Ref sig .tc := ⟨.hbm, 439, rfl⟩
abbrev main_v365 : Ref sig .tc := ⟨.hbm, 440, rfl⟩

abbrev nD : Nat := 1
abbrev τ : Topo := Topo.v7x

variable {F : FTy → Type} [FloatOps F]
-- ==== Proof.Frames.lean ====
/- The claims that speak of running alone: every run of the kernel, of its idealization and of the reference ends, with
   nothing faulting and every argument unchanged; and the idealization prints no operation but three named constants. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Frames

open Idealize.ShloMosaic Idealize.SL.Sem

/-- The kernel as printed ends, its arguments unchanged. -/
theorem frame_p : Cert.quiescent_Kernel := fun m ρ _ => Cert.Kernel.Gen.frame m ρ

/-- The idealized kernel ends, its arguments unchanged. -/
theorem frame_pi : Cert.quiescent_KernelIdeal := fun m ρ _ => Cert.KernelIdeal.Gen.frame m ρ

/-- The reference ends, its arguments unchanged. -/
theorem frame_ri : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The three named constants: what their names denote, and the patterns the kernel spells. -/
theorem preserves : Cert.preserves_Kernel_KernelIdeal :=
  ⟨IdealRules.named_const.statement Cert.KernelIdeal.κ "log2e_over_8" .f32 0x3E38AA3B#32
      (((Real.log 2)⁻¹ * (1 / 8) : ℝ) : EReal) rfl,
    IdealRules.named_const.statement Cert.KernelIdeal.κ "gelu_cubic" .bf16 0x3D37#16
      ((12003091 / 268435456 : ℝ) : EReal) rfl,
    IdealRules.named_const.statement Cert.KernelIdeal.κ "sqrt_2_over_pi" .bf16 0x3F4C#16
      ((6693141 / 8388608 : ℝ) : EReal) rfl⟩

end Cert.Frames

end
-- ==== Proof.OrderStat.lean ====
/- Compare-exchange networks on lines numbered by naturals, read one threshold at a time: the sixteenth least of the
   entries of 2^s rows of sixteen, by sorting each row and halving the rows. No kernel's shapes here. -/
module

public import Mathlib.Algebra.BigOperators.Fin
public import Mathlib.Algebra.BigOperators.Intervals
public import Mathlib.Algebra.Order.BigOperators.Group.Finset
public import Mathlib.Order.Lattice
public import Mathlib.Tactic.IntervalCases

@[expose] public section

namespace Cert.OrderStat

universe u v
variable {α : Type u} {β : Type v}

/-- One exchange: line `a` gets `mn`, line `b` gets `mx` of the two lines' entries. -/
def cex (mn mx : α → α → α) (a b : ℕ) (v : ℕ → α) : ℕ → α :=
  fun k => if k = a then mn (v a) (v b) else if k = b then mx (v a) (v b) else v k

/-- The exchanges of a list, first to last. -/
def net (mn mx : α → α → α) (ps : List (ℕ × ℕ)) (v : ℕ → α) : ℕ → α :=
  ps.foldl (fun v p => cex mn mx p.1 p.2 v) v

/-- The lines holding the entries of a list. -/
def lines (d : α) (l : List α) : ℕ → α := fun k => l.getD k d

/-- Batcher's odd-even sort of eight lines. -/
def sort8 : List (ℕ × ℕ) :=
  [(0, 1), (2, 3), (0, 2), (1, 3), (1, 2), (4, 5), (6, 7), (4, 6), (5, 7), (5, 6),
    (0, 4), (2, 6), (2, 4), (1, 5), (3, 7), (3, 5), (1, 2), (3, 4), (5, 6)]

/-- The odd-even merge of lines 0–7 with lines 8–15. -/
def merge16 : List (ℕ × ℕ) :=
  [(0, 8), (4, 12), (4, 8), (2, 10), (6, 14), (6, 10), (2, 4), (6, 8), (10, 12), (1, 9), (5, 13), (5, 9), (3, 11),
    (7, 15), (7, 11), (3, 5), (7, 9), (11, 13), (1, 2), (3, 4), (5, 6), (7, 8), (9, 10), (11, 12), (13, 14)]

/-- The odd-even sort of sixteen lines. -/
def sort16 : List (ℕ × ℕ) := sort8 ++ (sort8.map fun p => (p.1 + 8, p.2 + 8)) ++ merge16

/-- The four cleaning stages of a bitonic sequence of sixteen. -/
def clean16 : List (ℕ × ℕ) :=
  [(0, 8), (1, 9), (2, 10), (3, 11), (4, 12), (5, 13), (6, 14), (7, 15),
    (0, 4), (1, 5), (2, 6), (3, 7), (8, 12), (9, 13), (10, 14), (11, 15),
    (0, 2), (1, 3), (4, 6), (5, 7), (8, 10), (9, 11), (12, 14), (13, 15),
    (0, 1), (2, 3), (4, 5), (6, 7), (8, 9), (10, 11), (12, 13), (14, 15)]

section laws

variable (mn mx : α → α → α)

/-- No exchange changes nothing. -/
theorem net_nil (v : ℕ → α) : net mn mx [] v = v := rfl

/-- A network is its first exchange followed by the rest. -/
theorem net_cons (p : ℕ × ℕ) (ps : List (ℕ × ℕ)) (v : ℕ → α) :
    net mn mx (p :: ps) v = net mn mx ps (cex mn mx p.1 p.2 v) := rfl

/-- Two networks one after the other. -/
theorem net_append (ps qs : List (ℕ × ℕ)) (v : ℕ → α) :
    net mn mx (ps ++ qs) v = net mn mx qs (net mn mx ps v) := by
  unfold net; rw [List.foldl_append]

/-- A map that carries the two choices to two others carries a network to the network of the others. -/
theorem net_map (mn' mx' : β → β → β) (f : α → β) (hmn : ∀ x y, f (mn x y) = mn' (f x) (f y))
    (hmx : ∀ x y, f (mx x y) = mx' (f x) (f y)) (ps : List (ℕ × ℕ)) (v : ℕ → α) (k : ℕ) :
    f (net mn mx ps v k) = net mn' mx' ps (fun i => f (v i)) k := by
  induction ps generalizing v with
  | nil => rfl
  | cons p ps ih =>
    rw [net_cons, net_cons, ih]
    congr 1
    funext i
    unfold cex
    split
    · exact hmn _ _
    · split
      · exact hmx _ _
      · rfl

/-- Below a bound that the exchanges respect, a network reads nothing at or above it. -/
theorem net_congr (n : ℕ) (ps : List (ℕ × ℕ)) (hps : ∀ p ∈ ps, p.1 < n ∧ p.2 < n) (v w : ℕ → α)
    (h : ∀ k < n, v k = w k) : ∀ k < n, net mn mx ps v k = net mn mx ps w k := by
  induction ps generalizing v w with
  | nil => exact h
  | cons p ps ih =>
    rw [net_cons, net_cons]
    have hp := hps p List.mem_cons_self
    refine ih (fun q hq => hps q (List.mem_cons_of_mem _ hq)) _ _ fun k hk => ?_
    unfold cex
    rw [h _ hp.1, h _ hp.2, h k hk]

/-- A line no exchange names keeps its entry. -/
theorem net_skip (ps : List (ℕ × ℕ)) (k : ℕ) (hps : ∀ p ∈ ps, k ≠ p.1 ∧ k ≠ p.2) (v : ℕ → α) :
    net mn mx ps v k = v k := by
  induction ps generalizing v with
  | nil => rfl
  | cons p ps ih =>
    rw [net_cons, ih fun q hq => hps q (List.mem_cons_of_mem _ hq)]
    have hp := hps p List.mem_cons_self
    unfold cex
    rw [if_neg hp.1, if_neg hp.2]

/-- A network moved `s` lines up. -/
theorem net_shift (s : ℕ) (ps : List (ℕ × ℕ)) (v : ℕ → α) (k : ℕ) :
    net mn mx (ps.map fun p => (p.1 + s, p.2 + s)) v (k + s) = net mn mx ps (fun i => v (i + s)) k := by
  induction ps generalizing v with
  | nil => rfl
  | cons p ps ih =>
    rw [List.map_cons, net_cons, net_cons, ih]
    congr 1
    funext i
    unfold cex
    simp only [Nat.add_right_cancel_iff]

end laws

/-! At one threshold -/

/-- One for an entry at most the threshold (`false`), nothing for one above it. -/
def zc (b : Bool) : ℕ := if b then 0 else 1

/-- How many of the first `n` lines are at most the threshold. -/
def zeros (v : ℕ → Bool) (n : ℕ) : ℕ := ∑ i ∈ Finset.range n, zc (v i)

/-- The first network sorts all zero-one inputs of eight. -/
private theorem sort8_lists : ∀ b0 b1 b2 b3 b4 b5 b6 b7 : Bool, ∀ k < 8,
    net and or sort8 (lines false [b0, b1, b2, b3, b4, b5, b6, b7]) k
      = decide (zc b0 + zc b1 + zc b2 + zc b3 + zc b4 + zc b5 + zc b6 + zc b7 ≤ k) := by
  decide +kernel

/-- Eight sorted lines: as many at most the threshold come first. -/
theorem sort8_apply (v : ℕ → Bool) : ∀ k < 8, net and or sort8 v k = decide (zeros v 8 ≤ k) := by
  intro k hk
  rw [net_congr and or 8 sort8 (by decide) v (lines false [v 0, v 1, v 2, v 3, v 4, v 5, v 6, v 7]) (by
      intro j hj; interval_cases j <;> rfl) k hk, sort8_lists _ _ _ _ _ _ _ _ k hk]
  unfold zeros
  simp only [Finset.sum_range_succ, Finset.sum_range_zero, Nat.zero_add]

/-- The merge sorts every pair of sorted zero-one inputs of eight. -/
private theorem merge16_stairs : ∀ z < 9, ∀ w < 9, ∀ k < 16,
    net and or merge16 (fun i => if i < 8 then decide (z ≤ i) else decide (w ≤ i - 8)) k = decide (z + w ≤ k) := by
  decide +kernel

/-- No more zeros than entries. -/
theorem zeros_le (v : ℕ → Bool) (n : ℕ) : zeros v n ≤ n := by
  unfold zeros
  calc ∑ i ∈ Finset.range n, zc (v i) ≤ ∑ _i ∈ Finset.range n, 1 :=
        Finset.sum_le_sum fun i _ => by unfold zc; split <;> omega
    _ = n := by simp

/-- Sixteen sorted lines: as many at most the threshold come first. -/
theorem sort16_apply (v : ℕ → Bool) : ∀ k < 16, net and or sort16 v k = decide (zeros v 16 ≤ k) := by
  intro k hk
  unfold sort16
  rw [net_append, net_append]
  rw [net_congr and or 16 merge16 (by decide) _
    (fun i => if i < 8 then decide (zeros v 8 ≤ i) else decide (zeros (fun j => v (j + 8)) 8 ≤ i - 8)) (by
      intro j hj
      by_cases h : j < 8
      · rw [if_pos h, net_skip _ _ _ _ (by
          intro p hp
          obtain ⟨q, _, rfl⟩ := List.mem_map.1 hp
          constructor <;> (simp only; omega)), sort8_apply v j h]
      · obtain ⟨i, rfl⟩ : ∃ i, j = i + 8 := ⟨j - 8, by omega⟩
        rw [if_neg h, net_shift, Nat.add_sub_cancel]
        have hi : i < 8 := by omega
        rw [sort8_apply _ i hi]
        have e : zeros (fun i => net and or sort8 v (i + 8)) 8 = zeros (fun j => v (j + 8)) 8 := by
          unfold zeros
          refine Finset.sum_congr rfl fun a _ => congrArg zc ?_
          show net and or sort8 v (a + 8) = v (a + 8)
          have : ∀ p ∈ sort8, p.1 < 8 ∧ p.2 < 8 := by decide
          rw [net_skip _ _ _ _ fun p hp => ⟨by have := this p hp; omega, by have := this p hp; omega⟩]
        rw [e]) k hk]
  rw [merge16_stairs _ (Nat.lt_succ_of_le (zeros_le _ _)) _ (Nat.lt_succ_of_le (zeros_le _ _)) k hk]
  have : zeros v 8 + zeros (fun j => v (j + 8)) 8 = zeros v 16 := by
    unfold zeros
    rw [Finset.sum_range_add (fun i => zc (v i)) 8 8]
    exact congrArg _ (Finset.sum_congr rfl fun a _ => by rw [Nat.add_comm])
  rw [this]

/-- Two sorted zero-one rows of sixteen, combined end to end, come out of the cleaning step sorted. -/
private theorem clean16_stairs : ∀ z < 17, ∀ w < 17, ∀ k < 16,
    net and or clean16 (fun i => decide (z ≤ i) && decide (w ≤ 15 - i)) k = decide (z + w ≤ k) := by
  decide +kernel

/-- Two sorted rows of sixteen, the second read backwards, leave the sixteen least of the two, sorted. -/
theorem clean16_apply (v w : ℕ → Bool) (z y : ℕ) (hv : ∀ k < 16, v k = decide (z ≤ k))
    (hw : ∀ k < 16, w k = decide (y ≤ k)) :
    ∀ k < 16, net and or clean16 (fun i => v i && w (15 - i)) k = decide (z + y ≤ k) := by
  intro k hk
  rw [net_congr and or 16 clean16 (by decide) _
    (fun i => decide (min z 16 ≤ i) && decide (min y 16 ≤ 15 - i)) (by
      intro j hj
      rw [hv j hj, hw (15 - j) (by omega)]
      congr 1 <;> (rw [decide_eq_decide]; omega)) k hk,
    clean16_stairs _ (by omega) _ (by omega) k hk, decide_eq_decide]
  omega

/-! Above a threshold, in a linear order -/

variable [LinearOrder α]

/-- Below a minimum: below both. -/
theorem le_min_decide (c x y : α) : decide (c ≤ min x y) = (decide (c ≤ x) && decide (c ≤ y)) := by
  rw [← Bool.decide_and, decide_eq_decide, le_min_iff]

/-- Below a maximum: below one of the two. -/
theorem le_max_decide (c x y : α) : decide (c ≤ max x y) = (decide (c ≤ x) || decide (c ≤ y)) := by
  rw [← Bool.decide_or, decide_eq_decide, le_max_iff]

/-- At a threshold `c`, a network of entries is the network of "at least `c`". -/
theorem net_above (c : α) (ps : List (ℕ × ℕ)) (v : ℕ → α) (k : ℕ) :
    decide (c ≤ net min max ps v k) = net and or ps (fun i => decide (c ≤ v i)) k :=
  net_map min max and or (fun x => decide (c ≤ x)) (le_min_decide c) (le_max_decide c) ps v k

end Cert.OrderStat
-- ==== Proof.KernelStep.lean ====
/- The terms of one grid step: the sixteenth least of each column of scores as a network, the mask, the attention. -/
module

public import proofs.«01_k».proof.Proof.Gen.KernelIdeal.Value
public import proofs.«01_k».proof.Proof.OrderStat
public import Idealize.ShloMosaic.Lib.Tactic

@[expose] public section

set_option maxRecDepth 16384

noncomputable section

open Idealize.ShloMosaic Idealize.ShloMosaic.TcCoe Idealize.SL.Sem

namespace Cert.KernelIdeal.Step

open Cert.KernelIdeal Cert.KernelIdeal.Gen Cert.OrderStat

variable {F : FTy → Type} [FloatOps F] [Named F]

/-- Rows `off` to `off + r` of a block of columns fit in it. -/
theorem rowsFit (r R off : ℕ) (h : off + r ≤ R) : (⟨2, ![R, 512]⟩ : Shape).Slices ![off, 0] ⟨2, ![r, 512]⟩ :=
  ⟨rfl, fun a => by
    match a with
    | ⟨0, _⟩ => exact h
    | ⟨1, _⟩ => exact (by decide : 0 + 512 ≤ 512)⟩

/-- Rows `off` to `off + r`. -/
def rowsOf (r R off : ℕ) (h : off + r ≤ R) (v : FVec F ⟨2, ![R, 512]⟩ .f32) : FVec F ⟨2, ![r, 512]⟩ .f32 :=
  extractStridedSlice ⟨2, ![r, 512]⟩ ![off, 0] v (rowsFit r R off h)

/-- The sixteen slabs of 128 rows. -/
def slabs (d : FVec F ⟨2, ![2048, 512]⟩ .f32) : ℕ → FVec F ⟨2, ![128, 512]⟩ .f32 :=
  fun k => if h : k < 16 then rowsOf 128 2048 (128 * k) (by omega) d else rowsOf 128 2048 0 (by omega) d

/-- The slabs sorted row by row. -/
def sorted (d : FVec F ⟨2, ![2048, 512]⟩ .f32) : ℕ → FVec F ⟨2, ![128, 512]⟩ .f32 :=
  net minimumf maximumf sort16 (slabs d)

/-- One halving: the sixteen least of two rows of sixteen, sorted. -/
def halve (r : ℕ) (s : ℕ → FVec F ⟨2, ![2 * r, 512]⟩ .f32) : ℕ → FVec F ⟨2, ![r, 512]⟩ .f32 :=
  net minimumf maximumf clean16 fun i =>
    minimumf (rowsOf r (2 * r) 0 (by omega) (s i)) (rowsOf r (2 * r) r (by omega) (s (15 - i)))

/-- The sixteenth least of every column. -/
def thr (d : FVec F ⟨2, ![2048, 512]⟩ .f32) : FVec F ⟨2, ![1, 512]⟩ .f32 :=
  halve 1 (halve 2 (halve 4 (halve 8 (halve 16 (halve 32 (halve 64 (sorted d))))))) 15

/-- One where the score is at most the column's sixteenth least, zero elsewhere. -/
def mask (d : FVec F S2048x512 .f32) : FVec F S2048x512 .bf16 :=
  truncf .bf16 (select (cmpf .ole d (broadcastTo S2048x512 (thr d) broadcasts_S1x512_S2048x512))
    (broadcast S2048x512 (Scalar.ofBits .f32 0x3F800000#32)) (broadcast S2048x512 (Scalar.ofBits .f32 0x00000000#32)))
    bitsLt_bf16_f32

/-- The numerators and denominators of head 0. -/
def head0 (q : FVec F S512x256 .bf16) (k v : FVec F S2048x256 .bf16) (mk : FVec F S2048x512 .bf16) : FVec F S512x128 .f32 :=
  matmul dot_S2048x512_S2048x128_S512x128_0_0_1_1_n_n none
    (mulf (exp2 (truncf .bf16 (matmul dot_S2048x64_S512x64_S2048x512_1_1_0_0_n_n none
      (extractStridedSlice S2048x64 ![0, 0] k slices_S2048x256_o0_0_S2048x64)
      (extractStridedSlice S512x64 ![0, 0] q slices_S512x256_o0_0_S512x64)
      (constant S2048x512 .f32 0x00000000#32)) bitsLt_bf16_f32)) mk)
    (concatenate S2048x128 1 [⟨S2048x64, extractStridedSlice S2048x64 ![0, 0] v slices_S2048x256_o0_0_S2048x64⟩,
      ⟨S2048x64, k0_pay646 (F := F)⟩] concatenates_S2048x64_S2048x64_S2048x128_d1)
    (constant S512x128 .f32 0x00000000#32)

/-- What a step adds to the latent for the attention: the gate times the attention's output. -/
def attn (lat : Vec F S512x256 .f32) (x : Vec F S1x2048x256 .f32) (wq wk wv wo : Vec F S1x256x256 .f32)
    (g : Elt F .f32) : FVec F S512x256 .f32 :=
  k0_pay649 g (k0_pay642 lat wq) (k0_pay643 (k0_pay5 x) wk) (k0_pay644 (k0_pay5 x) wv) (mask (k0_pay6 lat x)) k0_pay646
    (head0 (k0_pay642 lat wq) (k0_pay643 (k0_pay5 x) wk) (k0_pay644 (k0_pay5 x) wv) (mask (k0_pay6 lat x)))
    (extractStridedSlice S512x64 ![0, 0]
      (head0 (k0_pay642 lat wq) (k0_pay643 (k0_pay5 x) wk) (k0_pay644 (k0_pay5 x) wv) (mask (k0_pay6 lat x)))
      slices_S512x128_o0_0_S512x64) wo

/-- A pair of zeros is the zero offset. -/
theorem hz2 : (![0, 0] : Fin 2 → Nat) = fun _ => 0 := funext fun a => by fin_cases a <;> rfl
/-- A triple of zeros is the zero offset. -/
theorem hz3 : (![0, 0, 0] : Fin 3 → Nat) = fun _ => 0 := funext fun a => by fin_cases a <;> rfl

/-- The step's gate: the entry of the gates that the layer names. -/
def gate (i : grid0.Coords) (x10 : Vec F S4 .f32) : Elt F .f32 :=
  View.ld (Val := Elt F) (e' := .f32) x10 (Rect.unit (k0_off1 i) S1.size (k0_off1_inb i)) (Shape.Idx.first (show 0 < S1.numel by rw [numel1_S1]; exact Nat.one_pos))

/-- The attention of a first layer, as the run found it. -/
theorem word_A  (c : Dev nD) (i : grid0.Coords) (arg2 : Memref sig .tc .vmem S1x512x256 .f32) (harg2 : arg2.IsWhole) (arg3 : Memref sig .tc .vmem S1x2048x256 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x1024 .f32) (harg8 : arg8.IsWhole) (arg9 : Memref sig .tc .vmem S1x1x1024 .f32) (harg9 : arg9.IsWhole) (arg10 : Memref sig .tc .vmem S1x1024x256 .f32) (harg10 : arg10.IsWhole) (arg11 : Memref sig .tc .vmem S1x1x256 .f32) (harg11 : arg11.IsWhole) (arg12 : Memref sig .tc .smem S4 .f32) (harg12 : arg12.IsWhole) (arg13 : Memref sig .tc .vmem S1x512x256 .f32) (harg13 : arg13.IsWhole) (arg14 : Memref sig .tc .vmem S512x256 .f32) (harg14 : arg14.IsWhole) (hc0 : cond0_0 i) (hc1 : ¬cond0_1 i)
    (x0 : Vec F S1x512x256 .f32) (x1 : Vec F S1x2048x256 .f32) (x2 : Vec F S1x256x256 .f32) (x3 : Vec F S1x256x256 .f32) (x4 : Vec F S1x256x256 .f32) (x5 : Vec F S1x256x256 .f32) (x6 : Vec F S1x256x1024 .f32) (x7 : Vec F S1x1x1024 .f32) (x8 : Vec F S1x1024x256 .f32) (x9 : Vec F S1x1x256 .f32) (x10 : Vec F S4 .f32) :
    kernelRun0_A.sl.r_275 c i arg2 harg2 arg3 harg3 arg4 harg4 arg5 harg5 arg6 harg6 arg7 harg7 arg12 harg12 arg14 x0 x1 x2 x3 x4 x5 x10
      = attn (kernelRun0_A.sl.v3 c arg2 harg2 arg14 x0)
        (View.readAt (Elt F) arg3.view (Rect.unit ![0, 0, 0] S1x2048x256.size inb_S1x2048x256_S1x2048x256_0_0_0).toLoadRect (harg3.unread x1))
        (View.readAt (Elt F) arg4.view (Rect.unit ![0, 0, 0] S1x256x256.size inb_S1x256x256_S1x256x256_0_0_0).toLoadRect (harg4.unread x2))
        (View.readAt (Elt F) arg5.view (Rect.unit ![0, 0, 0] S1x256x256.size inb_S1x256x256_S1x256x256_0_0_0).toLoadRect (harg5.unread x3))
        (View.readAt (Elt F) arg6.view (Rect.unit ![0, 0, 0] S1x256x256.size inb_S1x256x256_S1x256x256_0_0_0).toLoadRect (harg6.unread x4))
        (View.readAt (Elt F) arg7.view (Rect.unit ![0, 0, 0] S1x256x256.size inb_S1x256x256_S1x256x256_0_0_0).toLoadRect (harg7.unread x5))
        (kernelRun0_A.sl.r c i arg12 harg12 x10) := by
  sl_kernel_rfl

/-- The attention of a later layer, as the run found it. -/
theorem word_B  (c : Dev nD) (i : grid0.Coords) (arg2 : Memref sig .tc .vmem S1x512x256 .f32) (harg2 : arg2.IsWhole) (arg3 : Memref sig .tc .vmem S1x2048x256 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x1024 .f32) (harg8 : arg8.IsWhole) (arg9 : Memref sig .tc .vmem S1x1x1024 .f32) (harg9 : arg9.IsWhole) (arg10 : Memref sig .tc .vmem S1x1024x256 .f32) (harg10 : arg10.IsWhole) (arg11 : Memref sig .tc .vmem S1x1x256 .f32) (harg11 : arg11.IsWhole) (arg12 : Memref sig .tc .smem S4 .f32) (harg12 : arg12.IsWhole) (arg13 : Memref sig .tc .vmem S1x512x256 .f32) (harg13 : arg13.IsWhole) (arg14 : Memref sig .tc .vmem S512x256 .f32) (harg14 : arg14.IsWhole) (hc0 : ¬cond0_0 i) (hc1 : cond0_1 i)
    (x0 : Vec F S1x512x256 .f32) (x1 : Vec F S1x2048x256 .f32) (x2 : Vec F S1x256x256 .f32) (x3 : Vec F S1x256x256 .f32) (x4 : Vec F S1x256x256 .f32) (x5 : Vec F S1x256x256 .f32) (x6 : Vec F S1x256x1024 .f32) (x7 : Vec F S1x1x1024 .f32) (x8 : Vec F S1x1024x256 .f32) (x9 : Vec F S1x1x256 .f32) (x10 : Vec F S4 .f32) (xs0 : Vec F S512x256 .f32) :
    kernelRun0_B.sl.r_276 c i arg3 harg3 arg4 harg4 arg5 harg5 arg6 harg6 arg7 harg7 arg12 harg12 arg14 harg14 x1 x2 x3 x4 x5 x10 xs0
      = attn (kernelRun0_B.sl.r_1 c arg14 harg14 xs0)
        (View.readAt (Elt F) arg3.view (Rect.unit ![0, 0, 0] S1x2048x256.size inb_S1x2048x256_S1x2048x256_0_0_0).toLoadRect (harg3.unread x1))
        (View.readAt (Elt F) arg4.view (Rect.unit ![0, 0, 0] S1x256x256.size inb_S1x256x256_S1x256x256_0_0_0).toLoadRect (harg4.unread x2))
        (View.readAt (Elt F) arg5.view (Rect.unit ![0, 0, 0] S1x256x256.size inb_S1x256x256_S1x256x256_0_0_0).toLoadRect (harg5.unread x3))
        (View.readAt (Elt F) arg6.view (Rect.unit ![0, 0, 0] S1x256x256.size inb_S1x256x256_S1x256x256_0_0_0).toLoadRect (harg6.unread x4))
        (View.readAt (Elt F) arg7.view (Rect.unit ![0, 0, 0] S1x256x256.size inb_S1x256x256_S1x256x256_0_0_0).toLoadRect (harg7.unread x5))
        (kernelRun0_B.sl.r c i arg12 harg12 x10) := by
  sl_kernel_rfl

/-- A first layer's step: the batch's latent plus its attention. -/
theorem sout_A  (c : Dev nD) (i : grid0.Coords) (arg2 : Memref sig .tc .vmem S1x512x256 .f32) (harg2 : arg2.IsWhole) (arg3 : Memref sig .tc .vmem S1x2048x256 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x1024 .f32) (harg8 : arg8.IsWhole) (arg9 : Memref sig .tc .vmem S1x1x1024 .f32) (harg9 : arg9.IsWhole) (arg10 : Memref sig .tc .vmem S1x1024x256 .f32) (harg10 : arg10.IsWhole) (arg11 : Memref sig .tc .vmem S1x1x256 .f32) (harg11 : arg11.IsWhole) (arg12 : Memref sig .tc .smem S4 .f32) (harg12 : arg12.IsWhole) (arg13 : Memref sig .tc .vmem S1x512x256 .f32) (harg13 : arg13.IsWhole) (arg14 : Memref sig .tc .vmem S512x256 .f32) (harg14 : arg14.IsWhole) (hc0 : cond0_0 i) (hc1 : ¬cond0_1 i)
    (x0 : Vec F S1x512x256 .f32) (x1 : Vec F S1x2048x256 .f32) (x2 : Vec F S1x256x256 .f32) (x3 : Vec F S1x256x256 .f32) (x4 : Vec F S1x256x256 .f32) (x5 : Vec F S1x256x256 .f32) (x6 : Vec F S1x256x1024 .f32) (x7 : Vec F S1x1x1024 .f32) (x8 : Vec F S1x1024x256 .f32) (x9 : Vec F S1x1x256 .f32) (x10 : Vec F S4 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 = k0_pay1 (k0_pay4 x0) (attn (k0_pay4 x0) x1 x2 x3 x4 x5 (gate i x10)) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10)]
  unfold kernelRun0_A
  dsimp only
  unfold kernelRun0_A.sl.HS0_2
  rw [View.canon_cons_unit_zero (S := S512x256) hz2, word_A c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10]
  unfold kernelRun0_A.sl.v3 kernelRun0_A.sl.HS0_1 kernelRun0_A.sl.r
  rw [View.readCov_unit_zero (S := S512x256) _ hz2]
  simp only [View.readAt_eq_ld, Memref.IsWhole.read_unread, View.ld_unit_zero (S := S1x512x256) hz3, View.ld_unit_zero (S := S1x2048x256) hz3, View.ld_unit_zero (S := S1x256x256) hz3,
    View.ld_unit_zero (S := S1x256x1024) hz3, View.ld_unit_zero (S := S1x1x1024) hz3, View.ld_unit_zero (S := S1x1024x256) hz3,
    View.ld_unit_zero (S := S1x1x256) hz3, View.ld_unit_zero (S := S512x256) hz2]
  rfl

/-- A later layer's step: the carried latent plus its attention, then the feed-forward. -/
theorem sout_B  (c : Dev nD) (i : grid0.Coords) (arg2 : Memref sig .tc .vmem S1x512x256 .f32) (harg2 : arg2.IsWhole) (arg3 : Memref sig .tc .vmem S1x2048x256 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x1024 .f32) (harg8 : arg8.IsWhole) (arg9 : Memref sig .tc .vmem S1x1x1024 .f32) (harg9 : arg9.IsWhole) (arg10 : Memref sig .tc .vmem S1x1024x256 .f32) (harg10 : arg10.IsWhole) (arg11 : Memref sig .tc .vmem S1x1x256 .f32) (harg11 : arg11.IsWhole) (arg12 : Memref sig .tc .smem S4 .f32) (harg12 : arg12.IsWhole) (arg13 : Memref sig .tc .vmem S1x512x256 .f32) (harg13 : arg13.IsWhole) (arg14 : Memref sig .tc .vmem S512x256 .f32) (harg14 : arg14.IsWhole) (hc0 : ¬cond0_0 i) (hc1 : cond0_1 i)
    (x0 : Vec F S1x512x256 .f32) (x1 : Vec F S1x2048x256 .f32) (x2 : Vec F S1x256x256 .f32) (x3 : Vec F S1x256x256 .f32) (x4 : Vec F S1x256x256 .f32) (x5 : Vec F S1x256x256 .f32) (x6 : Vec F S1x256x1024 .f32) (x7 : Vec F S1x1x1024 .f32) (x8 : Vec F S1x1024x256 .f32) (x9 : Vec F S1x1x256 .f32) (x10 : Vec F S4 .f32) (xs0 : Vec F S512x256 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0 = k0_pay3 (gate i x10) (k0_pay1 xs0 (attn xs0 x1 x2 x3 x4 x5 (gate i x10))) x6 x7 x8 x9 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_B
  dsimp only
  unfold kernelRun0_B.sl.HS0_2
  rw [View.canon_cons_unit_zero (S := S512x256) hz2]
  unfold kernelRun0_B.sl.r_277 kernelRun0_B.sl.v990 kernelRun0_B.sl.HS0_1
  rw [View.readCov_unit_zero (S := S512x256) _ hz2, word_B c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0]
  unfold kernelRun0_B.sl.r_1 kernelRun0_B.sl.r
  simp only [View.readAt_eq_ld, Memref.IsWhole.read_unread, View.ld_unit_zero (S := S1x512x256) hz3, View.ld_unit_zero (S := S1x2048x256) hz3, View.ld_unit_zero (S := S1x256x256) hz3,
    View.ld_unit_zero (S := S1x256x1024) hz3, View.ld_unit_zero (S := S1x1x1024) hz3, View.ld_unit_zero (S := S1x1024x256) hz3,
    View.ld_unit_zero (S := S1x1x256) hz3, View.ld_unit_zero (S := S512x256) hz2]
  rfl

/-- A later layer's step writes back what it leaves in the scratch. -/
theorem out_B  (c : Dev nD) (i : grid0.Coords) (arg2 : Memref sig .tc .vmem S1x512x256 .f32) (harg2 : arg2.IsWhole) (arg3 : Memref sig .tc .vmem S1x2048x256 .f32) (harg3 : arg3.IsWhole) (arg4 : Memref sig .tc .vmem S1x256x256 .f32) (harg4 : arg4.IsWhole) (arg5 : Memref sig .tc .vmem S1x256x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x256x1024 .f32) (harg8 : arg8.IsWhole) (arg9 : Memref sig .tc .vmem S1x1x1024 .f32) (harg9 : arg9.IsWhole) (arg10 : Memref sig .tc .vmem S1x1024x256 .f32) (harg10 : arg10.IsWhole) (arg11 : Memref sig .tc .vmem S1x1x256 .f32) (harg11 : arg11.IsWhole) (arg12 : Memref sig .tc .smem S4 .f32) (harg12 : arg12.IsWhole) (arg13 : Memref sig .tc .vmem S1x512x256 .f32) (harg13 : arg13.IsWhole) (arg14 : Memref sig .tc .vmem S512x256 .f32) (harg14 : arg14.IsWhole) (hc0 : ¬cond0_0 i) (hc1 : cond0_1 i)
    (x0 : Vec F S1x512x256 .f32) (x1 : Vec F S1x2048x256 .f32) (x2 : Vec F S1x256x256 .f32) (x3 : Vec F S1x256x256 .f32) (x4 : Vec F S1x256x256 .f32) (x5 : Vec F S1x256x256 .f32) (x6 : Vec F S1x256x1024 .f32) (x7 : Vec F S1x1x1024 .f32) (x8 : Vec F S1x1024x256 .f32) (x9 : Vec F S1x1x256 .f32) (x10 : Vec F S4 .f32) (xs0 : Vec F S512x256 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0 = k0_pay2 (sout0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0) := by
  unfold sout0_B_0 out0_B_11
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0), View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 hc1 x0 x1 x2 x3 x4 x5 x6 x7 x8 x9 x10 xs0)]
  unfold kernelRun0_B
  dsimp only
  rw [View.canon_unit_zero (S := S1x512x256) hz3]
  unfold kernelRun0_B.sl.v986 kernelRun0_B.sl.HS0_2
  rw [View.canon_cons_unit_zero (S := S512x256) hz2, View.readCov_cons_toLoadRect]

end Cert.KernelIdeal.Step
-- ==== Proof.Blocks.lean ====
/- The blocks a grid point is given, as slices of the arguments. -/
module

public import proofs.«01_k».proof.Proof.Gen.KernelIdeal.Value
public import proofs.«01_k».proof.Proof.KernelStep
public import Idealize.ShloMosaic.Lib.Pipeline.ValueKit

@[expose] public section

set_option maxRecDepth 16384

noncomputable section

open Idealize.ShloMosaic Idealize.ShloMosaic.TcCoe Idealize.SL.Sem

namespace Cert.KernelIdeal.Step

open Cert.KernelIdeal Cert.KernelIdeal.Gen

variable (m : (ℓ : Loc nD τ sig) → Buf (Elt Ideal) ℓ)

/-- The batch of a grid point. -/
def batch (t : Fin cfg0.N) : Fin 8 := ⟨t.val / 4, by have h := t.isLt; have e : cfg0.N = 32 := N_0; omega⟩

/-- The layer of a grid point. -/
def layer (t : Fin cfg0.N) : Fin 4 := ⟨t.val % 4, Nat.mod_lt _ (by decide)⟩

/-- The feed-forward of a grid point: the layer before, the first for the first layer. -/
def ffLayer (t : Fin cfg0.N) : Fin 3 := ⟨t.val % 4 - 1, by omega⟩

/-- Which block of the latents a grid point fetches: the batch's own. -/
theorem idx0 (t : Fin cfg0.N) : win0_0.index t (0 : Fin 3) = t.val / 4 ∧ win0_0.index t (1 : Fin 3) = 0
    ∧ win0_0.index t (2 : Fin 3) = 0 := by
  revert t; decide +kernel

/-- The fetched block of the latents, entry by entry, is the batch's slice of the array. -/
theorem blk0 (c : Dev nD) (t : Fin cfg0.N) (a : Fin 512) (d : Fin 256) :
    iblk m c 0 t (ix3 0 a d) = m ((c : Thread nD τ).loc main_arg0) (ix3 (batch t) a d) := by
  have h := idx0 t
  unfold batch
  blk_ext! [iblk, V, h]

/-- Which block of the points a grid point fetches: the batch's own. -/
theorem idx1 (t : Fin cfg0.N) : win0_1.index t (0 : Fin 3) = t.val / 4 ∧ win0_1.index t (1 : Fin 3) = 0
    ∧ win0_1.index t (2 : Fin 3) = 0 := by
  revert t; decide +kernel

/-- The fetched block of the points, entry by entry, is the batch's slice of the array. -/
theorem blk1 (c : Dev nD) (t : Fin cfg0.N) (a : Fin 2048) (d : Fin 256) :
    iblk m c 1 t (ix3 0 a d) = m ((c : Thread nD τ).loc main_arg1) (ix3 (batch t) a d) := by
  have h := idx1 t
  unfold batch
  blk_ext! [iblk, V, h]

/-- Which block of the query weights a grid point fetches: the layer's own. -/
theorem idx2 (t : Fin cfg0.N) : win0_2.index t (0 : Fin 3) = t.val % 4 ∧ win0_2.index t (1 : Fin 3) = 0
    ∧ win0_2.index t (2 : Fin 3) = 0 := by
  revert t; decide +kernel

/-- The fetched block of the query weights, entry by entry, is the layer's slice of the array. -/
theorem blk2 (c : Dev nD) (t : Fin cfg0.N) (a : Fin 256) (d : Fin 256) :
    iblk m c 2 t (ix3 0 a d) = m ((c : Thread nD τ).loc main_arg2) (ix3 (layer t) a d) := by
  have h := idx2 t
  unfold layer
  blk_ext! [iblk, V, h]

/-- Which block of the key weights a grid point fetches: the layer's own. -/
theorem idx3 (t : Fin cfg0.N) : win0_3.index t (0 : Fin 3) = t.val % 4 ∧ win0_3.index t (1 : Fin 3) = 0
    ∧ win0_3.index t (2 : Fin 3) = 0 := by
  revert t; decide +kernel

/-- The fetched block of the key weights, entry by entry, is the layer's slice of the array. -/
theorem blk3 (c : Dev nD) (t : Fin cfg0.N) (a : Fin 256) (d : Fin 256) :
    iblk m c 3 t (ix3 0 a d) = m ((c : Thread nD τ).loc main_arg3) (ix3 (layer t) a d) := by
  have h := idx3 t
  unfold layer
  blk_ext! [iblk, V, h]

/-- Which block of the value weights a grid point fetches: the layer's own. -/
theorem idx4 (t : Fin cfg0.N) : win0_4.index t (0 : Fin 3) = t.val % 4 ∧ win0_4.index t (1 : Fin 3) = 0
    ∧ win0_4.index t (2 : Fin 3) = 0 := by
  revert t; decide +kernel

/-- The fetched block of the value weights, entry by entry, is the layer's slice of the array. -/
theorem blk4 (c : Dev nD) (t : Fin cfg0.N) (a : Fin 256) (d : Fin 256) :
    iblk m c 4 t (ix3 0 a d) = m ((c : Thread nD τ).loc main_arg4) (ix3 (layer t) a d) := by
  have h := idx4 t
  unfold layer
  blk_ext! [iblk, V, h]

/-- Which block of the output weights a grid point fetches: the layer's own. -/
theorem idx5 (t : Fin cfg0.N) : win0_5.index t (0 : Fin 3) = t.val % 4 ∧ win0_5.index t (1 : Fin 3) = 0
    ∧ win0_5.index t (2 : Fin 3) = 0 := by
  revert t; decide +kernel

/-- The fetched block of the output weights, entry by entry, is the layer's slice of the array. -/
theorem blk5 (c : Dev nD) (t : Fin cfg0.N) (a : Fin 256) (d : Fin 256) :
    iblk m c 5 t (ix3 0 a d) = m ((c : Thread nD τ).loc main_arg5) (ix3 (layer t) a d) := by
  have h := idx5 t
  unfold layer
  blk_ext! [iblk, V, h]

/-- Which block of the first feed-forward weights a grid point fetches: the preceding feed-forward layer's own. -/
theorem idx6 (t : Fin cfg0.N) : win0_6.index t (0 : Fin 3) = t.val % 4 - 1 ∧ win0_6.index t (1 : Fin 3) = 0
    ∧ win0_6.index t (2 : Fin 3) = 0 := by
  revert t; decide +kernel

/-- The fetched block of the first feed-forward weights, entry by entry, is the preceding feed-forward layer's slice of the array. -/
theorem blk6 (c : Dev nD) (t : Fin cfg0.N) (a : Fin 256) (d : Fin 1024) :
    iblk m c 6 t (ix3 0 a d) = m ((c : Thread nD τ).loc main_arg6) (ix3 (ffLayer t) a d) := by
  have h := idx6 t
  unfold ffLayer
  blk_ext! [iblk, V, h]

/-- Which block of the second feed-forward weights a grid point fetches: the preceding feed-forward layer's own. -/
theorem idx8 (t : Fin cfg0.N) : win0_8.index t (0 : Fin 3) = t.val % 4 - 1 ∧ win0_8.index t (1 : Fin 3) = 0
    ∧ win0_8.index t (2 : Fin 3) = 0 := by
  revert t; decide +kernel

/-- The fetched block of the second feed-forward weights, entry by entry, is the preceding feed-forward layer's slice of the array. -/
theorem blk8 (c : Dev nD) (t : Fin cfg0.N) (a : Fin 1024) (d : Fin 256) :
    iblk m c 8 t (ix3 0 a d) = m ((c : Thread nD τ).loc main_arg8) (ix3 (ffLayer t) a d) := by
  have h := idx8 t
  unfold ffLayer
  blk_ext! [iblk, V, h]

/-- Which block of the first feed-forward biases a grid point fetches: the preceding feed-forward layer's own. -/
theorem idx7 (t : Fin cfg0.N) : win0_7.index t (0 : Fin 3) = t.val % 4 - 1 ∧ win0_7.index t (1 : Fin 3) = 0
    ∧ win0_7.index t (2 : Fin 3) = 0 := by
  revert t; decide +kernel

/-- The fetched block of the first feed-forward biases, entry by entry, is the preceding feed-forward layer's slice of the array. -/
theorem blk7 (c : Dev nD) (t : Fin cfg0.N) (d : Fin 1024) :
    iblk m c 7 t (ix3 0 0 d) = m ((c : Thread nD τ).loc main_arg7) (ix2 (ffLayer t) d) := by
  have h := idx7 t
  unfold ffLayer
  blk_ext! [iblk, V, h]

/-- Which block of the second feed-forward biases a grid point fetches: the preceding feed-forward layer's own. -/
theorem idx9 (t : Fin cfg0.N) : win0_9.index t (0 : Fin 3) = t.val % 4 - 1 ∧ win0_9.index t (1 : Fin 3) = 0
    ∧ win0_9.index t (2 : Fin 3) = 0 := by
  revert t; decide +kernel

/-- The fetched block of the second feed-forward biases, entry by entry, is the preceding feed-forward layer's slice of the array. -/
theorem blk9 (c : Dev nD) (t : Fin cfg0.N) (d : Fin 256) :
    iblk m c 9 t (ix3 0 0 d) = m ((c : Thread nD τ).loc main_arg9) (ix2 (ffLayer t) d) := by
  have h := idx9 t
  unfold ffLayer
  blk_ext! [iblk, V, h]

/-- The gates are one block. -/
theorem idx10 (t : Fin cfg0.N) : win0_10.index t (0 : Fin 1) = 0 := by
  revert t; decide +kernel

/-- The gate a grid point reads is its layer's. -/
theorem off1 (t : Fin cfg0.N) : k0_off1 (grid0.coords t) (0 : Fin 1) = t.val % 4 := by
  revert t; decide +kernel

/-- The gate of a grid point. -/
theorem gate_eq (c : Dev nD) (t : Fin cfg0.N) :
    gate (grid0.coords t) (iblk m c 10 t) = m ((c : Thread nD τ).loc main_arg10) (ix1 (layer t)) := by
  have h := idx10 t
  have h' := off1 t
  unfold layer gate
  blk_ext! [iblk, V, h, h']

end Cert.KernelIdeal.Step
-- ==== Proof.Threshold.lean ====
/- The kernel's threshold is the sixteenth least of its column: an entry passes the mask when fewer than sixteen are below it. -/
module

public import proofs.«01_k».proof.Proof.KernelStep
public import Idealize.ShloMosaic.Lib.Pointwise

@[expose] public section

set_option maxRecDepth 16384

noncomputable section

open Idealize.ShloMosaic

namespace Cert.KernelIdeal.Step

open Cert.KernelIdeal Cert.KernelIdeal.Gen Cert.OrderStat

/-- Row `j` of the rows cut at `off` is row `off + j`. -/
theorem rowsOf_apply (r R off : ℕ) (h : off + r ≤ R) (v : FVec Ideal ⟨2, ![R, 512]⟩ .f32) (j : Fin r) (n : Fin 512) :
    rowsOf r R off h v (ix2 j n) = v (ix2 ⟨off + j.val, by omega⟩ n) := by
  unfold rowsOf
  refine congrArg v (funext fun a => ?_)
  match a with
  | ⟨0, _⟩ => exact Fin.ext rfl
  | ⟨1, _⟩ => exact Fin.ext (Nat.zero_add _)

/-- A network of blocks, read at a place, is the network of the entries there. -/
theorem net_at (r : ℕ) (ps : List (ℕ × ℕ)) (v : ℕ → FVec Ideal ⟨2, ![r, 512]⟩ .f32) (k : ℕ) (p : Shape.Idx ⟨2, ![r, 512]⟩) :
    net minimumf maximumf ps v k p = net (min : EReal → EReal → EReal) max ps (fun i => (v i p : EReal)) k :=
  net_map minimumf maximumf (min : EReal → EReal → EReal) max (fun w => (w p : EReal)) (fun _ _ => rfl) (fun _ _ => rfl) ps v k

/-- Rows sorted so that line `k` is at least `c` exactly when at most `k` of the row's entries are below `c`. -/
def Counts (c : EReal) (r : ℕ) (n : Fin 512) (s : ℕ → FVec Ideal ⟨2, ![r, 512]⟩ .f32) (z : ℕ → ℕ) : Prop :=
  ∀ j : Fin r, ∀ k < 16, decide (c ≤ (s k (ix2 j n) : EReal)) = decide (z j.val ≤ k)

/-- A halving adds the counts of the two rows it joins. -/
theorem counts_halve (c : EReal) (r : ℕ) (n : Fin 512) (s : ℕ → FVec Ideal ⟨2, ![2 * r, 512]⟩ .f32) (z : ℕ → ℕ)
    (h : Counts c (2 * r) n s z) : Counts c r n (halve r s) fun j => z j + z (j + r) := by
  intro j k hk
  unfold halve
  rw [net_at, net_above]
  refine (net_congr and or 16 clean16 (by decide) _ (fun i => decide (c ≤ (s i (ix2 ⟨j.val, by omega⟩ n) : EReal)) &&
    (fun i => decide (c ≤ (s i (ix2 ⟨r + j.val, by omega⟩ n) : EReal))) (15 - i)) ?_ k hk).trans ?_
  · intro i _
    have e : (minimumf (rowsOf r (2 * r) 0 (by omega) (s i)) (rowsOf r (2 * r) r (by omega) (s (15 - i))) (ix2 j n) : EReal)
        = min (s i (ix2 ⟨j.val, by omega⟩ n) : EReal) (s (15 - i) (ix2 ⟨r + j.val, by omega⟩ n) : EReal) := by
      rw [minimumf_apply, rowsOf_apply, rowsOf_apply]
      simp only [Nat.zero_add]
      rfl
    exact (congrArg (fun y : EReal => decide (c ≤ y)) e).trans (le_min_decide c _ _)
  · have hr : (⟨r + j.val, by omega⟩ : Fin (2 * r)) = ⟨j.val + r, by omega⟩ := Fin.ext (Nat.add_comm _ _)
    have h1 : ∀ i < 16, (fun i => decide (c ≤ (s i (ix2 ⟨j.val, by omega⟩ n) : EReal))) i = decide (z j.val ≤ i) :=
      fun i hi => h ⟨j.val, by omega⟩ i hi
    have h2 : ∀ i < 16, (fun i => decide (c ≤ (s i (ix2 ⟨r + j.val, by omega⟩ n) : EReal))) i = decide (z (j.val + r) ≤ i) := by
      rw [hr]
      exact fun i hi => h ⟨j.val + r, by omega⟩ i hi
    exact clean16_apply _ _ _ _ h1 h2 k hk

/-- Entry `m` of column `n`, as a function of a number. -/
def col (d : FVec Ideal ⟨2, ![2048, 512]⟩ .f32) (n : Fin 512) (m : ℕ) : EReal :=
  if h : m < 2048 then d (ix2 ⟨m, h⟩ n) else 0

/-- The sorted slabs count, row by row, the sixteen entries they hold. -/
theorem counts_sorted (c : EReal) (n : Fin 512) (d : FVec Ideal ⟨2, ![2048, 512]⟩ .f32) :
    Counts c 128 n (sorted d) fun j => ∑ k ∈ Finset.range 16, zc (decide (c ≤ col d n (128 * k + j))) := by
  intro j k hk
  unfold sorted
  rw [net_at, net_above]
  refine (net_congr and or 16 sort16 (by decide) _ (fun i => decide (c ≤ col d n (128 * i + j.val))) ?_ k hk).trans ?_
  · intro i hi
    refine congrArg (fun y : EReal => decide (c ≤ y)) ?_
    have hj := j.isLt
    unfold slabs col
    rw [dif_pos hi, dif_pos (by omega), rowsOf_apply]
  · exact sort16_apply _ k hk

/-- A sum over twice as many rows is the sum of the two halves. -/
theorem sum_halves (z : ℕ → ℕ) (r : ℕ) :
    ∑ j ∈ Finset.range r, (z j + z (j + r)) = ∑ j ∈ Finset.range (r + r), z j := by
  rw [Finset.sum_add_distrib, Finset.sum_range_add]
  simp only [Nat.add_comm]

/-- A sum over all rows, taken row by row within each slab of 128: first across the slabs, then over the rows of one. -/
theorem sum_slabs (f : ℕ → ℕ) (K : ℕ) :
    ∑ m ∈ Finset.range (128 * K), f m = ∑ j ∈ Finset.range 128, ∑ k ∈ Finset.range K, f (128 * k + j) := by
  induction K with
  | zero => simp
  | succ K ih =>
    rw [Nat.mul_succ, Finset.sum_range_add, ih, ← Finset.sum_add_distrib]
    refine Finset.sum_congr rfl fun j _ => ?_
    rw [Finset.sum_range_succ]

/-- The threshold is at least `c` exactly when fewer than sixteen of the column's entries are below `c`. -/
theorem le_thr (c : EReal) (n : Fin 512) (d : FVec Ideal ⟨2, ![2048, 512]⟩ .f32) :
    c ≤ (thr d (ix2 0 n) : EReal) ↔ (Finset.univ.filter fun m : Fin 2048 => (d (ix2 m n) : EReal) < c).card < 16 := by
  have h := counts_halve c 1 n _ _ (counts_halve c 2 n _ _ (counts_halve c 4 n _ _ (counts_halve c 8 n _ _
    (counts_halve c 16 n _ _ (counts_halve c 32 n _ _ (counts_halve c 64 n _ _ (counts_sorted c n d)))))))
  have h15 := h 0 15 (by omega)
  rw [decide_eq_decide] at h15
  refine h15.trans ?_
  generalize hz : (fun j => ∑ k ∈ Finset.range 16, zc (decide (c ≤ col d n (128 * k + j)))) = z
  have e : ∀ q : ℕ → ℕ, ∑ j ∈ Finset.range 1, q j = q 0 := fun q => by simp
  have hc : (Finset.univ.filter fun m : Fin 2048 => (d (ix2 m n) : EReal) < c).card = ∑ j ∈ Finset.range 128, z j := by
    rw [← hz, ← sum_slabs (fun m => zc (decide (c ≤ col d n m))) 16, Finset.card_filter,
      ← Fin.sum_univ_eq_sum_range (fun m => zc (decide (c ≤ col d n m))) (128 * 16)]
    refine Finset.sum_congr rfl fun m _ => ?_
    have hm : col d n m.val = d (ix2 m n) := by unfold col; rw [dif_pos m.isLt]
    unfold zc
    rw [hm]
    by_cases h : c ≤ (d (ix2 m n) : EReal)
    · simp [h, not_lt.mpr h]
    · simp [h, not_le.mp h]
  rw [hc]
  have s := ((sum_halves (fun j => z j) 64).symm.trans ((sum_halves _ 32).symm.trans ((sum_halves _ 16).symm.trans
    ((sum_halves _ 8).symm.trans ((sum_halves _ 4).symm.trans ((sum_halves _ 2).symm.trans ((sum_halves _ 1).symm.trans (e _))))))))
  have s' : ∑ j ∈ Finset.range 128, z j = _ := s
  rw [s']
  subst hz
  exact Nat.lt_succ_iff.symm

/-- The mask: one where fewer than sixteen entries of the column are below, zero elsewhere. -/
theorem mask_apply (d : FVec Ideal S2048x512 .f32) (m : Fin 2048) (n : Fin 512) :
    (mask d (ix2 m n) : EReal)
      = if (Finset.univ.filter fun m' : Fin 2048 => (d (ix2 m' n) : EReal) < d (ix2 m n)).card < 16 then 1 else 0 := by
  have h := le_thr (d (ix2 m n)) n d
  unfold mask
  pointwise
  simp only [← h]

end Cert.KernelIdeal.Step
-- ==== Proof.Model.lean ====
/- The mathematics both programs compute, over the real numbers: nearest sixteen, attention over them, feed-forward. -/
module

public import Mathlib.Data.Real.Basic
public import Mathlib.Analysis.SpecialFunctions.Pow.Real
public import Mathlib.Analysis.SpecialFunctions.Trigonometric.DerivHyp
public import Idealize.ShloMosaic.Lib.Pointwise

@[expose] public section

noncomputable section

open Idealize.ShloMosaic

namespace Cert.Model

/-- A finite sum of real numbers, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The quotient of two real numbers, the second not zero. -/
theorem div_real (a b : ℝ) (hb : b ≠ 0) : Ideal.div (a : EReal) (b : EReal) = ((a / b : ℝ) : EReal) := by
  rw [Ideal.div_coe hb, ← EReal.coe_mul, mul_one_div]

/-- Rows of a matrix times the columns of another. -/
def prod {N K M : ℕ} (a : Fin N → Fin K → ℝ) (w : Fin K → Fin M → ℝ) (i : Fin N) (j : Fin M) : ℝ := ∑ k : Fin K, a i k * w k j

/-- Half the square of a point less its product with a latent: the order of the squared distances. -/
def score (L : Fin 512 → Fin 256 → ℝ) (X : Fin 2048 → Fin 256 → ℝ) (m : Fin 2048) (n : Fin 512) : ℝ :=
  1 / 2 * (∑ d : Fin 256, X m d * X m d) - ∑ d : Fin 256, X m d * L n d

/-- The points with fewer than sixteen nearer ones. -/
def near (L : Fin 512 → Fin 256 → ℝ) (X : Fin 2048 → Fin 256 → ℝ) (n : Fin 512) : Finset (Fin 2048) :=
  Finset.univ.filter fun m => (Finset.univ.filter fun m' => score L X m' n < score L X m n).card < 16

/-- Entry `c` of head `h` is column `64 h + c`. -/
def hcol (h : Fin 4) (c : Fin 64) : Fin 256 := ⟨64 * h.val + c.val, by omega⟩

/-- The unnormalised attention of latent `n` to point `m` under head `h`. -/
def weight (q : Fin 512 → Fin 256 → ℝ) (k : Fin 2048 → Fin 256 → ℝ) (h : Fin 4) (n : Fin 512) (m : Fin 2048) : ℝ :=
  Real.exp ((∑ c : Fin 64, q n (hcol h c) * k m (hcol h c)) / 8)

/-- The attention of head `h`: the mean of the values of a set of points, by weight. -/
def mean (s : Finset (Fin 2048)) (w : Fin 2048 → ℝ) (v : Fin 2048 → ℝ) : ℝ := (∑ m ∈ s, w m * v m) / ∑ m ∈ s, w m

/-- The heads side by side. -/
def heads (q : Fin 512 → Fin 256 → ℝ) (k v : Fin 2048 → Fin 256 → ℝ) (s : Fin 512 → Finset (Fin 2048)) (n : Fin 512)
    (c : Fin 256) : ℝ :=
  mean (s n) (weight q k ⟨c.val / 64, by omega⟩ n) fun m => v m c

/-- A layer's attention added to the latent. -/
def attended (g : ℝ) (L : Fin 512 → Fin 256 → ℝ) (X : Fin 2048 → Fin 256 → ℝ) (wq wk wv wo : Fin 256 → Fin 256 → ℝ)
    (n : Fin 512) (d : Fin 256) : ℝ :=
  L n d + g * prod (heads (prod L wq) (prod X wk) (prod X wv) (near L X)) wo n d

/-- The smooth rectifier, by its hyperbolic-tangent formula with the reference's two constants. -/
def gelu (x : ℝ) : ℝ :=
  x * (1 / 2 * (1 + Real.tanh (6693141 / 8388608 * (x + 12003091 / 268435456 * (x * (x * x))))))

/-- The feed-forward added to the latent. -/
def forward (g : ℝ) (L : Fin 512 → Fin 256 → ℝ) (w1 : Fin 256 → Fin 1024 → ℝ) (b1 : Fin 1024 → ℝ)
    (w2 : Fin 1024 → Fin 256 → ℝ) (b2 : Fin 256 → ℝ) (n : Fin 512) (d : Fin 256) : ℝ :=
  L n d + g * (prod (fun n f => gelu (prod L w1 n f + b1 f)) w2 n d + b2 d)

/-- Weights are positive. -/
theorem weight_pos (q : Fin 512 → Fin 256 → ℝ) (k : Fin 2048 → Fin 256 → ℝ) (h : Fin 4) (n : Fin 512) (m : Fin 2048) :
    0 < weight q k h n m := Real.exp_pos _

/-- The nearest point is near. -/
theorem near_nonempty (L : Fin 512 → Fin 256 → ℝ) (X : Fin 2048 → Fin 256 → ℝ) (n : Fin 512) : (near L X n).Nonempty := by
  obtain ⟨m, _, hm⟩ := Finset.exists_min_image (Finset.univ : Finset (Fin 2048)) (fun m => score L X m n) ⟨0, Finset.mem_univ _⟩
  refine ⟨m, ?_⟩
  unfold near
  rw [Finset.mem_filter]
  refine ⟨Finset.mem_univ _, ?_⟩
  rw [Finset.card_eq_zero.mpr]
  · omega
  · rw [Finset.filter_eq_empty_iff]
    exact fun m' hm' => not_lt.mpr (hm m' hm')

/-- The real numbers of the arguments. -/
structure Inputs where
  latent : Fin 8 → Fin 512 → Fin 256 → ℝ
  x : Fin 8 → Fin 2048 → Fin 256 → ℝ
  wq : Fin 4 → Fin 256 → Fin 256 → ℝ
  wk : Fin 4 → Fin 256 → Fin 256 → ℝ
  wv : Fin 4 → Fin 256 → Fin 256 → ℝ
  wo : Fin 4 → Fin 256 → Fin 256 → ℝ
  w1 : Fin 3 → Fin 256 → Fin 1024 → ℝ
  b1 : Fin 3 → Fin 1024 → ℝ
  w2 : Fin 3 → Fin 1024 → Fin 256 → ℝ
  b2 : Fin 3 → Fin 256 → ℝ
  gates : Fin 4 → ℝ

/-- A layer's attention. -/
def attendAt (p : Inputs) (b : Fin 8) (i : Fin 4) (L : Fin 512 → Fin 256 → ℝ) : Fin 512 → Fin 256 → ℝ :=
  attended (p.gates i) L (p.x b) (p.wq i) (p.wk i) (p.wv i) (p.wo i)

/-- A layer's feed-forward, numbered from the second layer on. -/
def forwardAt (p : Inputs) (j : Fin 3) (L : Fin 512 → Fin 256 → ℝ) : Fin 512 → Fin 256 → ℝ :=
  forward (p.gates j.succ) L (p.w1 j) (p.b1 j) (p.w2 j) (p.b2 j)

/-- The latent of a batch after layer 0, 1, 2, 3. -/
def latentAfter (p : Inputs) (b : Fin 8) : ℕ → Fin 512 → Fin 256 → ℝ
  | 0 => attendAt p b 0 (p.latent b)
  | i + 1 => forwardAt p ⟨i % 3, Nat.mod_lt _ (by decide)⟩
      (attendAt p b (Fin.succ ⟨i % 3, Nat.mod_lt _ (by decide)⟩) (latentAfter p b i))

end Cert.Model
-- ==== Proof.Consts.lean ====
/- The literals of the two programs, as real numbers. -/
module

public import Idealize.ShloMosaic.Lib.Pointwise
public import Idealize.ShloMosaic.Lib.IdealHost

@[expose] public section

open Idealize.ShloMosaic

namespace Cert.Consts

/-- One half. -/
theorem half_f32 : Ideal.ofBits .f32 0x3F000000#32 = ((1 / 2 : ℝ) : EReal) := by
  simp [Ideal.ofBits, Ideal.ieee, -EReal.coe_mul]; norm_num
/-- One half, in the short format. -/
theorem half_bf16 : Ideal.ofBits .bf16 0x3F00#16 = ((1 / 2 : ℝ) : EReal) := by
  simp [Ideal.ofBits, Ideal.ieee, -EReal.coe_mul]; norm_num
/-- One. -/
theorem one_f32 : Ideal.ofBits .f32 0x3F800000#32 = ((1 : ℝ) : EReal) := by
  simp [Ideal.ofBits, Ideal.ieee, -EReal.coe_mul]; norm_num
/-- One, in the short format. -/
theorem one_bf16 : Ideal.ofBits .bf16 0x3F80#16 = ((1 : ℝ) : EReal) := by
  simp [Ideal.ofBits, Ideal.ieee, -EReal.coe_mul]; norm_num
/-- Two. -/
theorem two_f32 : Ideal.ofBits .f32 0x40000000#32 = ((2 : ℝ) : EReal) := by
  simp [Ideal.ofBits, Ideal.ieee, -EReal.coe_mul]; norm_num
/-- Sixty-four. -/
theorem sixtyfour_f32 : Ideal.ofBits .f32 0x42800000#32 = ((64 : ℝ) : EReal) := by
  simp [Ideal.ofBits, Ideal.ieee, -EReal.coe_mul]; norm_num
/-- The coefficient of the cube in the smooth rectifier, as the reference writes it. -/
theorem cubic_f32 : Ideal.ofBits .f32 0x3D372713#32 = ((12003091 / 268435456 : ℝ) : EReal) := by
  simp [Ideal.ofBits, Ideal.ieee, -EReal.coe_mul]; norm_num
/-- The root of two over pi in the smooth rectifier, as the reference writes it. -/
theorem root_f32 : Ideal.ofBits .f32 0x3F4C422A#32 = ((6693141 / 8388608 : ℝ) : EReal) := by
  simp [Ideal.ofBits, Ideal.ieee, -EReal.coe_mul]; norm_num
/-- Minus infinity. -/
theorem bot_f32 : Ideal.ofBits .f32 0xFF800000#32 = (⊥ : EReal) := by
  simp [Ideal.ofBits, Ideal.ieee]

end Cert.Consts
-- ==== Proof.StepValue.lean ====
/- One grid step of the kernel over the real numbers: its words are the model's. -/
module

public import proofs.«01_k».proof.Proof.Threshold
public import proofs.«01_k».proof.Proof.Model
public import proofs.«01_k».proof.Proof.Consts

@[expose] public section

set_option maxRecDepth 16384

noncomputable section

open Idealize.ShloMosaic

namespace Cert.KernelIdeal.Step

open Cert.KernelIdeal Cert.KernelIdeal.Gen Cert.Model Cert.Consts

variable {L : Fin 512 → Fin 256 → ℝ} {X : Fin 2048 → Fin 256 → ℝ} {wq wk wv wo : Fin 256 → Fin 256 → ℝ}

/-- The scores. -/
theorem score_apply (lat : Vec Ideal S512x256 .f32) (x : Vec Ideal S1x2048x256 .f32)
    (hl : ∀ n d, (lat (ix2 n d) : EReal) = (L n d : EReal)) (hx : ∀ m d, (x (ix3 0 m d) : EReal) = (X m d : EReal))
    (m : Fin 2048) (n : Fin 512) : (k0_pay6 lat x (ix2 m n) : EReal) = (score L X m n : EReal) := by
  pointwise [k0_pay6, k0_pay5]
  simp only [hl, hx, half_f32, zero_add, ← EReal.coe_mul, ← coe_sum, ← EReal.coe_sub]
  rfl

/-- The queries, scaled. -/
theorem query_apply (lat : Vec Ideal S512x256 .f32) (w : Vec Ideal S1x256x256 .f32)
    (hl : ∀ n d, (lat (ix2 n d) : EReal) = (L n d : EReal)) (hw : ∀ m d, (w (ix3 0 m d) : EReal) = (wq m d : EReal))
    (n : Fin 512) (d : Fin 256) :
    (k0_pay642 lat w (ix2 n d) : EReal) = ((prod L wq n d * ((Real.log 2)⁻¹ * (1 / 8)) : ℝ) : EReal) := by
  pointwise [k0_pay642]
  have hk : (Named.named κ "log2e_over_8" 0x3E38AA3B#32 : Ideal .f32) = (((Real.log 2)⁻¹ * (1 / 8) : ℝ) : EReal) := rfl
  simp only [hl, hw, hk, zero_add, ← EReal.coe_mul, ← coe_sum]
  rfl

/-- The keys. -/
theorem key_apply (x : Vec Ideal S1x2048x256 .f32) (w : Vec Ideal S1x256x256 .f32)
    (hx : ∀ m d, (x (ix3 0 m d) : EReal) = (X m d : EReal)) (hw : ∀ m d, (w (ix3 0 m d) : EReal) = (wk m d : EReal))
    (m : Fin 2048) (d : Fin 256) :
    (k0_pay643 (k0_pay5 x) w (ix2 m d) : EReal) = (prod X wk m d : EReal) := by
  pointwise [k0_pay643, k0_pay5, k0_pay641]
  simp only [hx, hw, zero_add, ← EReal.coe_mul, ← coe_sum]
  rfl

/-- The values. -/
theorem value_apply (x : Vec Ideal S1x2048x256 .f32) (w : Vec Ideal S1x256x256 .f32)
    (hx : ∀ m d, (x (ix3 0 m d) : EReal) = (X m d : EReal)) (hw : ∀ m d, (w (ix3 0 m d) : EReal) = (wv m d : EReal))
    (m : Fin 2048) (d : Fin 256) :
    (k0_pay644 (k0_pay5 x) w (ix2 m d) : EReal) = (prod X wv m d : EReal) := by
  pointwise [k0_pay644, k0_pay5, k0_pay641]
  simp only [hx, hw, zero_add, ← EReal.coe_mul, ← coe_sum]
  rfl

/-- Columns `off` to `off + 64` of 256. -/
theorem colsFit (R off : ℕ) (h : off + 64 ≤ 256) : (⟨2, ![R, 256]⟩ : Shape).Slices ![0, off] ⟨2, ![R, 64]⟩ :=
  ⟨rfl, fun a => by
    match a with
    | ⟨0, _⟩ => exact (Nat.zero_add R).le
    | ⟨1, _⟩ => exact h⟩

/-- Numerators and denominators of the head whose columns start at `off`. -/
def headSums (off : ℕ) (h : off + 64 ≤ 256) (q : FVec Ideal S512x256 .bf16) (k v : FVec Ideal S2048x256 .bf16)
    (mk : FVec Ideal S2048x512 .bf16) : FVec Ideal S512x128 .f32 :=
  matmul dot_S2048x512_S2048x128_S512x128_0_0_1_1_n_n none
    (mulf (exp2 (truncf .bf16 (matmul dot_S2048x64_S512x64_S2048x512_1_1_0_0_n_n none
      (extractStridedSlice S2048x64 ![0, off] k (colsFit 2048 off h))
      (extractStridedSlice S512x64 ![0, off] q (colsFit 512 off h))
      (constant S2048x512 .f32 0x00000000#32)) bitsLt_bf16_f32)) mk)
    (concatenate S2048x128 1 [⟨S2048x64, extractStridedSlice S2048x64 ![0, off] v (colsFit 2048 off h)⟩,
      ⟨S2048x64, k0_pay646 (F := Ideal)⟩] concatenates_S2048x64_S2048x64_S2048x128_d1)
    (constant S512x128 .f32 0x00000000#32)

/-- The head whose columns start at `off`: numerators over denominators. -/
def headOut (off : ℕ) (h : off + 64 ≤ 256) (q : FVec Ideal S512x256 .bf16) (k v : FVec Ideal S2048x256 .bf16)
    (mk : FVec Ideal S2048x512 .bf16) : FVec Ideal S512x64 .f32 :=
  divf (extractStridedSlice S512x64 ![0, 0] (headSums off h q k v mk) slices_S512x128_o0_0_S512x64)
    (broadcastTo S512x64 (extractStridedSlice S512x1 ![0, 64] (headSums off h q k v mk) slices_S512x128_o0_64_S512x1)
      broadcasts_S512x1_S512x64)

/-- The heads side by side. -/
def headsOut (q : FVec Ideal S512x256 .bf16) (k v : FVec Ideal S2048x256 .bf16)
    (mk : FVec Ideal S2048x512 .bf16) : FVec Ideal S512x256 .f32 :=
  concatenate S512x256 1 [⟨S512x64, headOut 0 (by decide) q k v mk⟩, ⟨S512x64, headOut 64 (by decide) q k v mk⟩,
    ⟨S512x64, headOut 128 (by decide) q k v mk⟩, ⟨S512x64, headOut 192 (by decide) q k v mk⟩]
    concatenates_S512x64_S512x64_S512x64_S512x64_S512x256_d1

/-- The gate times the output product of the heads. -/
def outProd (g : Elt Ideal .f32) (o : FVec Ideal S512x256 .f32) (wo : Vec Ideal S1x256x256 .f32) : FVec Ideal S512x256 .f32 :=
  mulf (broadcast S512x256 g) (matmul dot_S512x256_S256x256_S512x256_1_0_0_1_n_n none (truncf .bf16 o bitsLt_bf16_f32)
    (truncf .bf16 (shapeCast S256x256 wo shapeCasts_S1x256x256_S256x256) bitsLt_bf16_f32) (constant S512x256 .f32 0x00000000#32))

/-- The attention's words, one generic head at a time. -/
theorem attn_eq (lat : Vec Ideal S512x256 .f32) (x : Vec Ideal S1x2048x256 .f32) (wq wk wv wo : Vec Ideal S1x256x256 .f32)
    (g : Elt Ideal .f32) :
    attn lat x wq wk wv wo g = outProd g (headsOut (k0_pay642 lat wq) (k0_pay643 (k0_pay5 x) wk) (k0_pay644 (k0_pay5 x) wv)
      (mask (k0_pay6 lat x))) wo := by
  sl_kernel_rfl

/-- The sums of a head: numerators in columns 0–63, the denominator in columns 64–127. -/
theorem headSums_apply (off : ℕ) (h : off + 64 ≤ 256) (q : FVec Ideal S512x256 .bf16) (k v : FVec Ideal S2048x256 .bf16)
    (mk : FVec Ideal S2048x512 .bf16) (n : Fin 512) (c : Fin 128) :
    (headSums off h q k v mk (ix2 n c) : EReal) = ∑ m : Fin 2048,
      Ideal.exp2 (∑ d : Fin 64, (k (ix2 m ⟨off + d.val, by omega⟩) : EReal) * q (ix2 n ⟨off + d.val, by omega⟩)) * mk (ix2 m n)
        * (if hc : c.val < 64 then (v (ix2 m ⟨off + c.val, by omega⟩) : EReal) else 1) := by
  pointwise [headSums, k0_pay646]
  rfl

/-- The output product as a sum. -/
theorem outProd_apply (g : Elt Ideal .f32) (o : FVec Ideal S512x256 .f32) (wo : Vec Ideal S1x256x256 .f32) (n : Fin 512)
    (d : Fin 256) : (outProd g o wo (ix2 n d) : EReal) = (g : EReal) * ∑ c : Fin 256, (o (ix2 n c) : EReal) * wo (ix3 0 c d) := by
  pointwise [outProd]

/-- A head is its numerators over its denominator. -/
theorem headOut_apply (off : ℕ) (h : off + 64 ≤ 256) (q : FVec Ideal S512x256 .bf16) (k v : FVec Ideal S2048x256 .bf16)
    (mk : FVec Ideal S2048x512 .bf16) (n : Fin 512) (c : Fin 64) :
    (headOut off h q k v mk (ix2 n c) : EReal) = Ideal.div (headSums off h q k v mk (ix2 n ⟨c.val, by omega⟩))
      (headSums off h q k v mk (ix2 n ⟨64, by omega⟩)) := by
  pointwise [headOut]

/-- A head's output depends on its column offset only through its value. -/
theorem headOut_congr (off off' : ℕ) (h : off + 64 ≤ 256) (h' : off' + 64 ≤ 256) (q : FVec Ideal S512x256 .bf16)
    (k v : FVec Ideal S2048x256 .bf16) (mk : FVec Ideal S2048x512 .bf16) (n : Fin 512) (c c' : Fin 64) (ho : off = off')
    (hc : c.val = c'.val) : headOut off h q k v mk (ix2 n c) = headOut off' h' q k v mk (ix2 n c') := by
  subst ho
  rw [Fin.ext hc]

/-- Column `c` of the heads is column `c % 64` of head `c / 64`. -/
theorem headsOut_apply (q : FVec Ideal S512x256 .bf16) (k v : FVec Ideal S2048x256 .bf16)
    (mk : FVec Ideal S2048x512 .bf16) (n : Fin 512) (c : Fin 256) :
    (headsOut q k v mk (ix2 n c) : EReal)
      = headOut (64 * (c.val / 64)) (by omega) q k v mk (ix2 n ⟨c.val % 64, Nat.mod_lt _ (by decide)⟩) := by
  have hc := c.isLt
  pointwise [headsOut]
  split
  · exact headOut_congr _ _ _ _ _ _ _ _ _ _ _ (by omega) (by dsimp only; omega)
  · split
    · exact headOut_congr _ _ _ _ _ _ _ _ _ _ _ (by omega) (by dsimp only; omega)
    · split
      · exact headOut_congr _ _ _ _ _ _ _ _ _ _ _ (by omega) (by dsimp only; omega)
      · exact headOut_congr _ _ _ _ _ _ _ _ _ _ _ (by omega) (by dsimp only; omega)

/-- Powers of two of the scaled products are the weights. -/
theorem exp2_scaled (t : ℝ) : Ideal.exp2 ((t * ((Real.log 2)⁻¹ * (1 / 8)) : ℝ) : EReal) = ((Real.exp (t / 8) : ℝ) : EReal) := by
  rw [Ideal.exp2_coe]
  have h2 : Real.log 2 ≠ 0 := (Real.log_pos one_lt_two).ne'
  have e : Real.rpow 2 (t * ((Real.log 2)⁻¹ * (1 / 8))) = Real.exp (t / 8) := by
    refine (Real.rpow_def_of_pos two_pos _).trans ?_
    congr 1
    field_simp
  rw [e]

/-- A sum against a mask is a sum over the set it marks. -/
theorem sum_masked (s : Finset (Fin 2048)) (w : Fin 2048 → ℝ) (f : Fin 2048 → ℝ) (mk b a : Fin 2048 → EReal)
    (ha : ∀ m, a m = (w m : EReal)) (hm : ∀ m, mk m = if m ∈ s then 1 else 0) (hb : ∀ m, b m = (f m : EReal)) :
    ∑ m : Fin 2048, a m * mk m * b m = ((∑ m ∈ s, w m * f m : ℝ) : EReal) := by
  rw [coe_sum, ← Finset.sum_subset (Finset.subset_univ s)]
  · refine Finset.sum_congr rfl fun m h => ?_
    rw [ha, hm, hb, if_pos h, mul_one, EReal.coe_mul]
  · intro m _ h
    rw [hm, if_neg h, mul_zero, zero_mul]

/-- The heads over the real numbers. -/
theorem headsOut_real (Q : Fin 512 → Fin 256 → ℝ) (K V : Fin 2048 → Fin 256 → ℝ) (s : Fin 512 → Finset (Fin 2048))
    (hs : ∀ n, (s n).Nonempty) (q : FVec Ideal S512x256 .bf16)
    (k v : FVec Ideal S2048x256 .bf16) (mk : FVec Ideal S2048x512 .bf16)
    (hq : ∀ n d, (q (ix2 n d) : EReal) = ((Q n d * ((Real.log 2)⁻¹ * (1 / 8)) : ℝ) : EReal))
    (hk : ∀ m d, (k (ix2 m d) : EReal) = (K m d : EReal)) (hv : ∀ m d, (v (ix2 m d) : EReal) = (V m d : EReal))
    (hm : ∀ m n, (mk (ix2 m n) : EReal) = if m ∈ s n then 1 else 0) (n : Fin 512) (c : Fin 256) :
    (headsOut q k v mk (ix2 n c) : EReal) = (heads Q K V s n c : EReal) := by
  have hc := c.isLt
  have ho : 64 * (c.val / 64) + 64 ≤ 256 := by omega
  have hw : ∀ m : Fin 2048, Ideal.exp2 (∑ d : Fin 64, (k (ix2 m ⟨64 * (c.val / 64) + d.val, by omega⟩) : EReal)
        * q (ix2 n ⟨64 * (c.val / 64) + d.val, by omega⟩)) = (weight Q K ⟨c.val / 64, by omega⟩ n m : EReal) := by
    intro m
    simp only [hk, hq, ← EReal.coe_mul, ← coe_sum]
    have e : ∑ d : Fin 64, K m ⟨64 * (c.val / 64) + d.val, by omega⟩ * (Q n ⟨64 * (c.val / 64) + d.val, by omega⟩ *
          ((Real.log 2)⁻¹ * (1 / 8)))
        = (∑ d : Fin 64, Q n (hcol ⟨c.val / 64, by omega⟩ d) * K m (hcol ⟨c.val / 64, by omega⟩ d)) * ((Real.log 2)⁻¹ * (1 / 8)) := by
      rw [Finset.sum_mul]
      refine Finset.sum_congr rfl fun d _ => ?_
      unfold hcol
      ring
    rw [e, exp2_scaled]
    rfl
  have hnum : (headSums (64 * (c.val / 64)) ho q k v mk (ix2 n ⟨c.val % 64, by omega⟩) : EReal)
      = ((∑ m ∈ s n, weight Q K ⟨c.val / 64, by omega⟩ n m * V m c : ℝ) : EReal) := by
    rw [headSums_apply]
    refine sum_masked (s n) _ (fun m => V m c) (fun m => mk (ix2 m n)) _ _ hw (fun m => hm m n) fun m => ?_
    rw [dif_pos (show c.val % 64 < 64 by omega), hv]
    congr 2
    exact Fin.ext (by dsimp only; omega)
  have hden : (headSums (64 * (c.val / 64)) ho q k v mk (ix2 n ⟨64, by omega⟩) : EReal)
      = ((∑ m ∈ s n, weight Q K ⟨c.val / 64, by omega⟩ n m : ℝ) : EReal) := by
    rw [headSums_apply]
    refine (sum_masked (s n) _ (fun m => 1) (fun m => mk (ix2 m n)) _ _ hw (fun m => hm m n) fun m => ?_).trans ?_
    · rw [dif_neg (show ¬ (64 < 64) by omega)]
      rfl
    · simp only [mul_one]
  rw [headsOut_apply, headOut_apply]
  refine (congrArg₂ Ideal.div hnum hden).trans (div_real _ _ ?_)
  exact (Finset.sum_pos (fun m _ => weight_pos Q K _ n m) (hs n)).ne'

/-- The mask marks the near points. -/
theorem mask_near (lat : Vec Ideal S512x256 .f32) (x : Vec Ideal S1x2048x256 .f32)
    (hl : ∀ n d, (lat (ix2 n d) : EReal) = (L n d : EReal)) (hx : ∀ m d, (x (ix3 0 m d) : EReal) = (X m d : EReal))
    (m : Fin 2048) (n : Fin 512) : (mask (k0_pay6 lat x) (ix2 m n) : EReal) = if m ∈ near L X n then 1 else 0 := by
  rw [mask_apply]
  simp only [score_apply lat x hl hx, EReal.coe_lt_coe_iff, near, Finset.mem_filter, Finset.mem_univ, true_and]

/-- The attention half of a step over the real numbers. -/
theorem attended_apply (lat : Vec Ideal S512x256 .f32) (x : Vec Ideal S1x2048x256 .f32) (bq bk bv bo : Vec Ideal S1x256x256 .f32)
    (g : Elt Ideal .f32) (γ : ℝ)
    (hl : ∀ n d, (lat (ix2 n d) : EReal) = (L n d : EReal)) (hx : ∀ m d, (x (ix3 0 m d) : EReal) = (X m d : EReal))
    (hq : ∀ m d, (bq (ix3 0 m d) : EReal) = (wq m d : EReal)) (hk : ∀ m d, (bk (ix3 0 m d) : EReal) = (wk m d : EReal))
    (hv : ∀ m d, (bv (ix3 0 m d) : EReal) = (wv m d : EReal)) (ho : ∀ m d, (bo (ix3 0 m d) : EReal) = (wo m d : EReal))
    (hg : (g : EReal) = (γ : EReal)) (n : Fin 512) (d : Fin 256) :
    (k0_pay1 lat (attn lat x bq bk bv bo g) (ix2 n d) : EReal) = (attended γ L X wq wk wv wo n d : EReal) := by
  have h := headsOut_real (prod L wq) (prod X wk) (prod X wv) (near L X) (near_nonempty L X) (k0_pay642 lat bq)
    (k0_pay643 (k0_pay5 x) bk) (k0_pay644 (k0_pay5 x) bv) (mask (k0_pay6 lat x)) (query_apply lat bq hl hq)
    (key_apply x bk hx hk) (value_apply x bv hx hv) (mask_near lat x hl hx)
  rw [attn_eq]
  have e : (k0_pay1 lat (outProd g (headsOut (k0_pay642 lat bq) (k0_pay643 (k0_pay5 x) bk) (k0_pay644 (k0_pay5 x) bv)
      (mask (k0_pay6 lat x))) bo) (ix2 n d) : EReal) = (lat (ix2 n d) : EReal) + outProd g (headsOut (k0_pay642 lat bq) (k0_pay643 (k0_pay5 x) bk) (k0_pay644 (k0_pay5 x) bv)
      (mask (k0_pay6 lat x))) bo (ix2 n d) := by
    pointwise [k0_pay1]
  rw [e, outProd_apply]
  simp only [hl, hg, h, ho, ← EReal.coe_mul, ← coe_sum, ← EReal.coe_add]
  rfl

/-- The feed-forward half of a step over the real numbers. -/
theorem forward_apply (lat : Vec Ideal S512x256 .f32) (b6 : Vec Ideal S1x256x1024 .f32) (b7 : Vec Ideal S1x1x1024 .f32)
    (b8 : Vec Ideal S1x1024x256 .f32) (b9 : Vec Ideal S1x1x256 .f32) (g : Elt Ideal .f32) (γ : ℝ)
    (w1 : Fin 256 → Fin 1024 → ℝ) (b1 : Fin 1024 → ℝ) (w2 : Fin 1024 → Fin 256 → ℝ) (b2 : Fin 256 → ℝ)
    (hl : ∀ n d, (lat (ix2 n d) : EReal) = (L n d : EReal))
    (h6 : ∀ m d, (b6 (ix3 0 m d) : EReal) = (w1 m d : EReal)) (h7 : ∀ d, (b7 (ix3 0 0 d) : EReal) = (b1 d : EReal))
    (h8 : ∀ m d, (b8 (ix3 0 m d) : EReal) = (w2 m d : EReal)) (h9 : ∀ d, (b9 (ix3 0 0 d) : EReal) = (b2 d : EReal))
    (hg : (g : EReal) = (γ : EReal)) (n : Fin 512) (d : Fin 256) :
    (k0_pay3 g lat b6 b7 b8 b9 (ix2 n d) : EReal) = (forward γ L w1 b1 w2 b2 n d : EReal) := by
  have hc : (Named.named κ "gelu_cubic" 0x3D37#16 : Ideal .bf16) = ((12003091 / 268435456 : ℝ) : EReal) := rfl
  have hr : (Named.named κ "sqrt_2_over_pi" 0x3F4C#16 : Ideal .bf16) = ((6693141 / 8388608 : ℝ) : EReal) := rfl
  pointwise [k0_pay3]
  simp only [hl, h6, h7, h8, h9, hg, hc, hr, half_bf16, one_bf16, zero_add, ← EReal.coe_mul, ← coe_sum, ← EReal.coe_add, Ideal.tanh_coe]
  rfl

end Cert.KernelIdeal.Step
-- ==== Proof.KernelArray.lean ====
/- The array the kernel leaves: the model's latent after the last layer. -/
module

public import proofs.«01_k».proof.Proof.Blocks
public import proofs.«01_k».proof.Proof.StepValue

@[expose] public section

set_option maxRecDepth 16384

noncomputable section

open Idealize.ShloMosaic Idealize.ShloMosaic.TcCoe Idealize.SL.Sem

namespace Cert.KernelIdeal.Step

open Cert.KernelIdeal Cert.KernelIdeal.Gen Cert.KernelIdeal.Value Cert.Model

/-- The arguments hold the real numbers of `p`. -/
structure Holds (m : (ℓ : Loc nD τ sig) → Buf (Elt Ideal) ℓ) (c : Dev nD) (p : Inputs) : Prop where
  latent : ∀ b n d, (m ((c : Thread nD τ).loc main_arg0) (ix3 b n d) : EReal) = (p.latent b n d : EReal)
  x : ∀ b n d, (m ((c : Thread nD τ).loc main_arg1) (ix3 b n d) : EReal) = (p.x b n d : EReal)
  wq : ∀ b n d, (m ((c : Thread nD τ).loc main_arg2) (ix3 b n d) : EReal) = (p.wq b n d : EReal)
  wk : ∀ b n d, (m ((c : Thread nD τ).loc main_arg3) (ix3 b n d) : EReal) = (p.wk b n d : EReal)
  wv : ∀ b n d, (m ((c : Thread nD τ).loc main_arg4) (ix3 b n d) : EReal) = (p.wv b n d : EReal)
  wo : ∀ b n d, (m ((c : Thread nD τ).loc main_arg5) (ix3 b n d) : EReal) = (p.wo b n d : EReal)
  w1 : ∀ b n d, (m ((c : Thread nD τ).loc main_arg6) (ix3 b n d) : EReal) = (p.w1 b n d : EReal)
  b1 : ∀ b d, (m ((c : Thread nD τ).loc main_arg7) (ix2 b d) : EReal) = (p.b1 b d : EReal)
  w2 : ∀ b n d, (m ((c : Thread nD τ).loc main_arg8) (ix3 b n d) : EReal) = (p.w2 b n d : EReal)
  b2 : ∀ b d, (m ((c : Thread nD τ).loc main_arg9) (ix2 b d) : EReal) = (p.b2 b d : EReal)
  gates : ∀ i, (m ((c : Thread nD τ).loc main_arg10) (ix1 i) : EReal) = (p.gates i : EReal)

variable (m : (ℓ : Loc nD τ sig) → Buf (Elt Ideal) ℓ) (c : Dev nD) (p : Inputs)

/-- There are 32 grid points: four layers for each of eight batches. -/
theorem points : cfg0.N = 32 := N_0

/-- A first layer's scratch. -/
theorem scratch_A (t : Fin cfg0.N) (h0 : t.val % 4 = 0) :
    (outsAt0 m c t.val t.isLt).2 = k0_pay1 (k0_pay4 (iblk m c 0 t)) (attn (k0_pay4 (iblk m c 0 t)) (iblk m c 1 t) (iblk m c 2 t)
      (iblk m c 3 t) (iblk m c 4 t) (iblk m c 5 t) (gate (grid0.coords t) (iblk m c 10 t))) := by
  have h1 : ¬ 1 ≤ t.val % 4 := by omega
  rw [outsAt0_A m c t h0 h1]
  dsimp only
  exact sout_A ..

/-- A later layer's scratch, over the one before. -/
theorem scratch_B (t : Fin cfg0.N) (h1 : 1 ≤ t.val % 4) (s : Vec Ideal S512x256 .f32)
    (hs : (outsAt0 m c (t.val - 1) (Nat.lt_of_le_of_lt (Nat.sub_le _ _) t.isLt)).2 = s) :
    (outsAt0 m c t.val t.isLt).2 = k0_pay3 (gate (grid0.coords t) (iblk m c 10 t)) (k0_pay1 s (attn s (iblk m c 1 t) (iblk m c 2 t)
      (iblk m c 3 t) (iblk m c 4 t) (iblk m c 5 t) (gate (grid0.coords t) (iblk m c 10 t)))) (iblk m c 6 t) (iblk m c 7 t)
      (iblk m c 8 t) (iblk m c 9 t) := by
  have h0 : ¬ t.val % 4 = 0 := by omega
  subst hs
  rw [outsAt0_B m c t h0 h1]
  dsimp only
  exact sout_B ..

/-- A later layer writes back its scratch. -/
theorem written_B (t : Fin cfg0.N) (h1 : 1 ≤ t.val % 4) :
    (outsAt0 m c t.val t.isLt).1 = k0_pay2 (outsAt0 m c t.val t.isLt).2 := by
  have h0 : ¬ t.val % 4 = 0 := by omega
  rw [outsAt0_B m c t h0 h1]
  dsimp only
  exact out_B ..

/-- A block less its unit axis. -/
theorem pay4_apply (x : Vec Ideal S1x512x256 .f32) (n : Fin 512) (d : Fin 256) : k0_pay4 x (ix2 n d) = x (ix3 0 n d) := by
  pointwise [k0_pay4]

/-- A block with its unit axis. -/
theorem pay2_apply (x : Vec Ideal S512x256 .f32) (n : Fin 512) (d : Fin 256) : k0_pay2 x (ix3 0 n d) = x (ix2 n d) := by
  pointwise [k0_pay2]

/-- After each grid point the scratch holds the latent of its batch after its layer. -/
theorem scratch_eq (hp : Holds m c p) (k : ℕ) : ∀ (hk : k < cfg0.N) (n : Fin 512) (d : Fin 256),
    ((outsAt0 m c k hk).2 (ix2 n d) : EReal) = (latentAfter p (batch ⟨k, hk⟩) (k % 4) n d : EReal) := by
  induction k with
  | zero =>
    intro hk n d
    rw [scratch_A m c ⟨0, hk⟩ rfl]
    refine attended_apply _ _ _ _ _ _ _ _ (fun n d => ?_) (fun n d => (blk1 m c _ n d).trans (hp.x _ _ _))
      (fun n d => (blk2 m c _ n d).trans (hp.wq _ _ _)) (fun n d => (blk3 m c _ n d).trans (hp.wk _ _ _))
      (fun n d => (blk4 m c _ n d).trans (hp.wv _ _ _)) (fun n d => (blk5 m c _ n d).trans (hp.wo _ _ _))
      ((gate_eq m c _).trans (hp.gates _)) n d
    exact (pay4_apply _ n d).trans ((blk0 m c _ n d).trans (hp.latent _ _ _))
  | succ k ih =>
    intro hk n d
    have hN := points
    by_cases h0 : (k + 1) % 4 = 0
    · rw [scratch_A m c ⟨k + 1, hk⟩ h0, h0]
      have hl : (0 : Fin 4) = layer ⟨k + 1, hk⟩ := Fin.ext h0.symm
      unfold latentAfter attendAt
      rw [hl]
      refine attended_apply _ _ _ _ _ _ _ _ (fun n d => ?_) (fun n d => (blk1 m c _ n d).trans (hp.x _ _ _))
        (fun n d => (blk2 m c _ n d).trans (hp.wq _ _ _)) (fun n d => (blk3 m c _ n d).trans (hp.wk _ _ _))
        (fun n d => (blk4 m c _ n d).trans (hp.wv _ _ _)) (fun n d => (blk5 m c _ n d).trans (hp.wo _ _ _))
        ((gate_eq m c _).trans (hp.gates _)) n d
      exact (pay4_apply _ n d).trans ((blk0 m c _ n d).trans (hp.latent _ _ _))
    · have h1 : 1 ≤ (k + 1) % 4 := by omega
      rw [scratch_B m c ⟨k + 1, hk⟩ h1 (outsAt0 m c k (by omega)).2 rfl]
      have hi : (k + 1) % 4 = k % 4 + 1 := by omega
      have hb : batch ⟨k, by omega⟩ = batch ⟨k + 1, hk⟩ := Fin.ext (by unfold batch; dsimp only; omega)
      have hf : (⟨(k % 4) % 3, Nat.mod_lt _ (by decide)⟩ : Fin 3) = ffLayer ⟨k + 1, hk⟩ :=
        Fin.ext (by unfold ffLayer; dsimp only; omega)
      have hl : (ffLayer ⟨k + 1, hk⟩).succ = layer ⟨k + 1, hk⟩ :=
        Fin.ext (by unfold ffLayer layer; dsimp only [Fin.succ]; omega)
      rw [hi]
      unfold latentAfter forwardAt attendAt
      rw [hf, hl]
      refine forward_apply _ _ _ _ _ _ _ _ _ _ _ (fun n d => ?_) (fun n d => (blk6 m c _ n d).trans (hp.w1 _ _ _))
        (fun d => (blk7 m c _ d).trans (hp.b1 _ _)) (fun n d => (blk8 m c _ n d).trans (hp.w2 _ _ _))
        (fun d => (blk9 m c _ d).trans (hp.b2 _ _)) ((gate_eq m c _).trans (hp.gates _)) n d
      refine attended_apply _ _ _ _ _ _ _ _ (fun n d => ?_) (fun n d => (blk1 m c _ n d).trans (hp.x _ _ _))
        (fun n d => (blk2 m c _ n d).trans (hp.wq _ _ _)) (fun n d => (blk3 m c _ n d).trans (hp.wk _ _ _))
        (fun n d => (blk4 m c _ n d).trans (hp.wv _ _ _)) (fun n d => (blk5 m c _ n d).trans (hp.wo _ _ _))
        ((gate_eq m c _).trans (hp.gates _)) n d
      rw [← hb]
      exact ih (by omega) n d

/-- The result array holds, batch by batch, the latent after the last layer. -/
theorem array_eq (hp : Holds m c p) (b : Fin 8) (n : Fin 512) (d : Fin 256) :
    (G11 m c (ix3 b n d) : EReal) = (latentAfter p b 3 n d : EReal) := by
  have hN := points
  have hb := b.isLt
  have hn := n.isLt
  have hd := d.isLt
  have hr : run11Of (ix3 b n d) = b.val := by
    show 1 * (b.val / 1 - 0) + 1 * (n.val / 512 - 0) + 1 * (d.val / 256 - 0) = b.val
    omega
  have hlt : pt11Of (ix3 b n d) < cfg0.N := by
    show 4 * run11Of (ix3 b n d) + 3 < cfg0.N
    rw [hr, hN]; omega
  have hloc : loc11Of (ix3 b n d) = ix3 0 n d := by
    funext a
    match a with
    | ⟨0, _⟩ => exact Fin.ext (Nat.mod_one _)
    | ⟨1, _⟩ => exact Fin.ext (Nat.mod_eq_of_lt hn)
    | ⟨2, _⟩ => exact Fin.ext (Nat.mod_eq_of_lt hd)
  have hmod : (pt11Of (ix3 b n d)) % 4 = 3 := by
    show (4 * run11Of (ix3 b n d) + 3) % 4 = 3
    omega
  have hbat : batch ⟨pt11Of (ix3 b n d), hlt⟩ = b := Fin.ext (by
    show (4 * run11Of (ix3 b n d) + 3) / 4 = b.val
    rw [hr]; omega)
  unfold G11
  rw [dif_pos hlt, ← outsAt0_sweep m c _ hlt, hloc]
  rw [written_B m c ⟨_, hlt⟩ (by show 1 ≤ (pt11Of (ix3 b n d)) % 4; rw [hmod]; omega)]
  refine (pay2_apply _ n d).trans ((scratch_eq m c p hp _ hlt n d).trans ?_)
  rw [hmod, hbat]

end Cert.KernelIdeal.Step
-- ==== Proof.RefLayer.lean ====
-- What one layer of the reference computes: the operations of a layer as functions of its operands, and the
-- four layers of the generated reading as those functions applied one after the other.
module

public import proofs.«01_k».proof.Proof.Gen.ReferenceIdeal.Run
public import proofs.«01_k».proof.Proof.Gen.ReferenceIdeal.Read
public import Idealize.ShloMosaic.Lib.Tactic

@[expose] public section

noncomputable section

namespace Cert.ReferenceIdeal.Layer

open Cert.ReferenceIdeal Cert.ReferenceIdeal.Gen Cert.ReferenceIdeal.Read
open Idealize.ShloMosaic Idealize.ShloMosaic.TcCoe Idealize.SL.Sem Idealize.ShloMosaic.StableHlo

variable {F : FTy → Type} [FloatOps F]

/-- The negated squared distance of every latent from every input point. -/
def negDist (lat : FVec F S8x512x256 .f32) (x : FVec F S8x2048x256 .f32) : FVec F S8x512x2048 .f32 :=
  Host.negf (addf
    (subf
      (broadcastInDim S8x512x2048 ![0, 1, 2] bcast_S8x512x1_S8x512x2048_0_1_2
        (broadcastInDim S8x512x1 ![0, 1] bcast_S8x512_S8x512x1_0_1
          (Host.reduceAdd (mulf lat lat) (constant S_ .f32 0x00000000#32) reducesTo_S8x512x256_S8x512_d2 h_S_)))
      (mulf (broadcastInDim S8x512x2048 ![] bcast_S_S8x512x2048 (constant S_ .f32 0x40000000#32))
        (Host.dotGeneral dot_S8x512x256_S8x2048x256_S8x512x2048_2_2_1_1_0_0 none lat x)))
    (broadcastInDim S8x512x2048 ![0, 1, 2] bcast_S8x1x2048_S8x512x2048_0_1_2
      (broadcastInDim S8x1x2048 ![0, 2] bcast_S8x2048_S8x1x2048_0_2
        (Host.reduceAdd (mulf x x) (constant S_ .f32 0x00000000#32) reducesTo_S8x2048x256_S8x2048_d2 h_S_))))

/-- The positions of the sixteen nearest points, in order. -/
def picks (nd : FVec F S8x512x2048 .f32) : IVec S8x512x16 32 :=
  (Host.topK S8x512x16 2 (FloatOps.cmpfTotal .gt) nd sliceFits_S8x512x2048_S8x512x16).2

/-- The positions as start indices, a negative one counted from the end. -/
def starts (idx : IVec S8x512x16 32) : IVec S8x512x16x1 32 :=
  broadcastInDim S8x512x16x1 ![0, 1, 2] bcast_S8x512x16_S8x512x16x1_0_1_2
    (select (cmpi .slt idx (broadcastInDim S8x512x16 ![] bcast_S_S8x512x16 (constantI S_ 32 0#32)))
      (addi idx (broadcastInDim S8x512x16 ![] bcast_S_S8x512x16 (constantI S_ 32 2048#32))) idx)

/-- The rows of `k` at the given positions. -/
def rowsAt (k : FVec F S8x2048x256 .f32) (idx : IVec S8x512x16 32) : FVec F S8x512x16x256 .f32 :=
  Host.gather gather_S8x2048x256_S8x512x16x1_S8x512x16x256_3_1_0_0_1_3_11256 k (starts idx)

/-- The scaled products of a query with its sixteen keys, per head. -/
def logits (q : FVec F S8x512x256 .f32) (kr : FVec F S8x512x16x256 .f32) : FVec F S8x512x4x16 .f32 :=
  Host.divf
    (Host.dotGeneral dot_S8x512x4x64_S8x512x16x4x64_S8x512x4x16_3_4_n_2_012_013 none
      (shapeCast _ q shapeCasts_S8x512x256_S8x512x4x64) (shapeCast _ kr shapeCasts_S8x512x16x256_S8x512x16x4x64))
    (broadcastInDim S8x512x4x16 ![] bcast_S_S8x512x4x16 (id (Host.sqrt (constant S_ .f32 0x42800000#32))))

/-- The largest of the sixteen logits. -/
def peak (t : FVec F S8x512x4x16 .f32) : FVec F S8x512x4 .f32 :=
  maximumf (broadcastInDim S8x512x4 ![] bcast_S_S8x512x4 (constant S_ .f32 0xFF800000#32))
    (Host.reduce FloatOps.maximumf t (constant S_ .f32 0xFF800000#32) reducesTo_S8x512x4x16_S8x512x4_d3 h_S_)

/-- The exponentials of the logits less `p`. -/
def raised (t : FVec F S8x512x4x16 .f32) (p : FVec F S8x512x4 .f32) : FVec F S8x512x4x16 .f32 :=
  Host.exp (subf t (broadcastInDim S8x512x4x16 ![0, 1, 2, 3] bcast_S8x512x4x1_S8x512x4x16_0_1_2_3
    (broadcastInDim S8x512x4x1 ![0, 1, 2] bcast_S8x512x4_S8x512x4x1_0_1_2 p)))

/-- Each of the sixteen divided by their sum. -/
def share (e : FVec F S8x512x4x16 .f32) : FVec F S8x512x4x16 .f32 :=
  Host.divf e (broadcastInDim S8x512x4x16 ![0, 1, 2, 3] bcast_S8x512x4x1_S8x512x4x16_0_1_2_3
    (broadcastInDim S8x512x4x1 ![0, 1, 2] bcast_S8x512x4_S8x512x4x1_0_1_2
      (Host.reduceAdd e (constant S_ .f32 0x00000000#32) reducesTo_S8x512x4x16_S8x512x4_d3 h_S_)))

/-- The weighted value rows, per head. -/
def mix (s : FVec F S8x512x4x16 .f32) (vr : FVec F S8x512x16x256 .f32) : FVec F S8x512x4x64 .f32 :=
  Host.dotGeneral dot_S8x512x4x16_S8x512x16x4x64_S8x512x4x64_3_2_n_4_012_013 none s
    (shapeCast _ vr shapeCasts_S8x512x16x256_S8x512x16x4x64)

/-- The products of the latents with a square weight. -/
def latDot (lat : FVec F S8x512x256 .f32) (w : FVec F S256x256 .f32) : FVec F S8x512x256 .f32 :=
  Host.dotGeneral dot_S8x512x256_S256x256_S8x512x256_2_0_01_1_n_n none lat w

/-- The products of the points with a square weight. -/
def ptDot (x : FVec F S8x2048x256 .f32) (w : FVec F S256x256 .f32) : FVec F S8x2048x256 .f32 :=
  Host.dotGeneral dot_S8x2048x256_S256x256_S8x2048x256_2_0_01_1_n_n none x w

/-- The latents plus the gated attention output `h`. -/
def close (lat : FVec F S8x512x256 .f32) (h : FVec F S8x512x4x64 .f32) (wo : FVec F S256x256 .f32)
    (g : FVec F S_ .f32) : FVec F S8x512x256 .f32 :=
  addf lat (mulf (broadcastInDim S8x512x256 ![] bcast_S_S8x512x256 g)
    (latDot (shapeCast _ h shapeCasts_S8x512x4x64_S8x512x256) wo))

/-- The exponentials of one layer's attention. -/
def expo (lat : FVec F S8x512x256 .f32) (x : FVec F S8x2048x256 .f32) (wq wk : FVec F S256x256 .f32) :
    FVec F S8x512x4x16 .f32 :=
  raised (logits (latDot lat wq) (rowsAt (ptDot x wk) (picks (negDist lat x))))
    (peak (logits (latDot lat wq) (rowsAt (ptDot x wk) (picks (negDist lat x)))))

/-- One attention layer. -/
def attend (lat : FVec F S8x512x256 .f32) (x : FVec F S8x2048x256 .f32) (wq wk wv wo : FVec F S256x256 .f32)
    (g : FVec F S_ .f32) : FVec F S8x512x256 .f32 :=
  close lat (mix (share (expo lat x wq wk)) (rowsAt (ptDot x wv) (picks (negDist lat x)))) wo g

/-- The hidden values of a feed-forward layer before the activation. -/
def hidden (lat : FVec F S8x512x256 .f32) (w1 : FVec F S256x1024 .f32) (b1 : FVec F S1024 .f32) :
    FVec F S8x512x1024 .f32 :=
  addf (Host.dotGeneral dot_S8x512x256_S256x1024_S8x512x1024_2_0_01_1_n_n none lat w1)
    (broadcastInDim S8x512x1024 ![0, 1, 2] bcast_S1x1x1024_S8x512x1024_0_1_2
      (broadcastInDim S1x1x1024 ![2] bcast_S1024_S1x1x1024_2 b1))

/-- The activation. -/
def activate (u : FVec F S8x512x1024 .f32) : FVec F S8x512x1024 .f32 :=
  mulf u (mulf (broadcastInDim S8x512x1024 ![] bcast_S_S8x512x1024 (constant S_ .f32 0x3F000000#32))
    (addf (broadcastInDim S8x512x1024 ![] bcast_S_S8x512x1024 (constant S_ .f32 0x3F800000#32))
      (Host.tanh (mulf (broadcastInDim S8x512x1024 ![] bcast_S_S8x512x1024 (constant S_ .f32 0x3F4C422A#32))
        (addf u (mulf (broadcastInDim S8x512x1024 ![] bcast_S_S8x512x1024 (constant S_ .f32 0x3D372713#32))
          (mulf (mulf u u) u)))))))

/-- One feed-forward layer. -/
def feed (lat : FVec F S8x512x256 .f32) (w1 : FVec F S256x1024 .f32) (b1 : FVec F S1024 .f32)
    (w2 : FVec F S1024x256 .f32) (b2 : FVec F S256 .f32) (g : FVec F S_ .f32) : FVec F S8x512x256 .f32 :=
  addf lat (mulf (broadcastInDim S8x512x256 ![] bcast_S_S8x512x256 g)
    (addf (Host.dotGeneral dot_S8x512x1024_S1024x256_S8x512x256_2_0_01_1_n_n none (activate (hidden lat w1 b1)) w2)
      (broadcastInDim S8x512x256 ![0, 1, 2] bcast_S1x1x256_S8x512x256_0_1_2
        (broadcastInDim S1x1x256 ![2] bcast_S256_S1x1x256_2 b2))))

/-- The first layer's attention, as a function of the latents it starts from. -/
theorem v65_eq (x0 : FVec F S8x512x256 .f32) (x1 : FVec F S8x2048x256 .f32) (x2 x3 x4 x5 : FVec F S4x256x256 .f32)
    (x10 : FVec F S4 .f32) :
    val_main_v65 (F := F) x0 x1 x2 x3 x4 x5 x10
      = attend x0 x1 (val_main_v17 x2) (val_main_v19 x3) (val_main_v21 x4) (val_main_v23 x5) (val_main_v15 x10) := by
  sl_kernel_rfl

/-- The second layer's attention, as a function of the latents it starts from. -/
theorem v131_eq (x0 : FVec F S8x512x256 .f32) (x1 : FVec F S8x2048x256 .f32) (x2 x3 x4 x5 : FVec F S4x256x256 .f32)
    (x10 : FVec F S4 .f32) :
    val_main_v131 (F := F) x0 x1 x2 x3 x4 x5 x10
      = attend (val_main_v65 x0 x1 x2 x3 x4 x5 x10) x1 (val_main_v83 x2) (val_main_v85 x3) (val_main_v87 x4)
          (val_main_v89 x5) (val_main_v81 x10) := by
  sl_kernel_rfl

section
variable (x0 : FVec F S8x512x256 .f32) (x1 : FVec F S8x2048x256 .f32) (x2 x3 x4 x5 : FVec F S4x256x256 .f32)
  (x6 : FVec F S3x256x1024 .f32) (x7 : FVec F S3x1024 .f32) (x8 : FVec F S3x1024x256 .f32) (x9 : FVec F S3x256 .f32)
  (x10 : FVec F S4 .f32)

/-- The second layer's feed-forward part, as a function of the latents it starts from. -/
theorem v165_eq :
    val_main_v165 (F := F) x0 x1 x2 x3 x4 x5 x6 x7 x8 x9 x10
      = feed (val_main_v131 x0 x1 x2 x3 x4 x5 x10) (val_main_v135 x6) (val_main_v137 x7) (val_main_v139 x8)
          (val_main_v141 x9) (val_main_v133 x10) := by
  sl_kernel_rfl

/-- The third layer's attention, as a function of the latents it starts from. -/
theorem v231_eq :
    val_main_v231 (F := F) x0 x1 x2 x3 x4 x5 x6 x7 x8 x9 x10
      = attend (val_main_v165 x0 x1 x2 x3 x4 x5 x6 x7 x8 x9 x10) x1 (val_main_v183 x2) (val_main_v185 x3)
          (val_main_v187 x4) (val_main_v189 x5) (val_main_v181 x10) := by
  sl_kernel_rfl

/-- The third layer's feed-forward part, as a function of the latents it starts from. -/
theorem v265_eq :
    val_main_v265 (F := F) x0 x1 x2 x3 x4 x5 x6 x7 x8 x9 x10
      = feed (val_main_v231 x0 x1 x2 x3 x4 x5 x6 x7 x8 x9 x10) (val_main_v235 x6) (val_main_v237 x7)
          (val_main_v239 x8) (val_main_v241 x9) (val_main_v233 x10) := by
  sl_kernel_rfl

/-- The fourth layer's attention, as a function of the latents it starts from. -/
theorem v331_eq :
    val_main_v331 (F := F) x0 x1 x2 x3 x4 x5 x6 x7 x8 x9 x10
      = attend (val_main_v265 x0 x1 x2 x3 x4 x5 x6 x7 x8 x9 x10) x1 (val_main_v283 x2) (val_main_v285 x3)
          (val_main_v287 x4) (val_main_v289 x5) (val_main_v281 x10) := by
  sl_kernel_rfl

/-- The fourth layer's feed-forward part, as a function of the latents it starts from. -/
theorem v365_eq :
    val_main_v365 (F := F) x0 x1 x2 x3 x4 x5 x6 x7 x8 x9 x10
      = feed (val_main_v331 x0 x1 x2 x3 x4 x5 x6 x7 x8 x9 x10) (val_main_v335 x6) (val_main_v337 x7)
          (val_main_v339 x8) (val_main_v341 x9) (val_main_v333 x10) := by
  sl_kernel_rfl
end

end Cert.ReferenceIdeal.Layer
-- ==== Proof.PreRead.lean ====
-- The outputs of the precondition's function, read one by one.
module

public import proofs.«01_k».proof.Pre_clear_neighbours
public import proofs.«01_k».proof.Proof.RefLayer

@[expose] public section

noncomputable section

namespace Cert.Pre_clear_neighbours

open Idealize.ShloMosaic Cert.ReferenceIdeal.Layer Cert.ReferenceIdeal.Read

/-- The side conditions of the operations of the precondition's function hold. -/
instance sideConditions : Facts where
  bcast_S_S8x512x256 := Cert.ReferenceIdeal.Gen.bcast_S_S8x512x256
  reducesTo_S8x512x256_S_d0_1_2 := by decide
  h_S_ := Cert.ReferenceIdeal.Gen.h_S_
  bcast_S_S8x2048x256 := by decide
  reducesTo_S8x2048x256_S_d0_1_2 := by decide
  bcast_S_S4x256x256 := by decide
  reducesTo_S4x256x256_S_d0_1_2 := by decide
  bcast_S_S3x256x1024 := by decide
  reducesTo_S3x256x1024_S_d0_1_2 := by decide
  bcast_S_S3x1024 := by decide
  reducesTo_S3x1024_S_d0_1 := by decide
  bcast_S_S3x1024x256 := by decide
  reducesTo_S3x1024x256_S_d0_1_2 := by decide
  bcast_S_S3x256 := by decide
  reducesTo_S3x256_S_d0_1 := by decide
  bcast_S_S4 := by decide
  reducesTo_S4_S_d0 := by decide
  reducesTo_S8x512x256_S8x512_d2 := Cert.ReferenceIdeal.Gen.reducesTo_S8x512x256_S8x512_d2
  bcast_S8x512_S8x512x1_0_1 := Cert.ReferenceIdeal.Gen.bcast_S8x512_S8x512x1_0_1
  bcast_S_S8x512x2048 := Cert.ReferenceIdeal.Gen.bcast_S_S8x512x2048
  bcast_S8x512x1_S8x512x2048_0_1_2 := Cert.ReferenceIdeal.Gen.bcast_S8x512x1_S8x512x2048_0_1_2
  reducesTo_S8x2048x256_S8x2048_d2 := Cert.ReferenceIdeal.Gen.reducesTo_S8x2048x256_S8x2048_d2
  bcast_S8x2048_S8x1x2048_0_2 := Cert.ReferenceIdeal.Gen.bcast_S8x2048_S8x1x2048_0_2
  bcast_S8x1x2048_S8x512x2048_0_1_2 := Cert.ReferenceIdeal.Gen.bcast_S8x1x2048_S8x512x2048_0_1_2
  sliceFits_S8x512x2048_S8x512x17 := by decide
  slices_S8x512x17_S8x512x1_0_0_15 := by decide
  shapeCasts_S8x512x1_S8x512 := by decide
  slices_S8x512x17_S8x512x1_0_0_16 := by decide
  sliceFits_S8x512x2048_S8x512x16 := Cert.ReferenceIdeal.Gen.sliceFits_S8x512x2048_S8x512x16
  slices_S4_S1_0 := Cert.ReferenceIdeal.Gen.slices_S4_S1_0
  shapeCasts_S1_S_ := Cert.ReferenceIdeal.Gen.shapeCasts_S1_S_
  slices_S4x256x256_S1x256x256_0_0_0 := Cert.ReferenceIdeal.Gen.slices_S4x256x256_S1x256x256_0_0_0
  shapeCasts_S1x256x256_S256x256 := Cert.ReferenceIdeal.Gen.shapeCasts_S1x256x256_S256x256
  bcast_S_S8x512x16 := Cert.ReferenceIdeal.Gen.bcast_S_S8x512x16
  bcast_S8x512x16_S8x512x16x1_0_1_2 := Cert.ReferenceIdeal.Gen.bcast_S8x512x16_S8x512x16x1_0_1_2
  shapeCasts_S8x512x256_S8x512x4x64 := Cert.ReferenceIdeal.Gen.shapeCasts_S8x512x256_S8x512x4x64
  shapeCasts_S8x512x16x256_S8x512x16x4x64 := Cert.ReferenceIdeal.Gen.shapeCasts_S8x512x16x256_S8x512x16x4x64
  bcast_S_S8x512x4x16 := Cert.ReferenceIdeal.Gen.bcast_S_S8x512x4x16
  reducesTo_S8x512x4x16_S8x512x4_d3 := Cert.ReferenceIdeal.Gen.reducesTo_S8x512x4x16_S8x512x4_d3
  bcast_S_S8x512x4 := Cert.ReferenceIdeal.Gen.bcast_S_S8x512x4
  bcast_S8x512x4_S8x512x4x1_0_1_2 := Cert.ReferenceIdeal.Gen.bcast_S8x512x4_S8x512x4x1_0_1_2
  bcast_S8x512x4x1_S8x512x4x16_0_1_2_3 := Cert.ReferenceIdeal.Gen.bcast_S8x512x4x1_S8x512x4x16_0_1_2_3
  shapeCasts_S8x512x4x64_S8x512x256 := Cert.ReferenceIdeal.Gen.shapeCasts_S8x512x4x64_S8x512x256
  slices_S4_S1_1 := Cert.ReferenceIdeal.Gen.slices_S4_S1_1
  slices_S4x256x256_S1x256x256_1_0_0 := Cert.ReferenceIdeal.Gen.slices_S4x256x256_S1x256x256_1_0_0
  slices_S3x256x1024_S1x256x1024_0_0_0 := Cert.ReferenceIdeal.Gen.slices_S3x256x1024_S1x256x1024_0_0_0
  shapeCasts_S1x256x1024_S256x1024 := Cert.ReferenceIdeal.Gen.shapeCasts_S1x256x1024_S256x1024
  slices_S3x1024_S1x1024_0_0 := Cert.ReferenceIdeal.Gen.slices_S3x1024_S1x1024_0_0
  shapeCasts_S1x1024_S1024 := Cert.ReferenceIdeal.Gen.shapeCasts_S1x1024_S1024
  slices_S3x1024x256_S1x1024x256_0_0_0 := Cert.ReferenceIdeal.Gen.slices_S3x1024x256_S1x1024x256_0_0_0
  shapeCasts_S1x1024x256_S1024x256 := Cert.ReferenceIdeal.Gen.shapeCasts_S1x1024x256_S1024x256
  slices_S3x256_S1x256_0_0 := Cert.ReferenceIdeal.Gen.slices_S3x256_S1x256_0_0
  shapeCasts_S1x256_S256 := Cert.ReferenceIdeal.Gen.shapeCasts_S1x256_S256
  bcast_S1024_S1x1x1024_2 := Cert.ReferenceIdeal.Gen.bcast_S1024_S1x1x1024_2
  bcast_S1x1x1024_S8x512x1024_0_1_2 := Cert.ReferenceIdeal.Gen.bcast_S1x1x1024_S8x512x1024_0_1_2
  bcast_S_S8x512x1024 := Cert.ReferenceIdeal.Gen.bcast_S_S8x512x1024
  bcast_S256_S1x1x256_2 := Cert.ReferenceIdeal.Gen.bcast_S256_S1x1x256_2
  bcast_S1x1x256_S8x512x256_0_1_2 := Cert.ReferenceIdeal.Gen.bcast_S1x1x256_S8x512x256_0_1_2
  slices_S4_S1_2 := Cert.ReferenceIdeal.Gen.slices_S4_S1_2
  slices_S4x256x256_S1x256x256_2_0_0 := Cert.ReferenceIdeal.Gen.slices_S4x256x256_S1x256x256_2_0_0
  slices_S3x256x1024_S1x256x1024_1_0_0 := Cert.ReferenceIdeal.Gen.slices_S3x256x1024_S1x256x1024_1_0_0
  slices_S3x1024_S1x1024_1_0 := Cert.ReferenceIdeal.Gen.slices_S3x1024_S1x1024_1_0
  slices_S3x1024x256_S1x1024x256_1_0_0 := Cert.ReferenceIdeal.Gen.slices_S3x1024x256_S1x1024x256_1_0_0
  slices_S3x256_S1x256_1_0 := Cert.ReferenceIdeal.Gen.slices_S3x256_S1x256_1_0
  slices_S4_S1_3 := Cert.ReferenceIdeal.Gen.slices_S4_S1_3
  slices_S4x256x256_S1x256x256_3_0_0 := Cert.ReferenceIdeal.Gen.slices_S4x256x256_S1x256x256_3_0_0
  slices_S3x256x1024_S1x256x1024_2_0_0 := Cert.ReferenceIdeal.Gen.slices_S3x256x1024_S1x256x1024_2_0_0
  slices_S3x1024_S1x1024_2_0 := Cert.ReferenceIdeal.Gen.slices_S3x1024_S1x1024_2_0
  slices_S3x1024x256_S1x1024x256_2_0_0 := Cert.ReferenceIdeal.Gen.slices_S3x1024x256_S1x1024x256_2_0_0
  slices_S3x256_S1x256_2_0 := Cert.ReferenceIdeal.Gen.slices_S3x256_S1x256_2_0
  dot_S8x512x256_S8x2048x256_S8x512x2048_2_2_1_1_0_0_wf := Cert.ReferenceIdeal.Gen.dot_S8x512x256_S8x2048x256_S8x512x2048_2_2_1_1_0_0_wf
  dot_S8x512x256_S256x256_S8x512x256_2_0_01_1_n_n_wf := Cert.ReferenceIdeal.Gen.dot_S8x512x256_S256x256_S8x512x256_2_0_01_1_n_n_wf
  dot_S8x2048x256_S256x256_S8x2048x256_2_0_01_1_n_n_wf := Cert.ReferenceIdeal.Gen.dot_S8x2048x256_S256x256_S8x2048x256_2_0_01_1_n_n_wf
  gather_S8x2048x256_S8x512x16x1_S8x512x16x256_3_1_0_0_1_3_11256_wf := Cert.ReferenceIdeal.Gen.gather_S8x2048x256_S8x512x16x1_S8x512x16x256_3_1_0_0_1_3_11256_wf
  dot_S8x512x4x64_S8x512x16x4x64_S8x512x4x16_3_4_n_2_012_013_wf := Cert.ReferenceIdeal.Gen.dot_S8x512x4x64_S8x512x16x4x64_S8x512x4x16_3_4_n_2_012_013_wf
  dot_S8x512x4x16_S8x512x16x4x64_S8x512x4x64_3_2_n_4_012_013_wf := Cert.ReferenceIdeal.Gen.dot_S8x512x4x16_S8x512x16x4x64_S8x512x4x64_3_2_n_4_012_013_wf
  dot_S8x512x256_S256x1024_S8x512x1024_2_0_01_1_n_n_wf := Cert.ReferenceIdeal.Gen.dot_S8x512x256_S256x1024_S8x512x1024_2_0_01_1_n_n_wf
  dot_S8x512x1024_S1024x256_S8x512x256_2_0_01_1_n_n_wf := Cert.ReferenceIdeal.Gen.dot_S8x512x1024_S1024x256_S8x512x256_2_0_01_1_n_n_wf

variable {F : FTy → Type} [FloatOps F]

/-- One word telling whether every element of an array is smaller in size than infinity. -/
def allSmall {s : Shape} {axes : List (Fin s.rank)} (hb : S_.BroadcastsInDim s (![] : Fin 0 → Fin s.rank))
    (hr : s.ReducesTo axes S_) (a : FVec F s .f32) : IVec S_ 1 :=
  Host.reduce IntOp.andi
    (cmpf .olt (Host.absf a) (broadcastInDim s ![] hb (constant S_ .f32 0x7F800000#32)))
    (constantI S_ 1 1#1) hr Facts.h_S_

/-- For every latent, one word telling whether its sixteenth greatest entry exceeds the seventeenth. -/
def clearGap (nd : FVec F S8x512x2048 .f32) : IVec S8x512 1 :=
  cmpf .ogt
    (shapeCast _ (extractStridedSlice S8x512x1 ![0, 0, 15]
      (Host.topK S8x512x17 2 (FloatOps.cmpfTotal .gt) nd Facts.sliceFits_S8x512x2048_S8x512x17).1
      Facts.slices_S8x512x17_S8x512x1_0_0_15) Facts.shapeCasts_S8x512x1_S8x512)
    (shapeCast _ (extractStridedSlice S8x512x1 ![0, 0, 16]
      (Host.topK S8x512x17 2 (FloatOps.cmpfTotal .gt) nd Facts.sliceFits_S8x512x2048_S8x512x17).1
      Facts.slices_S8x512x17_S8x512x1_0_0_16) Facts.shapeCasts_S8x512x1_S8x512)

section
variable (a0 : FVec F S8x512x256 .f32) (a1 : FVec F S8x2048x256 .f32) (a2 : FVec F S4x256x256 .f32) (a3 : FVec F S4x256x256 .f32) (a4 : FVec F S4x256x256 .f32) (a5 : FVec F S4x256x256 .f32) (a6 : FVec F S3x256x1024 .f32) (a7 : FVec F S3x1024 .f32) (a8 : FVec F S3x1024x256 .f32) (a9 : FVec F S3x256 .f32) (a10 : FVec F S4 .f32)

/-- Output 0 checks the latents. -/
theorem out0 : (fn (F := F) a0 a1 a2 a3 a4 a5 a6 a7 a8 a9 a10).1
    = allSmall Facts.bcast_S_S8x512x256 Facts.reducesTo_S8x512x256_S_d0_1_2 a0 := by
  sl_kernel_rfl

/-- Output 1 checks the points. -/
theorem out1 : (fn (F := F) a0 a1 a2 a3 a4 a5 a6 a7 a8 a9 a10).2.1
    = allSmall Facts.bcast_S_S8x2048x256 Facts.reducesTo_S8x2048x256_S_d0_1_2 a1 := by
  sl_kernel_rfl

/-- Output 2 checks the query weights. -/
theorem out2 : (fn (F := F) a0 a1 a2 a3 a4 a5 a6 a7 a8 a9 a10).2.2.1
    = allSmall Facts.bcast_S_S4x256x256 Facts.reducesTo_S4x256x256_S_d0_1_2 a2 := by
  sl_kernel_rfl

/-- Output 3 checks the key weights. -/
theorem out3 : (fn (F := F) a0 a1 a2 a3 a4 a5 a6 a7 a8 a9 a10).2.2.2.1
    = allSmall Facts.bcast_S_S4x256x256 Facts.reducesTo_S4x256x256_S_d0_1_2 a3 := by
  sl_kernel_rfl

/-- Output 4 checks the value weights. -/
theorem out4 : (fn (F := F) a0 a1 a2 a3 a4 a5 a6 a7 a8 a9 a10).2.2.2.2.1
    = allSmall Facts.bcast_S_S4x256x256 Facts.reducesTo_S4x256x256_S_d0_1_2 a4 := by
  sl_kernel_rfl

/-- Output 5 checks the output weights. -/
theorem out5 : (fn (F := F) a0 a1 a2 a3 a4 a5 a6 a7 a8 a9 a10).2.2.2.2.2.1
    = allSmall Facts.bcast_S_S4x256x256 Facts.reducesTo_S4x256x256_S_d0_1_2 a5 := by
  sl_kernel_rfl

/-- Output 6 checks the first feed-forward weights. -/
theorem out6 : (fn (F := F) a0 a1 a2 a3 a4 a5 a6 a7 a8 a9 a10).2.2.2.2.2.2.1
    = allSmall Facts.bcast_S_S3x256x1024 Facts.reducesTo_S3x256x1024_S_d0_1_2 a6 := by
  sl_kernel_rfl

/-- Output 7 checks the first feed-forward biases. -/
theorem out7 : (fn (F := F) a0 a1 a2 a3 a4 a5 a6 a7 a8 a9 a10).2.2.2.2.2.2.2.1
    = allSmall Facts.bcast_S_S3x1024 Facts.reducesTo_S3x1024_S_d0_1 a7 := by
  sl_kernel_rfl

/-- Output 8 checks the second feed-forward weights. -/
theorem out8 : (fn (F := F) a0 a1 a2 a3 a4 a5 a6 a7 a8 a9 a10).2.2.2.2.2.2.2.2.1
    = allSmall Facts.bcast_S_S3x1024x256 Facts.reducesTo_S3x1024x256_S_d0_1_2 a8 := by
  sl_kernel_rfl

/-- Output 9 checks the second feed-forward biases. -/
theorem out9 : (fn (F := F) a0 a1 a2 a3 a4 a5 a6 a7 a8 a9 a10).2.2.2.2.2.2.2.2.2.1
    = allSmall Facts.bcast_S_S3x256 Facts.reducesTo_S3x256_S_d0_1 a9 := by
  sl_kernel_rfl

/-- Output 10 checks the gates. -/
theorem out10 : (fn (F := F) a0 a1 a2 a3 a4 a5 a6 a7 a8 a9 a10).2.2.2.2.2.2.2.2.2.2.1
    = allSmall Facts.bcast_S_S4 Facts.reducesTo_S4_S_d0 a10 := by
  sl_kernel_rfl

/-- Output 11 checks the distances of the first layer. -/
theorem out11 : (fn (F := F) a0 a1 a2 a3 a4 a5 a6 a7 a8 a9 a10).2.2.2.2.2.2.2.2.2.2.2.1 = clearGap (negDist a0 a1) := by
  sl_kernel_rfl

/-- Output 12 checks the distances of the second layer. -/
theorem out12 : (fn (F := F) a0 a1 a2 a3 a4 a5 a6 a7 a8 a9 a10).2.2.2.2.2.2.2.2.2.2.2.2.1 = clearGap (negDist (val_main_v65 a0 a1 a2 a3 a4 a5 a10) a1) := by
  sl_kernel_rfl

/-- Output 13 checks the distances of the third layer. -/
theorem out13 : (fn (F := F) a0 a1 a2 a3 a4 a5 a6 a7 a8 a9 a10).2.2.2.2.2.2.2.2.2.2.2.2.2.1 = clearGap (negDist (val_main_v165 a0 a1 a2 a3 a4 a5 a6 a7 a8 a9 a10) a1) := by
  sl_kernel_rfl

/-- Output 14 checks the distances of the fourth layer. -/
theorem out14 : (fn (F := F) a0 a1 a2 a3 a4 a5 a6 a7 a8 a9 a10).2.2.2.2.2.2.2.2.2.2.2.2.2.2 = clearGap (negDist (val_main_v265 a0 a1 a2 a3 a4 a5 a6 a7 a8 a9 a10) a1) := by
  sl_kernel_rfl

end

end Cert.Pre_clear_neighbours
-- ==== Proof.Ranking.lean ====
-- The sixteen greatest entries of a row, when the sixteenth exceeds the seventeenth.
module

public import proofs.«01_k».proof.Proof.Model
public import Idealize.ShloMosaic.Lib.SortFacts
public import Idealize.ShloMosaic.Lib.Pointwise
public import Idealize.ShloMosaic.PureOps.Ideal.Laws

@[expose] public section

noncomputable section

namespace Cert.Ranking

open Idealize.ShloMosaic Cert.Model

/-- The position whose entry stands at place `k` once the row `f` is sorted from the greatest down. -/
def place {n : ℕ} (f : Fin n → ℝ) (k : Fin n) : Fin n :=
  sortedFrom (fun i j => FloatOps.cmpfTotal (F := Ideal) (φ := .f32) .gt (f i : EReal) (f j : EReal) == 1#1) k

/-- The comparison of the sort tells whether the first number is greater. -/
theorem greater_iff (a b : ℝ) :
    ((FloatOps.cmpfTotal (F := Ideal) (φ := .f32) .gt (a : EReal) (b : EReal) == 1#1) = true) ↔ b < a := by
  have h : FloatOps.cmpfTotal (F := Ideal) (φ := .f32) .gt (a : EReal) (b : EReal)
      = BitVec.ofBool (decide ((b : EReal) < (a : EReal))) := rfl
  rw [h]
  by_cases hab : b < a
  · simp [hab]
  · simp [hab]

/-- Later places hold no greater entries. -/
theorem place_anti {n : ℕ} (f : Fin n → ℝ) (i j : Fin n) (h : i ≤ j) : f (place f j) ≤ f (place f i) := by
  rcases h.lt_or_eq with h | rfl
  · have := sortedFrom_noInversion
      (fun i j => FloatOps.cmpfTotal (F := Ideal) (φ := .f32) .gt (f i : EReal) (f j : EReal) == 1#1)
      (fun i j => FloatOps.cmpfTotal (F := Ideal) (φ := .f32) .gt (f i : EReal) (f j : EReal) == 1#1)
      (fun a b hab => by
        rw [← Bool.not_eq_true, greater_iff]; rw [greater_iff] at hab; exact not_lt.2 hab.le)
      (fun a b hab => hab)
      (fun a b c hab hbc => by
        rw [← Bool.not_eq_true, greater_iff, not_lt] at *; exact hab.trans hbc) i j h
    rw [← Bool.not_eq_true, greater_iff, not_lt] at this
    exact this
  · exact le_rfl

/-- Every position has exactly one place. -/
theorem place_bijective {n : ℕ} (f : Fin n → ℝ) : Function.Bijective (place f) :=
  ⟨sortedFrom_injective _, sortedFrom_surjective _⟩

/-- When the entry at place fifteen exceeds the one at place sixteen, the first sixteen places hold exactly
the positions with fewer than sixteen greater entries. -/
theorem image_place {n : ℕ} (hn : 16 < n) (f : Fin n → ℝ)
    (gap : f (place f ⟨16, hn⟩) < f (place f ⟨15, by omega⟩)) :
    (Finset.univ.filter fun m => (Finset.univ.filter fun m' => f m < f m').card < 16)
      = Finset.univ.image fun k : Fin 16 => place f (Fin.castLE (by omega) k) := by
  have low : ∀ k : Fin n, k.val < 16 → f (place f ⟨15, by omega⟩) ≤ f (place f k) := fun k hk =>
    place_anti f _ _ (Fin.mk_le_of_le_val (by simpa using Nat.le_of_lt_succ hk))
  have high : ∀ k : Fin n, 16 ≤ k.val → f (place f k) ≤ f (place f ⟨16, hn⟩) := fun k hk =>
    place_anti f _ _ (Fin.mk_le_of_le_val hk)
  have card16 : (Finset.univ.image fun k : Fin 16 => place f (Fin.castLE (by omega) k)).card = 16 := by
    rw [Finset.card_image_of_injective _ (fun a b h => Fin.castLE_injective _ ((place_bijective f).1 h))]
    simp
  ext m
  obtain ⟨p, rfl⟩ := (place_bijective f).2 m
  simp only [Finset.mem_filter, Finset.mem_univ, true_and, Finset.mem_image]
  constructor
  · intro h
    by_contra hno
    have hp : 16 ≤ p.val := by
      by_contra hlt
      exact hno ⟨⟨p.val, by omega⟩, rfl⟩
    have hsub : (Finset.univ.image fun k : Fin 16 => place f (Fin.castLE (by omega : 16 ≤ n) k))
        ⊆ Finset.univ.filter fun m' => f (place f p) < f m' := by
      intro q hq
      obtain ⟨k, -, rfl⟩ := Finset.mem_image.1 hq
      exact Finset.mem_filter.2 ⟨Finset.mem_univ _,
        (high p hp).trans_lt (gap.trans_le (low _ k.isLt))⟩
    have := Finset.card_le_card hsub
    omega
  · rintro ⟨k, hk⟩
    rw [← hk]
    have hsub : (Finset.univ.filter fun m' => f (place f (Fin.castLE (by omega : 16 ≤ n) k)) < f m')
        ⊂ Finset.univ.image fun k : Fin 16 => place f (Fin.castLE (by omega : 16 ≤ n) k) := by
      refine (Finset.ssubset_iff_of_subset ?_).2
        ⟨place f (Fin.castLE (by omega) k), Finset.mem_image_of_mem _ (Finset.mem_univ k), by simp⟩
      intro q hq
      obtain ⟨j, rfl⟩ := (place_bijective f).2 q
      have hlt := (Finset.mem_filter.1 hq).2
      have hj : j.val < 16 := by
        by_contra hge
        exact absurd hlt (not_lt.2 ((high j (by omega)).trans (gap.le.trans (low _ k.isLt))))
      exact Finset.mem_image.2 ⟨⟨j.val, hj⟩, Finset.mem_univ _, rfl⟩
    have := Finset.card_lt_card hsub
    omega

/-- A sum over the positions with fewer than sixteen greater entries is the sum over the first sixteen
places. -/
theorem sum_place {n : ℕ} (hn : 16 < n) (f : Fin n → ℝ)
    (gap : f (place f ⟨16, hn⟩) < f (place f ⟨15, by omega⟩)) (w : Fin n → ℝ) :
    (∑ m ∈ Finset.univ.filter fun m => (Finset.univ.filter fun m' => f m < f m').card < 16, w m)
      = ∑ k : Fin 16, w (place f (Fin.castLE (by omega) k)) := by
  rw [image_place hn f gap, Finset.sum_image]
  exact fun a _ b _ h => Fin.castLE_injective _ ((place_bijective f).1 h)

end Cert.Ranking
-- ==== Proof.RefRank.lean ====
-- The positions the reference's sort hands over, and the rows it reads there.
module

public import proofs.«01_k».proof.Proof.RefLayer
public import proofs.«01_k».proof.Proof.Ranking
public import proofs.«01_k».proof.Proof.Consts

@[expose] public section

noncomputable section

namespace Cert.ReferenceIdeal.Layer

open Cert.ReferenceIdeal Cert.ReferenceIdeal.Gen Cert.Model Cert.Ranking Cert.Consts
open Idealize.ShloMosaic

/-- An index of the sorted axis replaced by another. -/
theorem along_last {a b c : ℕ} (i : Fin a) (j : Fin b) (k k' : Fin c) :
    Shape.Idx.along (s := ⟨3, ![a, b, c]⟩) (ix3 i j k) 2 k' = ix3 i j k' := by
  funext d
  fin_cases d <;> rfl

/-- The order in which a sort from the greatest down takes the entries of a row. -/
def order (nd : FVec Ideal S8x512x2048 .f32) (b : Fin 8) (n : Fin 512) (k : Fin 2048) : Fin 2048 :=
  sortedFrom (fun i j => FloatOps.cmpfTotal (F := Ideal) (φ := .f32) .gt (nd (ix3 b n i)) (nd (ix3 b n j)) == 1#1) k

/-- A sort by the first of two operands, read at an index. -/
theorem sort2_read (nd : FVec Ideal S8x512x2048 .f32) (y : IVec S8x512x2048 32) (b : Fin 8) (n : Fin 512)
    (k : Fin 2048) :
    (Host.sort2 S8x512x2048 2 (fun l r => FloatOps.cmpfTotal .gt l.1 r.1) nd y).1 (ix3 b n k)
        = nd (ix3 b n (order nd b n k))
      ∧ (Host.sort2 S8x512x2048 2 (fun l r => FloatOps.cmpfTotal .gt l.1 r.1) nd y).2 (ix3 b n k)
        = y (ix3 b n (order nd b n k)) := by
  have e : (fun k' : Fin 2048 => Shape.Idx.along (s := S8x512x2048) (ix3 b n k) (2 : Fin 3) k')
      = fun k' => ix3 b n k' := funext fun k' => along_last b n k k'
  have o : sortedFrom (fun i j => FloatOps.cmpfTotal (F := Ideal) (φ := .f32) .gt
        (nd ((fun k' : Fin 2048 => Shape.Idx.along (s := S8x512x2048) (ix3 b n k) (2 : Fin 3) k') i))
        (nd ((fun k' : Fin 2048 => Shape.Idx.along (s := S8x512x2048) (ix3 b n k) (2 : Fin 3) k') j)) == 1#1) k
      = order nd b n k := by
    rw [e]
    rfl
  unfold Host.sort2
  rw [dif_pos (by decide : 2 < S8x512x2048.rank)]
  exact ⟨congrArg nd ((congrArg (fun k' : Fin 2048 => Shape.Idx.along (s := S8x512x2048) (ix3 b n k) (2 : Fin 3) k')
      o).trans (along_last b n k _)),
    congrArg y ((congrArg (fun k' : Fin 2048 => Shape.Idx.along (s := S8x512x2048) (ix3 b n k) (2 : Fin 3) k')
      o).trans (along_last b n k _))⟩

/-- The leading corner of an array, read at an index. -/
theorem corner_read {α : Type} (K : ℕ) (hK : K ≤ 2048) (hs : S8x512x2048.Slices (fun _ => 0) ⟨3, ![8, 512, K]⟩)
    (y : S8x512x2048.Idx → α) (b : Fin 8) (n : Fin 512) (k : Fin K) :
    extractStridedSlice ⟨3, ![8, 512, K]⟩ (fun _ => 0) y hs (ix3 b n k) = y (ix3 b n (Fin.castLE hK k)) := by
  show y _ = y _
  congr 1
  funext a
  refine Fin.ext ?_
  fin_cases a <;> exact Nat.zero_add _

/-- The values of the first `K` places, by the order of the row. -/
theorem topK_read_value (nd : FVec Ideal S8x512x2048 .f32) (K : ℕ) (hK : K ≤ 2048)
    (hs : S8x512x2048.Slices (fun _ => 0) ⟨3, ![8, 512, K]⟩) (b : Fin 8) (n : Fin 512) (k : Fin K) :
    (Host.topK ⟨3, ![8, 512, K]⟩ 2 (FloatOps.cmpfTotal .gt) nd hs).1 (ix3 b n k)
      = nd (ix3 b n (order nd b n (Fin.castLE hK k))) :=
  (corner_read K hK hs _ b n k).trans (sort2_read nd (iotaInDim S8x512x2048 32 2) b n _).1

/-- The positions of the first `K` places, by the order of the row. -/
theorem topK_read (nd : FVec Ideal S8x512x2048 .f32) (K : ℕ) (hK : K ≤ 2048)
    (hs : S8x512x2048.Slices (fun _ => 0) ⟨3, ![8, 512, K]⟩) (b : Fin 8) (n : Fin 512) (k : Fin K) :
    (Host.topK ⟨3, ![8, 512, K]⟩ 2 (FloatOps.cmpfTotal .gt) nd hs).2 (ix3 b n k)
      = BitVec.ofNat 32 (order nd b n (Fin.castLE hK k)).val :=
  ((corner_read K hK hs _ b n k).trans (sort2_read nd (iotaInDim S8x512x2048 32 2) b n _).2).trans rfl

/-- A position below 2048 as a signed word. -/
theorem toInt_position (m : Fin 2048) : (BitVec.ofNat 32 m.val).toInt = (m.val : ℤ) := by
  have hm := m.isLt
  have hn : (BitVec.ofNat 32 m.val).toNat = m.val := by
    rw [BitVec.toNat_ofNat]; exact Nat.mod_eq_of_lt (by omega)
  rw [BitVec.toInt_eq_toNat_of_lt (by omega), hn]

variable (nd : FVec Ideal S8x512x2048 .f32) (f : Fin 8 → Fin 512 → Fin 2048 → ℝ)
  (h : ∀ b n m, (nd (ix3 b n m) : EReal) = (f b n m : EReal))
include h

/-- The order of a row of real numbers. -/
theorem topK_order (b : Fin 8) (n : Fin 512) : order nd b n = place (f b n) := by
  funext k
  unfold order place
  simp only [h]

/-- The values of the first `K` places. -/
theorem topK_value (K : ℕ) (hK : K ≤ 2048) (hs : S8x512x2048.Slices (fun _ => 0) ⟨3, ![8, 512, K]⟩)
    (b : Fin 8) (n : Fin 512) (k : Fin K) :
    ((Host.topK ⟨3, ![8, 512, K]⟩ 2 (FloatOps.cmpfTotal .gt) nd hs).1 (ix3 b n k) : EReal)
      = (f b n (place (f b n) (Fin.castLE hK k)) : EReal) := by
  rw [topK_read_value nd K hK, topK_order nd f h b n, h]

/-- The positions of the first `K` places. -/
theorem topK_position (K : ℕ) (hK : K ≤ 2048) (hs : S8x512x2048.Slices (fun _ => 0) ⟨3, ![8, 512, K]⟩)
    (b : Fin 8) (n : Fin 512) (k : Fin K) :
    (Host.topK ⟨3, ![8, 512, K]⟩ 2 (FloatOps.cmpfTotal .gt) nd hs).2 (ix3 b n k)
      = BitVec.ofNat 32 (place (f b n) (Fin.castLE hK k)).val := by
  rw [topK_read nd K hK, topK_order nd f h b n]

omit h

/-- A row of the operand at a position given by the start indices. -/
theorem rowsAt_apply (k : FVec Ideal S8x2048x256 .f32) (idx : IVec S8x512x16 32) (p : Fin 8 → Fin 512 → Fin 16 → Fin 2048)
    (hp : ∀ b n j, idx (ix3 b n j) = BitVec.ofNat 32 (p b n j).val) (b : Fin 8) (n : Fin 512) (j : Fin 16) (d : Fin 256) :
    rowsAt k idx (ix4 b n j d) = k (ix3 b (p b n j) d) := by
  have hs : ∀ b n j, starts idx (ix4 b n j 0) = BitVec.ofNat 32 (p b n j).val := by
    intro b n j
    pointwise [starts]
    rw [hp]
    have hlt := (p b n j).isLt
    have hneg : IntOp.cmpi .slt (BitVec.ofNat 32 (p b n j).val) 0#32 = 0#1 := by
      show BitVec.ofBool (BitVec.slt _ _) = 0#1
      have : BitVec.slt (BitVec.ofNat 32 (p b n j).val) 0#32 = false := by
        rw [BitVec.slt, toInt_position]
        simp
      rw [this]
      rfl
    rw [hneg]
    rfl
  unfold rowsAt Host.gather
  congr 1
  funext a
  refine Fin.ext ?_
  show GatherDims.start _ _ _ _ + GatherDims.batchCoord _ _ _ + GatherDims.offCoord _ _ _ = _
  fin_cases a
  · rw [GatherDims.start_batching _ _ _ _ (by decide), GatherDims.offCoord_eq_zero _ _ _ (by decide)]
    show 0 + b.val + 0 = b.val
    omega
  · rw [GatherDims.batchCoord_eq_zero _ _ _ (by decide), GatherDims.offCoord_eq_zero _ _ _ (by decide)]
    unfold GatherDims.start
    rw [dif_pos (by decide)]
    have hi : gather_S8x2048x256_S8x512x16x1_S8x512x16x256_3_1_0_0_1_3_11256.siIdx (ix4 b n j d)
        ⟨List.idxOf (1 : Fin 3) gather_S8x2048x256_S8x512x16x1_S8x512x16x256_3_1_0_0_1_3_11256.startIndexMap,
          by decide⟩ = ix4 b n j 0 := by
      funext c
      fin_cases c <;> rfl
    show min (starts idx (gather_S8x2048x256_S8x512x16x1_S8x512x16x256_3_1_0_0_1_3_11256.siIdx (ix4 b n j d)
        ⟨List.idxOf (1 : Fin 3) gather_S8x2048x256_S8x512x16x1_S8x512x16x256_3_1_0_0_1_3_11256.startIndexMap,
          by decide⟩)).toInt.toNat (2048 - 1) + 0 + 0 = (p b n j).val
    rw [hi, hs]
    have hlt := (p b n j).isLt
    rw [toInt_position, Int.toNat_natCast]
    omega
  · rw [GatherDims.batchCoord_eq_zero _ _ _ (by decide)]
    show 0 + 0 + d.val = d.val
    omega

end Cert.ReferenceIdeal.Layer
-- ==== Proof.RefValue.lean ====
-- One layer of the reference over the real numbers: it computes the model's layer.
module

public import proofs.«01_k».proof.Proof.RefRank

@[expose] public section

noncomputable section

namespace Cert.ReferenceIdeal.Layer

open Cert.ReferenceIdeal Cert.ReferenceIdeal.Gen Cert.Model Cert.Ranking Cert.Consts
open Idealize.ShloMosaic

/-- The negated squared distance of latent `n` from point `m`. -/
def closeness (L : Fin 512 → Fin 256 → ℝ) (X : Fin 2048 → Fin 256 → ℝ) (n : Fin 512) (m : Fin 2048) : ℝ :=
  -((∑ d, L n d * L n d) - 2 * (∑ d, L n d * X m d) + ∑ d, X m d * X m d)

section
variable (lat : FVec Ideal S8x512x256 .f32) (x : FVec Ideal S8x2048x256 .f32)
  (L : Fin 8 → Fin 512 → Fin 256 → ℝ) (X : Fin 8 → Fin 2048 → Fin 256 → ℝ)
  (hl : ∀ b n d, (lat (ix3 b n d) : EReal) = (L b n d : EReal))
  (hx : ∀ b m d, (x (ix3 b m d) : EReal) = (X b m d : EReal))

include hl hx in
/-- The negated squared distances. -/
theorem negDist_apply (b : Fin 8) (n : Fin 512) (m : Fin 2048) :
    (negDist lat x (ix3 b n m) : EReal) = (closeness (L b) (X b) n m : EReal) := by
  pointwise [negDist]
  simp only [hl, hx, two_f32, zero_add, ← EReal.coe_mul, ← coe_sum, ← EReal.coe_sub, ← EReal.coe_add, ← EReal.coe_neg]
  rfl

include hl in
/-- The products of the latents. -/
theorem latDot_apply (w : FVec Ideal S256x256 .f32) (W : Fin 256 → Fin 256 → ℝ)
    (hw : ∀ i j, (w (ix2 i j) : EReal) = (W i j : EReal)) (b : Fin 8) (n : Fin 512) (d : Fin 256) :
    (latDot lat w (ix3 b n d) : EReal) = (prod (L b) W n d : EReal) := by
  pointwise [latDot]
  simp only [hl, hw, zero_add, ← EReal.coe_mul, ← coe_sum]
  rfl

include hx in
/-- The products of the points. -/
theorem ptDot_apply (w : FVec Ideal S256x256 .f32) (W : Fin 256 → Fin 256 → ℝ)
    (hw : ∀ i j, (w (ix2 i j) : EReal) = (W i j : EReal)) (b : Fin 8) (n : Fin 2048) (d : Fin 256) :
    (ptDot x w (ix3 b n d) : EReal) = (prod (X b) W n d : EReal) := by
  pointwise [ptDot]
  simp only [hx, hw, zero_add, ← EReal.coe_mul, ← coe_sum]
  rfl
end

/-- Channel `c` of head `h`. -/
theorem channel (h : Fin 4) (c : Fin 64) (hb : h.val * 64 + c.val < 256) : (⟨h.val * 64 + c.val, hb⟩ : Fin 256) = hcol h c :=
  Fin.ext (by simp only [hcol]; omega)

/-- The root of sixty-four. -/
theorem root_value : (id (Host.sqrt (constant (F := Ideal) S_ FTy.f32 0x42800000#32)) ix0 : EReal) = ((8 : ℝ) : EReal) := by
  show Ideal.sqrt (Ideal.ofBits .f32 0x42800000#32) = _
  rw [sixtyfour_f32, Ideal.sqrt_coe, if_neg (by norm_num)]
  rw [show (64 : ℝ) = 8 ^ 2 by norm_num, Real.sqrt_sq (by norm_num)]

/-- The logits. -/
theorem logits_apply (q : FVec Ideal S8x512x256 .f32) (kr : FVec Ideal S8x512x16x256 .f32)
    (Q : Fin 8 → Fin 512 → Fin 256 → ℝ) (K : Fin 8 → Fin 512 → Fin 16 → Fin 256 → ℝ)
    (hq : ∀ b n d, (q (ix3 b n d) : EReal) = (Q b n d : EReal))
    (hk : ∀ b n j d, (kr (ix4 b n j d) : EReal) = (K b n j d : EReal))
    (b : Fin 8) (n : Fin 512) (h : Fin 4) (j : Fin 16) :
    (logits q kr (ix4 b n h j) : EReal)
      = (((∑ c : Fin 64, Q b n (hcol h c) * K b n j (hcol h c)) / 8 : ℝ) : EReal) := by
  pointwise [logits]
  rw [root_value]
  simp only [hq, hk, channel, ← EReal.coe_mul, ← coe_sum]
  rw [div_real _ _ (by norm_num)]

/-- The largest of sixteen real numbers is a real number. -/
theorem peak_apply (t : FVec Ideal S8x512x4x16 .f32) (T : Fin 8 → Fin 512 → Fin 4 → Fin 16 → ℝ)
    (ht : ∀ b n h j, (t (ix4 b n h j) : EReal) = (T b n h j : EReal)) (b : Fin 8) (n : Fin 512) (h : Fin 4) :
    ∃ M : ℝ, (peak t (ix3 b n h) : EReal) = (M : EReal) := by
  pointwise [peak]
  simp only [ht, bot_f32]
  refine ⟨_, (EReal.coe_toReal ?_ ?_).symm⟩
  · exact (max_lt bot_lt_top ((Finset.fold_max_lt _).2 ⟨bot_lt_top, fun _ _ => EReal.coe_lt_top _⟩)).ne
  · exact (lt_max_of_lt_right ((Finset.lt_fold_max _).2 (Or.inr ⟨(0 : Fin 16), Finset.mem_univ _, EReal.bot_lt_coe _⟩))).ne'

/-- The weights of the sixteen rows are the exponentials over their sum. -/
theorem share_apply (t : FVec Ideal S8x512x4x16 .f32) (T : Fin 8 → Fin 512 → Fin 4 → Fin 16 → ℝ)
    (ht : ∀ b n h j, (t (ix4 b n h j) : EReal) = (T b n h j : EReal)) (b : Fin 8) (n : Fin 512) (h : Fin 4)
    (j : Fin 16) :
    (share (raised t (peak t)) (ix4 b n h j) : EReal)
      = ((Real.exp (T b n h j) / ∑ i, Real.exp (T b n h i) : ℝ) : EReal) := by
  obtain ⟨M, hM⟩ := peak_apply t T ht b n h
  have hr : ∀ i, (raised t (peak t) (ix4 b n h i) : EReal) = ((Real.exp (T b n h i - M) : ℝ) : EReal) := by
    intro i
    pointwise [raised]
    rw [ht, hM, ← EReal.coe_sub, Ideal.exp_coe]
  have hpos : 0 < ∑ i, Real.exp (T b n h i - M) :=
    Finset.sum_pos (fun i _ => Real.exp_pos _) ⟨0, Finset.mem_univ _⟩
  generalize raised t (peak t) = e at hr
  pointwise [share]
  simp only [hr, zero_add, ← coe_sum]
  rw [div_real _ _ hpos.ne']
  simp only [Real.exp_sub, ← Finset.sum_div]
  rw [div_div_div_cancel_right₀ (Real.exp_pos M).ne']

/-- The weighted value rows. -/
theorem mix_apply (s : FVec Ideal S8x512x4x16 .f32) (vr : FVec Ideal S8x512x16x256 .f32)
    (P : Fin 8 → Fin 512 → Fin 4 → Fin 16 → ℝ) (V : Fin 8 → Fin 512 → Fin 16 → Fin 256 → ℝ)
    (hs : ∀ b n h j, (s (ix4 b n h j) : EReal) = (P b n h j : EReal))
    (hv : ∀ b n j d, (vr (ix4 b n j d) : EReal) = (V b n j d : EReal))
    (b : Fin 8) (n : Fin 512) (h : Fin 4) (c : Fin 64) :
    (mix s vr (ix4 b n h c) : EReal) = ((∑ j, P b n h j * V b n j (hcol h c) : ℝ) : EReal) := by
  pointwise [mix]
  simp only [hs, hv, channel, ← EReal.coe_mul, ← coe_sum]

/-- The latents plus the gated product. -/
theorem close_apply (lat : FVec Ideal S8x512x256 .f32) (h : FVec Ideal S8x512x4x64 .f32) (wo : FVec Ideal S256x256 .f32)
    (g : FVec Ideal S_ .f32) (L : Fin 8 → Fin 512 → Fin 256 → ℝ) (H : Fin 8 → Fin 512 → Fin 256 → ℝ)
    (W : Fin 256 → Fin 256 → ℝ) (G : ℝ)
    (hl : ∀ b n d, (lat (ix3 b n d) : EReal) = (L b n d : EReal))
    (hh : ∀ b n (c : Fin 256), (h (ix4 b n ⟨c.val / 64, by omega⟩ ⟨c.val % 64, by omega⟩) : EReal) = (H b n c : EReal))
    (hw : ∀ i j, (wo (ix2 i j) : EReal) = (W i j : EReal)) (hg : (g ix0 : EReal) = (G : EReal))
    (b : Fin 8) (n : Fin 512) (d : Fin 256) :
    (close lat h wo g (ix3 b n d) : EReal) = ((L b n d + G * prod (H b) W n d : ℝ) : EReal) := by
  pointwise [close, latDot]
  simp only [hl, hh, hw, hg, zero_add, ← EReal.coe_mul, ← coe_sum, ← EReal.coe_add]
  rfl

/-- A feed-forward layer. -/
theorem feed_apply (lat : FVec Ideal S8x512x256 .f32) (w1 : FVec Ideal S256x1024 .f32) (b1 : FVec Ideal S1024 .f32)
    (w2 : FVec Ideal S1024x256 .f32) (b2 : FVec Ideal S256 .f32) (g : FVec Ideal S_ .f32)
    (L : Fin 8 → Fin 512 → Fin 256 → ℝ) (W1 : Fin 256 → Fin 1024 → ℝ) (B1 : Fin 1024 → ℝ)
    (W2 : Fin 1024 → Fin 256 → ℝ) (B2 : Fin 256 → ℝ) (G : ℝ)
    (hl : ∀ b n d, (lat (ix3 b n d) : EReal) = (L b n d : EReal))
    (hw1 : ∀ i j, (w1 (ix2 i j) : EReal) = (W1 i j : EReal)) (hb1 : ∀ i, (b1 (ix1 i) : EReal) = (B1 i : EReal))
    (hw2 : ∀ i j, (w2 (ix2 i j) : EReal) = (W2 i j : EReal)) (hb2 : ∀ i, (b2 (ix1 i) : EReal) = (B2 i : EReal))
    (hg : (g ix0 : EReal) = (G : EReal)) (b : Fin 8) (n : Fin 512) (d : Fin 256) :
    (feed lat w1 b1 w2 b2 g (ix3 b n d) : EReal) = (forward G (L b) W1 B1 W2 B2 n d : EReal) := by
  pointwise [feed, hidden, activate]
  simp only [hl, hw1, hb1, hw2, hb2, hg, half_f32, root_f32, cubic_f32, zero_add, ← EReal.coe_one, ← EReal.coe_mul,
    ← coe_sum, ← EReal.coe_add, Ideal.tanh_coe]
  unfold forward gelu prod
  simp only [mul_assoc]

/-- Nearness by the negated squared distance. -/
theorem near_closeness (L : Fin 512 → Fin 256 → ℝ) (X : Fin 2048 → Fin 256 → ℝ) (n : Fin 512) :
    near L X n = Finset.univ.filter fun m =>
      (Finset.univ.filter fun m' => closeness L X n m < closeness L X n m').card < 16 := by
  have h : ∀ m m', score L X m' n < score L X m n ↔ closeness L X n m < closeness L X n m' := by
    intro m m'
    unfold score closeness
    simp only [mul_comm (X _ _) (L _ _)]
    constructor <;> intro h <;> linarith
  unfold near
  simp only [h]

/-- One attention layer, where every latent has sixteen points nearer than all others. -/
theorem attend_apply (lat : FVec Ideal S8x512x256 .f32) (x : FVec Ideal S8x2048x256 .f32)
    (wq wk wv wo : FVec Ideal S256x256 .f32) (g : FVec Ideal S_ .f32)
    (L : Fin 8 → Fin 512 → Fin 256 → ℝ) (X : Fin 8 → Fin 2048 → Fin 256 → ℝ)
    (WQ WK WV WO : Fin 256 → Fin 256 → ℝ) (G : ℝ)
    (hl : ∀ b n d, (lat (ix3 b n d) : EReal) = (L b n d : EReal))
    (hx : ∀ b m d, (x (ix3 b m d) : EReal) = (X b m d : EReal))
    (hq : ∀ i j, (wq (ix2 i j) : EReal) = (WQ i j : EReal)) (hk : ∀ i j, (wk (ix2 i j) : EReal) = (WK i j : EReal))
    (hv : ∀ i j, (wv (ix2 i j) : EReal) = (WV i j : EReal)) (ho : ∀ i j, (wo (ix2 i j) : EReal) = (WO i j : EReal))
    (hg : (g ix0 : EReal) = (G : EReal))
    (gap : ∀ b n, closeness (L b) (X b) n (place (closeness (L b) (X b) n) ⟨16, by omega⟩)
      < closeness (L b) (X b) n (place (closeness (L b) (X b) n) ⟨15, by omega⟩))
    (b : Fin 8) (n : Fin 512) (d : Fin 256) :
    (attend lat x wq wk wv wo g (ix3 b n d) : EReal)
      = (attended G (L b) (X b) WQ WK WV WO n d : EReal) := by
  have hp : ∀ b n j, picks (negDist lat x) (ix3 b n j)
      = BitVec.ofNat 32 (place (closeness (L b) (X b) n) (Fin.castLE (by omega : 16 ≤ 2048) j)).val :=
    fun b n j => topK_position (negDist lat x) (fun b => closeness (L b) (X b)) (negDist_apply lat x L X hl hx) 16
      (by omega) _ b n j
  have hlog := logits_apply (latDot lat wq) (rowsAt (ptDot x wk) (picks (negDist lat x))) (fun b => prod (L b) WQ)
    (fun b n j => prod (X b) WK (place (closeness (L b) (X b) n) (Fin.castLE (by omega) j)))
    (latDot_apply lat L hl wq WQ hq)
    (fun b n j d => (rowsAt_apply _ _ _ hp b n j d).trans (ptDot_apply x X hx wk WK hk b _ d))
  have hmix := mix_apply _ (rowsAt (ptDot x wv) (picks (negDist lat x))) _
    (fun b n j => prod (X b) WV (place (closeness (L b) (X b) n) (Fin.castLE (by omega) j)))
    (share_apply _ _ hlog)
    (fun b n j d => (rowsAt_apply _ _ _ hp b n j d).trans (ptDot_apply x X hx wv WV hv b _ d))
  refine close_apply lat _ wo g L (fun b => heads (prod (L b) WQ) (prod (X b) WK) (prod (X b) WV) (near (L b) (X b))) WO G
    hl (fun b n c => (hmix b n _ _).trans ?_) ho hg b n d
  congr 1
  have hc : hcol ⟨c.val / 64, by omega⟩ ⟨c.val % 64, by omega⟩ = c := Fin.ext (by simp only [hcol]; omega)
  rw [hc]
  unfold heads mean
  rw [near_closeness, sum_place (by omega) _ (gap b n), sum_place (by omega) _ (gap b n), Finset.sum_div]
  refine Finset.sum_congr rfl fun j _ => ?_
  rw [div_mul_eq_mul_div]
  rfl

end Cert.ReferenceIdeal.Layer
-- ==== Proof.PreMeaning.lean ====
-- What the precondition says of its arrays: every entry is a real number, and every latent of every layer has
-- sixteen points nearer than all others.
module

public import proofs.«01_k».proof.Proof.PreRead
public import proofs.«01_k».proof.Proof.RefValue

@[expose] public section

noncomputable section

namespace Cert.Pre_clear_neighbours

open Idealize.ShloMosaic Cert.ReferenceIdeal.Layer Cert.Ranking

/-- The conjunction of one-bit words is set only if every word is. -/
theorem all_set {ι : Type} (f : ι → BitVec 1) (l : List ι) (r : BitVec 1)
    (h : l.foldl (fun r n => IntOp.andi r (f n)) r = 1#1) : r = 1#1 ∧ ∀ n ∈ l, f n = 1#1 := by
  induction l generalizing r with
  | nil => exact ⟨h, fun n hn => absurd hn List.not_mem_nil⟩
  | cons a l ih =>
    obtain ⟨h1, h2⟩ := ih _ h
    have hand : ∀ u v : BitVec 1, IntOp.andi u v = 1#1 → u = 1#1 ∧ v = 1#1 := by decide
    obtain ⟨h3, h4⟩ := hand _ _ h1
    refine ⟨h3, fun n hn => ?_⟩
    rcases List.mem_cons.1 hn with rfl | hn
    · exact h4
    · exact h2 n hn

/-- Infinity. -/
theorem inf_f32 : (Ideal.ofBits .f32 0x7F800000#32 : EReal) = ⊤ := by
  simp [Ideal.ofBits, Ideal.ieee]

/-- A number smaller in size than infinity is a real number. -/
theorem real_of_small (a : EReal) (h : max a (-a) < ⊤) : a = (a.toReal : EReal) := by
  refine (EReal.coe_toReal ?_ ?_).symm
  · rintro rfl
    simp at h
  · rintro rfl
    simp at h

/-- An array whose check is set holds real numbers. -/
theorem real_of_allSmall {s : Shape} {axes : List (Fin s.rank)}
    (hb : S_.BroadcastsInDim s (![] : Fin 0 → Fin s.rank)) (hr : s.ReducesTo axes S_) (a : FVec Ideal s .f32)
    (h : allSmall hb hr a = fun _ => 1#1) (i : s.Idx) : (a i : EReal) = ((a i : EReal).toReal : EReal) := by
  have h0 := congrFun h ix0
  unfold allSmall Host.reduce at h0
  have h1 := (all_set _ _ _ h0).2 (s.rowMajor i)
    (List.mem_filter.2 ⟨List.mem_finRange _, by simpa using funext fun z => z.elim0⟩)
  rw [Equiv.symm_apply_apply] at h1
  refine real_of_small _ ?_
  have h2 : BitVec.ofBool (decide (max (a i : EReal) (-(a i : EReal)) < Ideal.ofBits .f32 0x7F800000#32)) = 1#1 := h1
  rw [inf_f32] at h2
  by_contra hne
  rw [decide_eq_false hne] at h2
  exact absurd h2 (by decide)

/-- Where the gap check is set the entry at place fifteen exceeds the one at place sixteen. -/
theorem gap_of_clearGap (nd : FVec Ideal S8x512x2048 .f32) (f : Fin 8 → Fin 512 → Fin 2048 → ℝ)
    (hf : ∀ b n m, (nd (ix3 b n m) : EReal) = (f b n m : EReal)) (h : clearGap nd = fun _ => 1#1) (b : Fin 8)
    (n : Fin 512) :
    f b n (place (f b n) ⟨16, by omega⟩) < f b n (place (f b n) ⟨15, by omega⟩) := by
  have h0 := congrFun h (ix2 b n)
  have ht := topK_value nd f hf 17 (by omega) Facts.sliceFits_S8x512x2048_S8x512x17 b n
  unfold clearGap at h0
  generalize (Host.topK S8x512x17 2 (FloatOps.cmpfTotal .gt) nd Facts.sliceFits_S8x512x2048_S8x512x17).1 = v at h0 ht
  have e15 : shapeCast S8x512 (extractStridedSlice S8x512x1 ![0, 0, 15] v Facts.slices_S8x512x17_S8x512x1_0_0_15)
      Facts.shapeCasts_S8x512x1_S8x512 (ix2 b n) = v (ix3 b n 15) := by
    pointwise []
  have e16 : shapeCast S8x512 (extractStridedSlice S8x512x1 ![0, 0, 16] v Facts.slices_S8x512x17_S8x512x1_0_0_16)
      Facts.shapeCasts_S8x512x1_S8x512 (ix2 b n) = v (ix3 b n 16) := by
    pointwise []
  have h2 : FloatOps.cmpf (F := Ideal) .ogt (v (ix3 b n 15)) (v (ix3 b n 16)) = 1#1 := by
    rw [← e15, ← e16]
    exact h0
  rw [ht, ht] at h2
  have h3 : BitVec.ofBool (decide ((f b n (place (f b n) ⟨16, by omega⟩) : EReal)
    < (f b n (place (f b n) ⟨15, by omega⟩) : EReal))) = 1#1 := h2
  by_contra hne
  rw [decide_eq_false (by rwa [EReal.coe_lt_coe_iff])] at h3
  exact absurd h3 (by decide)

end Cert.Pre_clear_neighbours
-- ==== Proof.RefWhole.lean ====
-- The whole reference over the real numbers: its result is the model's latent after the last layer.
module

public import proofs.«01_k».proof.Proof.PreMeaning

@[expose] public section

noncomputable section

namespace Cert.ReferenceIdeal.Layer

open Cert.ReferenceIdeal Cert.ReferenceIdeal.Gen Cert.ReferenceIdeal.Read Cert.Model Cert.Ranking
open Idealize.ShloMosaic

/-- The arrays hold the real numbers of `p`. -/
structure Reads (x0 : FVec Ideal S8x512x256 .f32) (x1 : FVec Ideal S8x2048x256 .f32)
    (x2 x3 x4 x5 : FVec Ideal S4x256x256 .f32) (x6 : FVec Ideal S3x256x1024 .f32) (x7 : FVec Ideal S3x1024 .f32)
    (x8 : FVec Ideal S3x1024x256 .f32) (x9 : FVec Ideal S3x256 .f32) (x10 : FVec Ideal S4 .f32) (p : Inputs) : Prop where
  latent : ∀ b n d, (x0 (ix3 b n d) : EReal) = (p.latent b n d : EReal)
  x : ∀ b n d, (x1 (ix3 b n d) : EReal) = (p.x b n d : EReal)
  wq : ∀ b n d, (x2 (ix3 b n d) : EReal) = (p.wq b n d : EReal)
  wk : ∀ b n d, (x3 (ix3 b n d) : EReal) = (p.wk b n d : EReal)
  wv : ∀ b n d, (x4 (ix3 b n d) : EReal) = (p.wv b n d : EReal)
  wo : ∀ b n d, (x5 (ix3 b n d) : EReal) = (p.wo b n d : EReal)
  w1 : ∀ b n d, (x6 (ix3 b n d) : EReal) = (p.w1 b n d : EReal)
  b1 : ∀ b d, (x7 (ix2 b d) : EReal) = (p.b1 b d : EReal)
  w2 : ∀ b n d, (x8 (ix3 b n d) : EReal) = (p.w2 b n d : EReal)
  b2 : ∀ b d, (x9 (ix2 b d) : EReal) = (p.b2 b d : EReal)
  gates : ∀ i, (x10 (ix1 i) : EReal) = (p.gates i : EReal)

/-- Every latent has sixteen points nearer than all others. -/
def Clear (L : Fin 8 → Fin 512 → Fin 256 → ℝ) (X : Fin 8 → Fin 2048 → Fin 256 → ℝ) : Prop :=
  ∀ b n, closeness (L b) (X b) n (place (closeness (L b) (X b) n) ⟨16, by omega⟩)
    < closeness (L b) (X b) n (place (closeness (L b) (X b) n) ⟨15, by omega⟩)

variable (x0 : FVec Ideal S8x512x256 .f32) (x1 : FVec Ideal S8x2048x256 .f32)
  (x2 x3 x4 x5 : FVec Ideal S4x256x256 .f32) (x6 : FVec Ideal S3x256x1024 .f32) (x7 : FVec Ideal S3x1024 .f32)
  (x8 : FVec Ideal S3x1024x256 .f32) (x9 : FVec Ideal S3x256 .f32) (x10 : FVec Ideal S4 .f32) (p : Inputs)
  (hr : Reads x0 x1 x2 x3 x4 x5 x6 x7 x8 x9 x10 p)
include hr

/-- The first layer's attention. -/
theorem attention0 (clear : Clear p.latent p.x) (b : Fin 8) (n : Fin 512) (d : Fin 256) :
    (val_main_v65 (F := Ideal) x0 x1 x2 x3 x4 x5 x10 (ix3 b n d) : EReal) = (attendAt p b 0 (p.latent b) n d : EReal) := by
  rw [v65_eq]
  exact attend_apply x0 x1 _ _ _ _ _ p.latent p.x (p.wq 0) (p.wk 0) (p.wv 0) (p.wo 0) (p.gates 0) hr.latent hr.x
    (fun i j => by pointwise [val_main_v17, val_main_v16]; exact hr.wq 0 i j)
    (fun i j => by pointwise [val_main_v19, val_main_v18]; exact hr.wk 0 i j)
    (fun i j => by pointwise [val_main_v21, val_main_v20]; exact hr.wv 0 i j)
    (fun i j => by pointwise [val_main_v23, val_main_v22]; exact hr.wo 0 i j)
    (by pointwise [val_main_v15, val_main_v14]; exact hr.gates 0) clear b n d

/-- The second layer's attention. -/
theorem attention1
    (hl : ∀ b n d, (val_main_v65 (F := Ideal) x0 x1 x2 x3 x4 x5 x10 (ix3 b n d) : EReal) = (latentAfter p b 0 n d : EReal)) (clear : Clear (fun b => latentAfter p b 0) p.x) (b : Fin 8) (n : Fin 512) (d : Fin 256) :
    (val_main_v131 (F := Ideal) x0 x1 x2 x3 x4 x5 x10 (ix3 b n d) : EReal) = (attendAt p b 1 (latentAfter p b 0) n d : EReal) := by
  rw [v131_eq]
  exact attend_apply (val_main_v65 (F := Ideal) x0 x1 x2 x3 x4 x5 x10) x1 _ _ _ _ _ (fun b => latentAfter p b 0) p.x (p.wq 1) (p.wk 1) (p.wv 1) (p.wo 1) (p.gates 1) hl hr.x
    (fun i j => by pointwise [val_main_v83, val_main_v82]; exact hr.wq 1 i j)
    (fun i j => by pointwise [val_main_v85, val_main_v84]; exact hr.wk 1 i j)
    (fun i j => by pointwise [val_main_v87, val_main_v86]; exact hr.wv 1 i j)
    (fun i j => by pointwise [val_main_v89, val_main_v88]; exact hr.wo 1 i j)
    (by pointwise [val_main_v81, val_main_v80]; exact hr.gates 1) clear b n d

/-- The third layer's attention. -/
theorem attention2
    (hl : ∀ b n d, (val_main_v165 (F := Ideal) x0 x1 x2 x3 x4 x5 x6 x7 x8 x9 x10 (ix3 b n d) : EReal) = (latentAfter p b 1 n d : EReal)) (clear : Clear (fun b => latentAfter p b 1) p.x) (b : Fin 8) (n : Fin 512) (d : Fin 256) :
    (val_main_v231 (F := Ideal) x0 x1 x2 x3 x4 x5 x6 x7 x8 x9 x10 (ix3 b n d) : EReal) = (attendAt p b 2 (latentAfter p b 1) n d : EReal) := by
  rw [v231_eq]
  exact attend_apply (val_main_v165 (F := Ideal) x0 x1 x2 x3 x4 x5 x6 x7 x8 x9 x10) x1 _ _ _ _ _ (fun b => latentAfter p b 1) p.x (p.wq 2) (p.wk 2) (p.wv 2) (p.wo 2) (p.gates 2) hl hr.x
    (fun i j => by pointwise [val_main_v183, val_main_v182]; exact hr.wq 2 i j)
    (fun i j => by pointwise [val_main_v185, val_main_v184]; exact hr.wk 2 i j)
    (fun i j => by pointwise [val_main_v187, val_main_v186]; exact hr.wv 2 i j)
    (fun i j => by pointwise [val_main_v189, val_main_v188]; exact hr.wo 2 i j)
    (by pointwise [val_main_v181, val_main_v180]; exact hr.gates 2) clear b n d

/-- The fourth layer's attention. -/
theorem attention3
    (hl : ∀ b n d, (val_main_v265 (F := Ideal) x0 x1 x2 x3 x4 x5 x6 x7 x8 x9 x10 (ix3 b n d) : EReal) = (latentAfter p b 2 n d : EReal)) (clear : Clear (fun b => latentAfter p b 2) p.x) (b : Fin 8) (n : Fin 512) (d : Fin 256) :
    (val_main_v331 (F := Ideal) x0 x1 x2 x3 x4 x5 x6 x7 x8 x9 x10 (ix3 b n d) : EReal) = (attendAt p b 3 (latentAfter p b 2) n d : EReal) := by
  rw [v331_eq]
  exact attend_apply (val_main_v265 (F := Ideal) x0 x1 x2 x3 x4 x5 x6 x7 x8 x9 x10) x1 _ _ _ _ _ (fun b => latentAfter p b 2) p.x (p.wq 3) (p.wk 3) (p.wv 3) (p.wo 3) (p.gates 3) hl hr.x
    (fun i j => by pointwise [val_main_v283, val_main_v282]; exact hr.wq 3 i j)
    (fun i j => by pointwise [val_main_v285, val_main_v284]; exact hr.wk 3 i j)
    (fun i j => by pointwise [val_main_v287, val_main_v286]; exact hr.wv 3 i j)
    (fun i j => by pointwise [val_main_v289, val_main_v288]; exact hr.wo 3 i j)
    (by pointwise [val_main_v281, val_main_v280]; exact hr.gates 3) clear b n d

/-- The second layer's feed-forward part. -/
theorem forward1
    (hl : ∀ b n d, (val_main_v131 (F := Ideal) x0 x1 x2 x3 x4 x5 x10 (ix3 b n d) : EReal) = (attendAt p b 1 (latentAfter p b 0) n d : EReal))
    (b : Fin 8) (n : Fin 512) (d : Fin 256) :
    (val_main_v165 (F := Ideal) x0 x1 x2 x3 x4 x5 x6 x7 x8 x9 x10 (ix3 b n d) : EReal) = (latentAfter p b 1 n d : EReal) := by
  rw [v165_eq]
  exact feed_apply (val_main_v131 (F := Ideal) x0 x1 x2 x3 x4 x5 x10) _ _ _ _ _ (fun b => attendAt p b 1 (latentAfter p b 0))
    (p.w1 0) (p.b1 0) (p.w2 0) (p.b2 0) (p.gates 1) hl
    (fun i j => by pointwise [val_main_v135, val_main_v134]; exact hr.w1 0 i j)
    (fun i => by pointwise [val_main_v137, val_main_v136]; exact hr.b1 0 i)
    (fun i j => by pointwise [val_main_v139, val_main_v138]; exact hr.w2 0 i j)
    (fun i => by pointwise [val_main_v141, val_main_v140]; exact hr.b2 0 i)
    (by pointwise [val_main_v133, val_main_v132]; exact hr.gates 1) b n d

/-- The third layer's feed-forward part. -/
theorem forward2
    (hl : ∀ b n d, (val_main_v231 (F := Ideal) x0 x1 x2 x3 x4 x5 x6 x7 x8 x9 x10 (ix3 b n d) : EReal) = (attendAt p b 2 (latentAfter p b 1) n d : EReal))
    (b : Fin 8) (n : Fin 512) (d : Fin 256) :
    (val_main_v265 (F := Ideal) x0 x1 x2 x3 x4 x5 x6 x7 x8 x9 x10 (ix3 b n d) : EReal) = (latentAfter p b 2 n d : EReal) := by
  rw [v265_eq]
  exact feed_apply (val_main_v231 (F := Ideal) x0 x1 x2 x3 x4 x5 x6 x7 x8 x9 x10) _ _ _ _ _ (fun b => attendAt p b 2 (latentAfter p b 1))
    (p.w1 1) (p.b1 1) (p.w2 1) (p.b2 1) (p.gates 2) hl
    (fun i j => by pointwise [val_main_v235, val_main_v234]; exact hr.w1 1 i j)
    (fun i => by pointwise [val_main_v237, val_main_v236]; exact hr.b1 1 i)
    (fun i j => by pointwise [val_main_v239, val_main_v238]; exact hr.w2 1 i j)
    (fun i => by pointwise [val_main_v241, val_main_v240]; exact hr.b2 1 i)
    (by pointwise [val_main_v233, val_main_v232]; exact hr.gates 2) b n d

/-- The fourth layer's feed-forward part. -/
theorem forward3
    (hl : ∀ b n d, (val_main_v331 (F := Ideal) x0 x1 x2 x3 x4 x5 x6 x7 x8 x9 x10 (ix3 b n d) : EReal) = (attendAt p b 3 (latentAfter p b 2) n d : EReal))
    (b : Fin 8) (n : Fin 512) (d : Fin 256) :
    (val_main_v365 (F := Ideal) x0 x1 x2 x3 x4 x5 x6 x7 x8 x9 x10 (ix3 b n d) : EReal) = (latentAfter p b 3 n d : EReal) := by
  rw [v365_eq]
  exact feed_apply (val_main_v331 (F := Ideal) x0 x1 x2 x3 x4 x5 x6 x7 x8 x9 x10) _ _ _ _ _ (fun b => attendAt p b 3 (latentAfter p b 2))
    (p.w1 2) (p.b1 2) (p.w2 2) (p.b2 2) (p.gates 3) hl
    (fun i j => by pointwise [val_main_v335, val_main_v334]; exact hr.w1 2 i j)
    (fun i => by pointwise [val_main_v337, val_main_v336]; exact hr.b1 2 i)
    (fun i j => by pointwise [val_main_v339, val_main_v338]; exact hr.w2 2 i j)
    (fun i => by pointwise [val_main_v341, val_main_v340]; exact hr.b2 2 i)
    (by pointwise [val_main_v333, val_main_v332]; exact hr.gates 3) b n d

open Cert.Pre_clear_neighbours in
/-- The reference's result, where the gap check of every layer is set. -/
theorem result_apply
    (g0 : clearGap (negDist x0 x1) = fun _ => 1#1)
    (g1 : clearGap (negDist (val_main_v65 (F := Ideal) x0 x1 x2 x3 x4 x5 x10) x1) = fun _ => 1#1)
    (g2 : clearGap (negDist (val_main_v165 (F := Ideal) x0 x1 x2 x3 x4 x5 x6 x7 x8 x9 x10) x1) = fun _ => 1#1)
    (g3 : clearGap (negDist (val_main_v265 (F := Ideal) x0 x1 x2 x3 x4 x5 x6 x7 x8 x9 x10) x1) = fun _ => 1#1)
    (b : Fin 8) (n : Fin 512) (d : Fin 256) :
    (val_main_v365 (F := Ideal) x0 x1 x2 x3 x4 x5 x6 x7 x8 x9 x10 (ix3 b n d) : EReal) = (latentAfter p b 3 n d : EReal) := by
  have a0 := attention0 x0 x1 x2 x3 x4 x5 x6 x7 x8 x9 x10 p hr (gap_of_clearGap _ _ (negDist_apply _ _ _ _ hr.latent hr.x) g0)
  have a1 := attention1 x0 x1 x2 x3 x4 x5 x6 x7 x8 x9 x10 p hr a0 (gap_of_clearGap _ _ (negDist_apply _ _ _ _ a0 hr.x) g1)
  have f1 := forward1 x0 x1 x2 x3 x4 x5 x6 x7 x8 x9 x10 p hr a1
  have a2 := attention2 x0 x1 x2 x3 x4 x5 x6 x7 x8 x9 x10 p hr f1 (gap_of_clearGap _ _ (negDist_apply _ _ _ _ f1 hr.x) g2)
  have f2 := forward2 x0 x1 x2 x3 x4 x5 x6 x7 x8 x9 x10 p hr a2
  have a3 := attention3 x0 x1 x2 x3 x4 x5 x6 x7 x8 x9 x10 p hr f2 (gap_of_clearGap _ _ (negDist_apply _ _ _ _ f2 hr.x) g3)
  exact forward3 x0 x1 x2 x3 x4 x5 x6 x7 x8 x9 x10 p hr a3 b n d

end Cert.ReferenceIdeal.Layer
-- ==== Proof.Outputs.lean ====
-- Under the precondition the kernel's result array is the reference's.
module

public import proofs.«01_k».proof.Defs
public import proofs.«01_k».proof.Proof.KernelArray
public import proofs.«01_k».proof.Proof.RefWhole

@[expose] public section

noncomputable section

namespace Cert.Outputs

open Idealize.ShloMosaic Idealize.SL.Sem Cert.Model Cert.ReferenceIdeal.Layer Cert.ReferenceIdeal.Read
open Cert.Pre_clear_neighbours

section
variable (x0 : FVec Ideal S8x512x256 .f32) (x1 : FVec Ideal S8x2048x256 .f32)
  (x2 x3 x4 x5 : FVec Ideal S4x256x256 .f32) (x6 : FVec Ideal S3x256x1024 .f32) (x7 : FVec Ideal S3x1024 .f32)
  (x8 : FVec Ideal S3x1024x256 .f32) (x9 : FVec Ideal S3x256 .f32) (x10 : FVec Ideal S4 .f32)

/-- The real numbers held by the arrays. -/
def inputs : Inputs where
  latent := fun b n d => (x0 (ix3 b n d) : EReal).toReal
  x := fun b n d => (x1 (ix3 b n d) : EReal).toReal
  wq := fun b n d => (x2 (ix3 b n d) : EReal).toReal
  wk := fun b n d => (x3 (ix3 b n d) : EReal).toReal
  wv := fun b n d => (x4 (ix3 b n d) : EReal).toReal
  wo := fun b n d => (x5 (ix3 b n d) : EReal).toReal
  w1 := fun b n d => (x6 (ix3 b n d) : EReal).toReal
  b1 := fun b d => (x7 (ix2 b d) : EReal).toReal
  w2 := fun b n d => (x8 (ix3 b n d) : EReal).toReal
  b2 := fun b d => (x9 (ix2 b d) : EReal).toReal
  gates := fun i => (x10 (ix1 i) : EReal).toReal

/-- Every output of the precondition's function is all ones. -/
def Holding : Prop :=
  (fn (F := Ideal) x0 x1 x2 x3 x4 x5 x6 x7 x8 x9 x10).1 = (fun _ => 1#1)
  ∧ (fn (F := Ideal) x0 x1 x2 x3 x4 x5 x6 x7 x8 x9 x10).2.1 = (fun _ => 1#1)
  ∧ (fn (F := Ideal) x0 x1 x2 x3 x4 x5 x6 x7 x8 x9 x10).2.2.1 = (fun _ => 1#1)
  ∧ (fn (F := Ideal) x0 x1 x2 x3 x4 x5 x6 x7 x8 x9 x10).2.2.2.1 = (fun _ => 1#1)
  ∧ (fn (F := Ideal) x0 x1 x2 x3 x4 x5 x6 x7 x8 x9 x10).2.2.2.2.1 = (fun _ => 1#1)
  ∧ (fn (F := Ideal) x0 x1 x2 x3 x4 x5 x6 x7 x8 x9 x10).2.2.2.2.2.1 = (fun _ => 1#1)
  ∧ (fn (F := Ideal) x0 x1 x2 x3 x4 x5 x6 x7 x8 x9 x10).2.2.2.2.2.2.1 = (fun _ => 1#1)
  ∧ (fn (F := Ideal) x0 x1 x2 x3 x4 x5 x6 x7 x8 x9 x10).2.2.2.2.2.2.2.1 = (fun _ => 1#1)
  ∧ (fn (F := Ideal) x0 x1 x2 x3 x4 x5 x6 x7 x8 x9 x10).2.2.2.2.2.2.2.2.1 = (fun _ => 1#1)
  ∧ (fn (F := Ideal) x0 x1 x2 x3 x4 x5 x6 x7 x8 x9 x10).2.2.2.2.2.2.2.2.2.1 = (fun _ => 1#1)
  ∧ (fn (F := Ideal) x0 x1 x2 x3 x4 x5 x6 x7 x8 x9 x10).2.2.2.2.2.2.2.2.2.2.1 = (fun _ => 1#1)
  ∧ (fn (F := Ideal) x0 x1 x2 x3 x4 x5 x6 x7 x8 x9 x10).2.2.2.2.2.2.2.2.2.2.2.1 = (fun _ => 1#1)
  ∧ (fn (F := Ideal) x0 x1 x2 x3 x4 x5 x6 x7 x8 x9 x10).2.2.2.2.2.2.2.2.2.2.2.2.1 = (fun _ => 1#1)
  ∧ (fn (F := Ideal) x0 x1 x2 x3 x4 x5 x6 x7 x8 x9 x10).2.2.2.2.2.2.2.2.2.2.2.2.2.1 = (fun _ => 1#1)
  ∧ (fn (F := Ideal) x0 x1 x2 x3 x4 x5 x6 x7 x8 x9 x10).2.2.2.2.2.2.2.2.2.2.2.2.2.2 = (fun _ => 1#1)

variable (h : Holding x0 x1 x2 x3 x4 x5 x6 x7 x8 x9 x10)
include h

/-- Under the precondition the arrays hold real numbers. -/
theorem reads : Reads x0 x1 x2 x3 x4 x5 x6 x7 x8 x9 x10 (inputs x0 x1 x2 x3 x4 x5 x6 x7 x8 x9 x10) := by
  obtain ⟨h0, h1, h2, h3, h4, h5, h6, h7, h8, h9, h10, h11, h12, h13, h14⟩ := h
  exact
  { latent := fun b n d => real_of_allSmall Facts.bcast_S_S8x512x256 Facts.reducesTo_S8x512x256_S_d0_1_2 x0 ((out0 x0 x1 x2 x3 x4 x5 x6 x7 x8 x9 x10).symm.trans h0) (ix3 b n d)
    x := fun b n d => real_of_allSmall Facts.bcast_S_S8x2048x256 Facts.reducesTo_S8x2048x256_S_d0_1_2 x1 ((out1 x0 x1 x2 x3 x4 x5 x6 x7 x8 x9 x10).symm.trans h1) (ix3 b n d)
    wq := fun b n d => real_of_allSmall Facts.bcast_S_S4x256x256 Facts.reducesTo_S4x256x256_S_d0_1_2 x2 ((out2 x0 x1 x2 x3 x4 x5 x6 x7 x8 x9 x10).symm.trans h2) (ix3 b n d)
    wk := fun b n d => real_of_allSmall Facts.bcast_S_S4x256x256 Facts.reducesTo_S4x256x256_S_d0_1_2 x3 ((out3 x0 x1 x2 x3 x4 x5 x6 x7 x8 x9 x10).symm.trans h3) (ix3 b n d)
    wv := fun b n d => real_of_allSmall Facts.bcast_S_S4x256x256 Facts.reducesTo_S4x256x256_S_d0_1_2 x4 ((out4 x0 x1 x2 x3 x4 x5 x6 x7 x8 x9 x10).symm.trans h4) (ix3 b n d)
    wo := fun b n d => real_of_allSmall Facts.bcast_S_S4x256x256 Facts.reducesTo_S4x256x256_S_d0_1_2 x5 ((out5 x0 x1 x2 x3 x4 x5 x6 x7 x8 x9 x10).symm.trans h5) (ix3 b n d)
    w1 := fun b n d => real_of_allSmall Facts.bcast_S_S3x256x1024 Facts.reducesTo_S3x256x1024_S_d0_1_2 x6 ((out6 x0 x1 x2 x3 x4 x5 x6 x7 x8 x9 x10).symm.trans h6) (ix3 b n d)
    b1 := fun b d => real_of_allSmall Facts.bcast_S_S3x1024 Facts.reducesTo_S3x1024_S_d0_1 x7 ((out7 x0 x1 x2 x3 x4 x5 x6 x7 x8 x9 x10).symm.trans h7) (ix2 b d)
    w2 := fun b n d => real_of_allSmall Facts.bcast_S_S3x1024x256 Facts.reducesTo_S3x1024x256_S_d0_1_2 x8 ((out8 x0 x1 x2 x3 x4 x5 x6 x7 x8 x9 x10).symm.trans h8) (ix3 b n d)
    b2 := fun b d => real_of_allSmall Facts.bcast_S_S3x256 Facts.reducesTo_S3x256_S_d0_1 x9 ((out9 x0 x1 x2 x3 x4 x5 x6 x7 x8 x9 x10).symm.trans h9) (ix2 b d)
    gates := fun i => real_of_allSmall Facts.bcast_S_S4 Facts.reducesTo_S4_S_d0 x10 ((out10 x0 x1 x2 x3 x4 x5 x6 x7 x8 x9 x10).symm.trans h10) (ix1 i) }

/-- Under the precondition the reference's result is the model's latent after the last layer. -/
theorem reference_apply (b : Fin 8) (n : Fin 512) (d : Fin 256) :
    (val_main_v365 (F := Ideal) x0 x1 x2 x3 x4 x5 x6 x7 x8 x9 x10 (ix3 b n d) : EReal) = (latentAfter (inputs x0 x1 x2 x3 x4 x5 x6 x7 x8 x9 x10) b 3 n d : EReal) := by
  have hr := reads x0 x1 x2 x3 x4 x5 x6 x7 x8 x9 x10 h
  obtain ⟨_, _, _, _, _, _, _, _, _, _, _, h11, h12, h13, h14⟩ := h
  exact result_apply x0 x1 x2 x3 x4 x5 x6 x7 x8 x9 x10 _ hr ((out11 x0 x1 x2 x3 x4 x5 x6 x7 x8 x9 x10).symm.trans h11) ((out12 x0 x1 x2 x3 x4 x5 x6 x7 x8 x9 x10).symm.trans h12)
    ((out13 x0 x1 x2 x3 x4 x5 x6 x7 x8 x9 x10).symm.trans h13) ((out14 x0 x1 x2 x3 x4 x5 x6 x7 x8 x9 x10).symm.trans h14) b n d
end

/-- Under the precondition the kernel's result array is the reference's. -/
theorem agree (m : (ℓ : Loc Cert.KernelIdeal.nD Cert.KernelIdeal.τ Cert.KernelIdeal.sig) → Buf (Elt Ideal) ℓ)
    (h : Cert.Pre_KernelIdeal_clear_neighbours m) (c : Dev Cert.KernelIdeal.nD) :
    val_main_v365 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      = Cert.KernelIdeal.Value.G11 m c := by
  funext j
  rw [eq_ix3 j]
  have hr := reads (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (h c)
  have hk : Cert.KernelIdeal.Step.Holds m c (inputs (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) :=
    ⟨hr.latent, hr.x, hr.wq, hr.wk, hr.wv, hr.wo, hr.w1, hr.b1, hr.w2, hr.b2, hr.gates⟩
  exact (reference_apply (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (h c) (j 0) (j 1) (j 2)).trans (Cert.KernelIdeal.Step.array_eq m c _ hk (j 0) (j 1) (j 2)).symm

end Cert.Outputs
-- ==== Proof.Algebraic.lean ====
-- The kernel and the reference, run from the same arguments, end with the same result.
module

public import proofs.«01_k».proof.Proof.Outputs

@[expose] public section

noncomputable section

namespace Cert.Outputs

open Idealize.ShloMosaic Idealize.SL.Sem

/-- From equal arguments under the precondition, both programs end, with equal results and their arguments
unchanged. -/
theorem algebraic : Cert.algebraic_KernelIdeal_ReferenceIdeal_pre_clear_neighbours := by
  intro m g m' g' hpre hargs
  refine ⟨fun c => Cert.KernelIdeal.Value.G11 m c, Cert.KernelIdeal.Value.run m g, ?_⟩
  refine (θ_run Cert.ReferenceIdeal.defs _ _).mono (fun r hr c => ⟨(hr c).1.trans ?_, (hr c).2⟩)
    (Cert.ReferenceIdeal.Value.run (F := Ideal) m' g')
  refine (Cert.ReferenceIdeal.Read.val_main_v365_eq (StableHlo.launchContents m' c)).trans ?_
  obtain ⟨a0, a1, a2, a3, a4, a5, a6, a7, a8, a9, a10⟩ := hargs c
  refine Eq.trans ?_ (agree m hpre c)
  rw [← a0, ← a1, ← a2, ← a3, ← a4, ← a5, ← a6, ← a7, ← a8, ← a9, ← a10]

end Cert.Outputs
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. The two frames under the precondition follow from the frames without it. -/
theorem claim : Cert.Claim := ⟨Cert.Kernel.Gen.facts, Cert.KernelIdeal.Gen.facts, Cert.ReferenceIdeal.Gen.facts,
  Cert.Pre_clear_neighbours.sideConditions,
  Cert.Frames.frame_p, Cert.Frames.frame_pi, fun m g _ => Cert.Frames.frame_pi m g trivial,
  Cert.Frames.frame_ri, fun m g _ => Cert.Frames.frame_ri m g trivial,
  Cert.Frames.preserves, Cert.Outputs.algebraic⟩

end Cert.Proof

end
